-- ==== Defs.lean ====
def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdRefIdeal (m : (ℓ : Loc Cert.SsdRefIdeal.nD Cert.SsdRefIdeal.τ Cert.SsdRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Gdn (m : (ℓ : Loc Cert.Gdn.nD Cert.Gdn.τ Cert.Gdn.sig) → Buf (Elt Bits) ℓ) : Prop :=
  True

def Pre_GdnIdeal (m : (ℓ : Loc Cert.GdnIdeal.nD Cert.GdnIdeal.τ Cert.GdnIdeal.sig) → Buf (Elt Ideal) ℓ) : Prop :=
  True

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6)
      ∧ r.2.mem ((c.tc : Thread Cert.Ssd.nD Cert.Ssd.τ).loc Cert.Ssd.main_arg7) = m ((c.tc : Thread Cert.Ssd.nD Cert.Ssd.τ).loc Cert.Ssd.main_arg7)
      ∧ r.2.mem ((c.tc : Thread Cert.Ssd.nD Cert.Ssd.τ).loc Cert.Ssd.main_arg8) = m ((c.tc : Thread Cert.Ssd.nD Cert.Ssd.τ).loc Cert.Ssd.main_arg8))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
      ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6)
      ∧ r.2.mem ((c.tc : Thread Cert.SsdRefIdeal.nD Cert.SsdRefIdeal.τ).loc Cert.SsdRefIdeal.main_arg7) = m ((c.tc : Thread Cert.SsdRefIdeal.nD Cert.SsdRefIdeal.τ).loc Cert.SsdRefIdeal.main_arg7)
      ∧ r.2.mem ((c.tc : Thread Cert.SsdRefIdeal.nD Cert.SsdRefIdeal.τ).loc Cert.SsdRefIdeal.main_arg8) = m ((c.tc : Thread Cert.SsdRefIdeal.nD Cert.SsdRefIdeal.τ).loc Cert.SsdRefIdeal.main_arg8))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4))
      ∧ r.2.sem = fun _ => 0)

def quiescent_Gdn [hGdn : Cert.Gdn.Facts] : Prop :=
  ∀ (m : (ℓ : Loc Cert.Gdn.nD Cert.Gdn.τ Cert.Gdn.sig) → Buf (Elt Bits) ℓ) (g : Dev Cert.Gdn.nD → PrngReg), Pre_Gdn m →
    θ_run (Cert.Gdn.defs (F := Bits)) (onTc (τ := Cert.Gdn.τ) (Cert.Gdn.main (F := Bits))) ⟨m, fun _ => 0, g⟩ (fun r => (∀ c : Dev Cert.Gdn.nD,
      r.2.mem ((c.tc : Thread Cert.Gdn.nD Cert.Gdn.τ).loc Cert.Gdn.main_arg0) = m ((c.tc : Thread Cert.Gdn.nD Cert.Gdn.τ).loc Cert.Gdn.main_arg0)
      ∧ r.2.mem ((c.tc : Thread Cert.Gdn.nD Cert.Gdn.τ).loc Cert.Gdn.main_arg1) = m ((c.tc : Thread Cert.Gdn.nD Cert.Gdn.τ).loc Cert.Gdn.main_arg1)
      ∧ r.2.mem ((c.tc : Thread Cert.Gdn.nD Cert.Gdn.τ).loc Cert.Gdn.main_arg2) = m ((c.tc : Thread Cert.Gdn.nD Cert.Gdn.τ).loc Cert.Gdn.main_arg2)
      ∧ r.2.mem ((c.tc : Thread Cert.Gdn.nD Cert.Gdn.τ).loc Cert.Gdn.main_arg3) = m ((c.tc : Thread Cert.Gdn.nD Cert.Gdn.τ).loc Cert.Gdn.main_arg3)
      ∧ r.2.mem ((c.tc : Thread Cert.Gdn.nD Cert.Gdn.τ).loc Cert.Gdn.main_arg4) = m ((c.tc : Thread Cert.Gdn.nD Cert.Gdn.τ).loc Cert.Gdn.main_arg4)
      ∧ r.2.mem ((c.tc : Thread Cert.Gdn.nD Cert.Gdn.τ).loc Cert.Gdn.main_arg5) = m ((c.tc : Thread Cert.Gdn.nD Cert.Gdn.τ).loc Cert.Gdn.main_arg5)
      ∧ r.2.mem ((c.tc : Thread Cert.Gdn.nD Cert.Gdn.τ).loc Cert.Gdn.main_arg6) = m ((c.tc : Thread Cert.Gdn.nD Cert.Gdn.τ).loc Cert.Gdn.main_arg6))
      ∧ r.2.sem = fun _ => 0)

def quiescent_GdnIdeal [hGdnIdeal : Cert.GdnIdeal.Facts] : Prop :=
  ∀ (m : (ℓ : Loc Cert.GdnIdeal.nD Cert.GdnIdeal.τ Cert.GdnIdeal.sig) → Buf (Elt Ideal) ℓ) (g : Dev Cert.GdnIdeal.nD → PrngReg), Pre_GdnIdeal m →
    θ_run (Cert.GdnIdeal.defs (F := Ideal)) (onTc (τ := Cert.GdnIdeal.τ) (Cert.GdnIdeal.main (F := Ideal))) ⟨m, fun _ => 0, g⟩ (fun r => (∀ c : Dev Cert.GdnIdeal.nD,
      r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
      ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
      ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
      ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
      ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4)
      ∧ r.2.mem ((c.tc : Thread Cert.GdnIdeal.nD Cert.GdnIdeal.τ).loc Cert.GdnIdeal.main_arg5) = m ((c.tc : Thread Cert.GdnIdeal.nD Cert.GdnIdeal.τ).loc Cert.GdnIdeal.main_arg5)
      ∧ r.2.mem ((c.tc : Thread Cert.GdnIdeal.nD Cert.GdnIdeal.τ).loc Cert.GdnIdeal.main_arg6) = m ((c.tc : Thread Cert.GdnIdeal.nD Cert.GdnIdeal.τ).loc Cert.GdnIdeal.main_arg6))
      ∧ r.2.sem = fun _ => 0)

def preserves_Ssd_SsdIdeal : Prop :=
  True

def algebraic_SsdIdeal_SsdRefIdeal [hSsdIdeal : Cert.SsdIdeal.Facts] [hSsdRefIdeal : Cert.SsdRefIdeal.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)
      ∧ m' ((c.tc : Thread Cert.SsdRefIdeal.nD Cert.SsdRefIdeal.τ).loc Cert.SsdRefIdeal.main_arg3) = m ((c.tc : Thread Cert.SsdIdeal.nD Cert.SsdIdeal.τ).loc Cert.SsdIdeal.main_arg3)
      ∧ m' ((c.tc : Thread Cert.SsdRefIdeal.nD Cert.SsdRefIdeal.τ).loc Cert.SsdRefIdeal.main_arg4) = m ((c.tc : Thread Cert.SsdIdeal.nD Cert.SsdIdeal.τ).loc Cert.SsdIdeal.main_arg4)
      ∧ m' ((c.tc : Thread Cert.SsdRefIdeal.nD Cert.SsdRefIdeal.τ).loc Cert.SsdRefIdeal.main_arg5) = m ((c.tc : Thread Cert.SsdIdeal.nD Cert.SsdIdeal.τ).loc Cert.SsdIdeal.main_arg5)
      ∧ m' ((c.tc : Thread Cert.SsdRefIdeal.nD Cert.SsdRefIdeal.τ).loc Cert.SsdRefIdeal.main_arg6) = m ((c.tc : Thread Cert.SsdIdeal.nD Cert.SsdIdeal.τ).loc Cert.SsdIdeal.main_arg6)
      ∧ m' ((c.tc : Thread Cert.SsdRefIdeal.nD Cert.SsdRefIdeal.τ).loc Cert.SsdRefIdeal.main_arg7) = m ((c.tc : Thread Cert.SsdIdeal.nD Cert.SsdIdeal.τ).loc Cert.SsdIdeal.main_arg7)
      ∧ m' ((c.tc : Thread Cert.SsdRefIdeal.nD Cert.SsdRefIdeal.τ).loc Cert.SsdRefIdeal.main_arg8) = m ((c.tc : Thread Cert.SsdIdeal.nD Cert.SsdIdeal.τ).loc Cert.SsdIdeal.main_arg8)) →
    ∃ (v0 : (c : Dev Cert.SsdIdeal.nD) → Buf (Elt Ideal) ((c.tc : Thread Cert.SsdIdeal.nD Cert.SsdIdeal.τ).loc Cert.SsdIdeal.main_v57)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v57) = v0 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
          ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
          ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
          ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v131) = v0 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3)
          ∧ r.2.mem ((c.tc : Thread Cert.SsdRefIdeal.nD Cert.SsdRefIdeal.τ).loc Cert.SsdRefIdeal.main_arg4) = m' ((c.tc : Thread Cert.SsdRefIdeal.nD Cert.SsdRefIdeal.τ).loc Cert.SsdRefIdeal.main_arg4)
          ∧ r.2.mem ((c.tc : Thread Cert.SsdRefIdeal.nD Cert.SsdRefIdeal.τ).loc Cert.SsdRefIdeal.main_arg5) = m' ((c.tc : Thread Cert.SsdRefIdeal.nD Cert.SsdRefIdeal.τ).loc Cert.SsdRefIdeal.main_arg5)
          ∧ r.2.mem ((c.tc : Thread Cert.SsdRefIdeal.nD Cert.SsdRefIdeal.τ).loc Cert.SsdRefIdeal.main_arg6) = m' ((c.tc : Thread Cert.SsdRefIdeal.nD Cert.SsdRefIdeal.τ).loc Cert.SsdRefIdeal.main_arg6)
          ∧ r.2.mem ((c.tc : Thread Cert.SsdRefIdeal.nD Cert.SsdRefIdeal.τ).loc Cert.SsdRefIdeal.main_arg7) = m' ((c.tc : Thread Cert.SsdRefIdeal.nD Cert.SsdRefIdeal.τ).loc Cert.SsdRefIdeal.main_arg7)
          ∧ r.2.mem ((c.tc : Thread Cert.SsdRefIdeal.nD Cert.SsdRefIdeal.τ).loc Cert.SsdRefIdeal.main_arg8) = m' ((c.tc : Thread Cert.SsdRefIdeal.nD Cert.SsdRefIdeal.τ).loc Cert.SsdRefIdeal.main_arg8))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v13_0)) (v1 : (c : Dev Cert.InprojIdeal.nD) → Buf (Elt Ideal) ((c.tc : Thread Cert.InprojIdeal.nD Cert.InprojIdeal.τ).loc Cert.InprojIdeal.main_v13_1)) (v2 : (c : Dev Cert.InprojIdeal.nD) → Buf (Elt Ideal) ((c.tc : Thread Cert.InprojIdeal.nD Cert.InprojIdeal.τ).loc Cert.InprojIdeal.main_v13_2)) (v3 : (c : Dev Cert.InprojIdeal.nD) → Buf (Elt Ideal) ((c.tc : Thread Cert.InprojIdeal.nD Cert.InprojIdeal.τ).loc Cert.InprojIdeal.main_v13_3)) (v4 : (c : Dev Cert.InprojIdeal.nD) → Buf (Elt Ideal) ((c.tc : Thread Cert.InprojIdeal.nD Cert.InprojIdeal.τ).loc Cert.InprojIdeal.main_v13_4)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v13_0) = v0 c
          ∧ r.2.mem ((c.tc : Thread Cert.InprojIdeal.nD Cert.InprojIdeal.τ).loc Cert.InprojIdeal.main_v13_1) = v1 c
          ∧ r.2.mem ((c.tc : Thread Cert.InprojIdeal.nD Cert.InprojIdeal.τ).loc Cert.InprojIdeal.main_v13_2) = v2 c
          ∧ r.2.mem ((c.tc : Thread Cert.InprojIdeal.nD Cert.InprojIdeal.τ).loc Cert.InprojIdeal.main_v13_3) = v3 c
          ∧ r.2.mem ((c.tc : Thread Cert.InprojIdeal.nD Cert.InprojIdeal.τ).loc Cert.InprojIdeal.main_v13_4) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v23) = v0 c
          ∧ r.2.mem ((c.tc : Thread Cert.InprojRefIdeal.nD Cert.InprojRefIdeal.τ).loc Cert.InprojRefIdeal.main_v24) = v1 c
          ∧ r.2.mem ((c.tc : Thread Cert.InprojRefIdeal.nD Cert.InprojRefIdeal.τ).loc Cert.InprojRefIdeal.main_v25) = v2 c
          ∧ r.2.mem ((c.tc : Thread Cert.InprojRefIdeal.nD Cert.InprojRefIdeal.τ).loc Cert.InprojRefIdeal.main_v26) = v3 c
          ∧ r.2.mem ((c.tc : Thread Cert.InprojRefIdeal.nD Cert.InprojRefIdeal.τ).loc Cert.InprojRefIdeal.main_v27) = v4 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)) →
    ∃ (v0 : (c : Dev Cert.OutprojIdeal.nD) → Buf (Elt Ideal) ((c.tc : Thread Cert.OutprojIdeal.nD Cert.OutprojIdeal.τ).loc Cert.OutprojIdeal.main_v3)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v3) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v18) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4))

def preserves_Gdn_GdnIdeal : Prop :=
  True

def Claim : Prop :=
  ∃ (hSsd : Cert.Ssd.Facts) (hSsdIdeal : Cert.SsdIdeal.Facts) (hSsdRefIdeal : Cert.SsdRefIdeal.Facts) (hInproj : Cert.Inproj.Facts) (hInprojIdeal : Cert.InprojIdeal.Facts) (hInprojRefIdeal : Cert.InprojRefIdeal.Facts) (hOutproj : Cert.Outproj.Facts) (hOutprojIdeal : Cert.OutprojIdeal.Facts) (hOutprojRefIdeal : Cert.OutprojRefIdeal.Facts) (hGdn : Cert.Gdn.Facts) (hGdnIdeal : Cert.GdnIdeal.Facts),
    quiescent_Ssd (hSsd := hSsd)
    ∧ quiescent_SsdIdeal (hSsdIdeal := hSsdIdeal)
    ∧ quiescent_SsdRefIdeal (hSsdRefIdeal := hSsdRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Gdn (hGdn := hGdn)
    ∧ quiescent_GdnIdeal (hGdnIdeal := hGdnIdeal)
    ∧ preserves_Ssd_SsdIdeal
    ∧ algebraic_SsdIdeal_SsdRefIdeal (hSsdIdeal := hSsdIdeal) (hSsdRefIdeal := hSsdRefIdeal)
    ∧ preserves_Inproj_InprojIdeal
    ∧ algebraic_InprojIdeal_InprojRefIdeal (hInprojIdeal := hInprojIdeal) (hInprojRefIdeal := hInprojRefIdeal)
    ∧ preserves_Outproj_OutprojIdeal
    ∧ algebraic_OutprojIdeal_OutprojRefIdeal (hOutprojIdeal := hOutprojIdeal) (hOutprojRefIdeal := hOutprojRefIdeal)
    ∧ preserves_Gdn_GdnIdeal
-- ==== Ssd.lean ====
abbrev S16384x1024 : Shape := ⟨2, ![16384, 1024]⟩
abbrev S16384x1536 : Shape := ⟨2, ![16384, 1536]⟩
abbrev S16384x128 : Shape := ⟨2, ![16384, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S1x1536 : Shape := ⟨2, ![1, 1536]⟩
abbrev S_ : Shape := ⟨0, ![]⟩
abbrev S1x128 : Shape := ⟨2, ![1, 128]⟩
abbrev S1 : Shape := ⟨1, ![1]⟩
abbrev S2 : Shape := ⟨1, ![2]⟩
abbrev S16x64 : Shape := ⟨2, ![16, 64]⟩
abbrev S1x1024 : Shape := ⟨2, ![1, 1024]⟩
abbrev S64 : Shape := ⟨1, ![64]⟩
abbrev S128 : Shape := ⟨1, ![128]⟩
abbrev S128x1 : Shape := ⟨2, ![128, 1]⟩
abbrev S128x1024 : Shape := ⟨2, ![128, 1024]⟩
abbrev S64x1 : Shape := ⟨2, ![64, 1]⟩
abbrev S1x64 : Shape := ⟨2, ![1, 64]⟩
abbrev S64x64 : Shape := ⟨2, ![64, 64]⟩
abbrev S64x1024 : Shape := ⟨2, ![64, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S256x1024 : Shape := ⟨2, ![256, 1024]⟩
abbrev S256x1536 : Shape := ⟨2, ![256, 1536]⟩
abbrev S256x128 : Shape := ⟨2, ![256, 128]⟩
abbrev S264x1536 : Shape := ⟨2, ![264, 1536]⟩
abbrev S2x128x512 : Shape := ⟨3, ![2, 128, 512]⟩
abbrev S8x1536 : Shape := ⟨2, ![8, 1536]⟩
abbrev S64x1536 : Shape := ⟨2, ![64, 1536]⟩
abbrev S64x256 : Shape := ⟨2, ![64, 256]⟩
abbrev S64x128 : Shape := ⟨2, ![64, 128]⟩
abbrev S512x128 : Shape := ⟨2, ![512, 128]⟩
abbrev S64x512 : Shape := ⟨2, ![64, 512]⟩
abbrev S1x128x512 : Shape := ⟨3, ![1, 128, 512]⟩
abbrev S128x512 : Shape := ⟨2, ![128, 512]⟩
abbrev S1x512 : Shape := ⟨2, ![1, 512]⟩

abbrev nBuf : Space → Nat
  | .hbm => 170
  | .vmem => 21
  | .smem => 0
  | _ => 0

abbrev hbmTy0_0 (i : Nat) : BufTy := match i % 128 with
  | 0 => ⟨S16384x1024, .f32⟩
  | 1 => ⟨S16384x1536, .f32⟩
  | 2 => ⟨S16384x128, .f32⟩
  | 3 => ⟨S4x1536, .f32⟩
  | 4 => ⟨S1536, .f32⟩
  | 5 => ⟨S16, .f32⟩
  | 6 => ⟨S16, .f32⟩
  | 7 => ⟨S16, .f32⟩
  | 8 => ⟨S1024, .f32⟩
  | 9 => ⟨S1x1536, .f32⟩
  | 10 => ⟨S_, .f32⟩
  | 11 => ⟨S1x128, .f32⟩
  | 12 => ⟨S_, .i32⟩
  | 13 => ⟨S1, .i32⟩
  | 14 => ⟨S_, .i32⟩
  | 15 => ⟨S1, .i32⟩
  | 16 => ⟨S2, .i32⟩
  | 17 => ⟨S1x128, .f32⟩
  | 18 => ⟨S16, .f32⟩
  | 19 => ⟨S16, .f32⟩
  | 20 => ⟨S_, .f32⟩
  | 21 => ⟨S1x128, .f32⟩
  | 22 => ⟨S_, .i32⟩
  | 23 => ⟨S1, .i32⟩
  | 24 => ⟨S_, .i32⟩
  | 25 => ⟨S1, .i32⟩
  | 26 => ⟨S2, .i32⟩
  | 27 => ⟨S1x128, .f32⟩
  | 28 => ⟨S16x64, .f32⟩
  | 29 => ⟨S1024, .f32⟩
  | 30 => ⟨S1x1024, .f32⟩
  | 31 => ⟨S1x1024, .f32⟩
  | 32 => ⟨S1024, .i32⟩
  | 33 => ⟨S64, .i32⟩
  | 34 => ⟨S128, .i32⟩
  | 35 => ⟨S128x1, .i32⟩
  | 36 => ⟨S_, .i32⟩
  | 37 => ⟨S_, .i32⟩
  | 38 => ⟨S1024, .i32⟩
  | 39 => ⟨S1024, .i32⟩
  | 40 => ⟨S1024, .i32⟩
  | 41 => ⟨S_, .i32⟩
  | 42 => ⟨S1024, .i32⟩
  | 43 => ⟨S1024, .i1⟩
  | 44 => ⟨S1024, .i32⟩
  | 45 => ⟨S1024, .i32⟩
  | 46 => ⟨S_, .i32⟩
  | 47 => ⟨S1024, .i32⟩
  | 48 => ⟨S1024, .i1⟩
  | 49 => ⟨S1024, .i1⟩
  | 50 => ⟨S_, .i32⟩
  | 51 => ⟨S1024, .i32⟩
  | 52 => ⟨S1024, .i32⟩
  | 53 => ⟨S1024, .i32⟩
  | 54 => ⟨S1x1024, .i32⟩
  | 55 => ⟨S128x1024, .i32⟩
  | 56 => ⟨S128x1024, .i32⟩
  | 57 => ⟨S128x1024, .i1⟩
  | 58 => ⟨S128x1024, .f32⟩
  | 59 => ⟨S64x1, .i32⟩
  | 60 => ⟨S1x64, .i32⟩
  | 61 => ⟨S64x64, .i32⟩
  | 62 => ⟨S64x64, .i32⟩
  | 63 => ⟨S64x64, .i1⟩
  | 64 => ⟨S64x64, .f32⟩
  | 65 => ⟨S64x1, .i32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S1024, .i32⟩
  | 73 => ⟨S1024, .i32⟩
  | 74 => ⟨S_, .i32⟩
  | 75 => ⟨S1024, .i32⟩
  | 76 => ⟨S1024, .i1⟩
  | 77 => ⟨S_, .i32⟩
  | 78 => ⟨S1024, .i32⟩
  | 79 => ⟨S1024, .i1⟩
  | 80 => ⟨S_, .i32⟩
  | 81 => ⟨S_, .i1⟩
  | 82 => ⟨S1024, .i1⟩
  | 83 => ⟨S1024, .i1⟩
  | 84 => ⟨S1024, .i1⟩
  | 85 => ⟨S1024, .i32⟩
  | 86 => ⟨S1024, .i32⟩
  | 87 => ⟨S1024, .i32⟩
  | 88 => ⟨S1x1024, .i32⟩
  | 89 => ⟨S64x1024, .i32⟩
  | 90 => ⟨S64x1024, .i32⟩
  | 91 => ⟨S64x1024, .i1⟩
  | 92 => ⟨S64x1024, .f32⟩
  | 93 => ⟨S64x1, .i32⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S1024, .i32⟩
  | 101 => ⟨S1024, .i32⟩
  | 102 => ⟨S_, .i32⟩
  | 103 => ⟨S1024, .i32⟩
  | 104 => ⟨S1024, .i1⟩
  | 105 => ⟨S_, .i32⟩
  | 106 => ⟨S1024, .i32⟩
  | 107 => ⟨S1024, .i1⟩
  | 108 => ⟨S_, .i32⟩
  | 109 => ⟨S_, .i1⟩
  | 110 => ⟨S1024, .i1⟩
  | 111 => ⟨S1024, .i1⟩
  | 112 => ⟨S1024, .i1⟩
  | 113 => ⟨S1024, .i32⟩
  | 114 => ⟨S1024, .i32⟩
  | 115 => ⟨S1024, .i32⟩
  | 116 => ⟨S1x1024, .i32⟩
  | 117 => ⟨S64x1024, .i32⟩
  | 118 => ⟨S64x1024, .i32⟩
  | 119 => ⟨S64x1024, .i1⟩
  | 120 => ⟨S_, .f32⟩
  | 121 => ⟨S_, .f32⟩
  | 122 => ⟨S64x1024, .f32⟩
  | 123 => ⟨S64x1024, .f32⟩
  | 124 => ⟨S64x1024, .f32⟩
  | 125 => ⟨S64x1024, .f32⟩
  | 126 => ⟨S256, .i32⟩
  | 127 => ⟨S256x1, .i32⟩
  | _ => ⟨S16384x1024, .f32⟩

abbrev hbmTy0_1 (i : Nat) : BufTy := match i % 128 with
  | 0 => ⟨S_, .i32⟩
  | 1 => ⟨S_, .i32⟩
  | 2 => ⟨S256x1, .i32⟩
  | 3 => ⟨S256x1, .i32⟩
  | 4 => ⟨S256x1, .i32⟩
  | 5 => ⟨S_, .i32⟩
  | 6 => ⟨S256x1, .i32⟩
  | 7 => ⟨S256x1, .i1⟩
  | 8 => ⟨S256x1, .i32⟩
  | 9 => ⟨S256x1, .i32⟩
  | 10 => ⟨S_, .i32⟩
  | 11 => ⟨S256x1, .i32⟩
  | 12 => ⟨S256x1, .i1⟩
  | 13 => ⟨S256x1, .i1⟩
  | 14 => ⟨S_, .i32⟩
  | 15 => ⟨S256x1, .i32⟩
  | 16 => ⟨S256x1, .i32⟩
  | 17 => ⟨S256x1, .i32⟩
  | 18 => ⟨S1x256, .i32⟩
  | 19 => ⟨S_, .i32⟩
  | 20 => ⟨S_, .i32⟩
  | 21 => ⟨S1x256, .i32⟩
  | 22 => ⟨S1x256, .i32⟩
  | 23 => ⟨S1x256, .i32⟩
  | 24 => ⟨S_, .i32⟩
  | 25 => ⟨S1x256, .i32⟩
  | 26 => ⟨S1x256, .i1⟩
  | 27 => ⟨S1x256, .i32⟩
  | 28 => ⟨S1x256, .i32⟩
  | 29 => ⟨S_, .i32⟩
  | 30 => ⟨S1x256, .i32⟩
  | 31 => ⟨S1x256, .i1⟩
  | 32 => ⟨S1x256, .i1⟩
  | 33 => ⟨S_, .i32⟩
  | 34 => ⟨S1x256, .i32⟩
  | 35 => ⟨S1x256, .i32⟩
  | 36 => ⟨S1x256, .i32⟩
  | 37 => ⟨S256x256, .i32⟩
  | 38 => ⟨S256x256, .i32⟩
  | 39 => ⟨S256x256, .i1⟩
  | 40 => ⟨S256x256, .f32⟩
  | 41 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1536, .f32⟩
  | .local _ .vmem, ⟨3, _⟩ => ⟨S256x1536, .f32⟩
  | .local _ .vmem, ⟨4, _⟩ => ⟨S256x128, .f32⟩
  | .local _ .vmem, ⟨5, _⟩ => ⟨S256x128, .f32⟩
  | .local _ .vmem, ⟨6, _⟩ => ⟨S4x1536, .f32⟩
  | .local _ .vmem, ⟨7, _⟩ => ⟨S1x1536, .f32⟩
  | .local _ .vmem, ⟨8, _⟩ => ⟨S1x128, .f32⟩
  | .local _ .vmem, ⟨9, _⟩ => ⟨S1x128, .f32⟩
  | .local _ .vmem, ⟨10, _⟩ => ⟨S1x1024, .f32⟩
  | .local _ .vmem, ⟨11, _⟩ => ⟨S1x1024, .f32⟩
  | .local _ .vmem, ⟨12, _⟩ => ⟨S128x1024, .f32⟩
  | .local _ .vmem, ⟨13, _⟩ => ⟨S64x64, .f32⟩
  | .local _ .vmem, ⟨14, _⟩ => ⟨S64x1024, .f32⟩
  | .local _ .vmem, ⟨15, _⟩ => ⟨S64x1024, .f32⟩
  | .local _ .vmem, ⟨16, _⟩ => ⟨S256x256, .f32⟩
  | .local _ .vmem, ⟨17, _⟩ => ⟨S256x1024, .f32⟩
  | .local _ .vmem, ⟨18, _⟩ => ⟨S256x1024, .f32⟩
  | .local _ .vmem, ⟨19, _⟩ => ⟨S264x1536, .f32⟩
  | .local _ .vmem, ⟨20, _⟩ => ⟨S2x128x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_c : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_0 : Ref sig .tc := ⟨.hbm, 50, rfl⟩
abbrev main_call0_v12 : Ref sig .tc := ⟨.hbm, 51, rfl⟩
abbrev main_call0_v13 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_c_5 : Ref sig .tc := ⟨.hbm, 66, rfl⟩
abbrev main_call1_v0 : Ref sig .tc := ⟨.hbm, 67, rfl⟩
abbrev main_call1_c : Ref sig .tc := ⟨.hbm, 68, rfl⟩
abbrev main_call1_v1 : Ref sig .tc := ⟨.hbm, 69, rfl⟩
abbrev main_call1_c_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_c_1 : Ref sig .tc := ⟨.hbm, 74, rfl⟩
abbrev main_call1_v5 : Ref sig .tc := ⟨.hbm, 75, rfl⟩
abbrev main_call1_v6 : Ref sig .tc := ⟨.hbm, 76, rfl⟩
abbrev main_call1_c_2 : Ref sig .tc := ⟨.hbm, 77, rfl⟩
abbrev main_call1_v7 : Ref sig .tc := ⟨.hbm, 78, rfl⟩
abbrev main_call1_v8 : Ref sig .tc := ⟨.hbm, 79, rfl⟩
abbrev main_call1_c_3 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_v12 : Ref sig .tc := ⟨.hbm, 84, rfl⟩
abbrev main_call1_v13 : Ref sig .tc := ⟨.hbm, 85, rfl⟩
abbrev main_call1_v14 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_c_6 : Ref sig .tc := ⟨.hbm, 94, rfl⟩
abbrev main_call2_v0 : Ref sig .tc := ⟨.hbm, 95, rfl⟩
abbrev main_call2_c : Ref sig .tc := ⟨.hbm, 96, rfl⟩
abbrev main_call2_v1 : Ref sig .tc := ⟨.hbm, 97, rfl⟩
abbrev main_call2_c_0 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_call2_c_1 : Ref sig .tc := ⟨.hbm, 102, rfl⟩
abbrev main_call2_v5 : Ref sig .tc := ⟨.hbm, 103, rfl⟩
abbrev main_call2_v6 : Ref sig .tc := ⟨.hbm, 104, rfl⟩
abbrev main_call2_c_2 : Ref sig .tc := ⟨.hbm, 105, rfl⟩
abbrev main_call2_v7 : Ref sig .tc := ⟨.hbm, 106, rfl⟩
abbrev main_call2_v8 : Ref sig .tc := ⟨.hbm, 107, rfl⟩
abbrev main_call2_c_3 : Ref sig .tc := ⟨.hbm, 108, rfl⟩
abbrev main_call2_v9 : Ref sig .tc := ⟨.hbm, 109, rfl⟩
abbrev main_call2_v10 : Ref sig .tc := ⟨.hbm, 110, rfl⟩
abbrev main_call2_v11 : Ref sig .tc := ⟨.hbm, 111, rfl⟩
abbrev main_call2_v12 : Ref sig .tc := ⟨.hbm, 112, rfl⟩
abbrev main_call2_v13 : Ref sig .tc := ⟨.hbm, 113, rfl⟩
abbrev main_call2_v14 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_v45 : Ref sig .tc := ⟨.hbm, 119, rfl⟩
abbrev main_cst_7 : Ref sig .tc := ⟨.hbm, 120, rfl⟩
abbrev main_cst_8 : Ref sig .tc := ⟨.hbm, 121, rfl⟩
abbrev main_call3_v0 : Ref sig .tc := ⟨.hbm, 122, rfl⟩
abbrev main_call3_v1 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev main_c_9 : Ref sig .tc := ⟨.hbm, 128, rfl⟩
abbrev main_call4_v0 : Ref sig .tc := ⟨.hbm, 129, rfl⟩
abbrev main_call4_v1 : Ref sig .tc := ⟨.hbm, 130, rfl⟩
abbrev main_call4_v2 : Ref sig .tc := ⟨.hbm, 131, rfl⟩
abbrev main_call4_v3 : Ref sig .tc := ⟨.hbm, 132, rfl⟩
abbrev main_call4_v4 : Ref sig .tc := ⟨.hbm, 133, rfl⟩
abbrev main_call4_v5 : Ref sig .tc := ⟨.hbm, 134, rfl⟩
abbrev main_call4_v6 : Ref sig .tc := ⟨.hbm, 135, rfl⟩
abbrev main_call4_v7 : Ref sig .tc := ⟨.hbm, 136, rfl⟩
abbrev main_call4_v8 : Ref sig .tc := ⟨.hbm, 137, rfl⟩
abbrev main_call4_c : Ref sig .tc := ⟨.hbm, 138, rfl⟩
abbrev main_call4_v9 : Ref sig .tc := ⟨.hbm, 139, rfl⟩
abbrev main_call4_v10 : Ref sig .tc := ⟨.hbm, 140, rfl⟩
abbrev main_call4_v11 : Ref sig .tc := ⟨.hbm, 141, rfl⟩
abbrev main_call4_c_0 : Ref sig .tc := ⟨.hbm, 142, rfl⟩
abbrev main_call4_v12 : Ref sig .tc := ⟨.hbm, 143, rfl⟩
abbrev main_call4_v13 : Ref sig .tc := ⟨.hbm, 144, rfl⟩
abbrev main_v50 : Ref sig .tc := ⟨.hbm, 145, rfl⟩
abbrev main_v51 : Ref sig .tc := ⟨.hbm, 146, rfl⟩
abbrev main_c_10 : Ref sig .tc := ⟨.hbm, 147, rfl⟩
abbrev main_call5_v0 : Ref sig .tc := ⟨.hbm, 148, rfl⟩
abbrev main_call5_v1 : Ref sig .tc := ⟨.hbm, 149, rfl⟩
abbrev main_call5_v2 : Ref sig .tc := ⟨.hbm, 150, rfl⟩
abbrev main_call5_v3 : Ref sig .tc := ⟨.hbm, 151, rfl⟩
abbrev main_call5_v4 : Ref sig .tc := ⟨.hbm, 152, rfl⟩
abbrev main_call5_v5 : Ref sig .tc := ⟨.hbm, 153, rfl⟩
abbrev main_call5_v6 : Ref sig .tc := ⟨.hbm, 154, rfl⟩
abbrev main_call5_v7 : Ref sig .tc := ⟨.hbm, 155, rfl⟩
abbrev main_call5_v8 : Ref sig .tc := ⟨.hbm, 156, rfl⟩
abbrev main_call5_c : Ref sig .tc := ⟨.hbm, 157, rfl⟩
abbrev main_call5_v9 : Ref sig .tc := ⟨.hbm, 158, rfl⟩
abbrev main_call5_v10 : Ref sig .tc := ⟨.hbm, 159, rfl⟩
abbrev main_call5_v11 : Ref sig .tc := ⟨.hbm, 160, rfl⟩
abbrev main_call5_c_0 : Ref sig .tc := ⟨.hbm, 161, rfl⟩
abbrev main_call5_v12 : Ref sig .tc := ⟨.hbm, 162, rfl⟩
abbrev main_call5_v13 : Ref sig .tc := ⟨.hbm, 163, rfl⟩
abbrev main_v52 : Ref sig .tc := ⟨.hbm, 164, rfl⟩
abbrev main_v53 : Ref sig .tc := ⟨.hbm, 165, rfl⟩
abbrev main_v54 : Ref sig .tc := ⟨.hbm, 166, rfl⟩
abbrev main_v55 : Ref sig .tc := ⟨.hbm, 167, rfl⟩
abbrev main_v56 : Ref sig .tc := ⟨.hbm, 168, rfl⟩
abbrev main_v57 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S64x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== SsdRefIdeal.lean ====
abbrev S16384x1024 : Shape := ⟨2, ![16384, 1024]⟩
abbrev S16384x1536 : Shape := ⟨2, ![16384, 1536]⟩
abbrev S16384x128 : Shape := ⟨2, ![16384, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S2x8192x1024 : Shape := ⟨3, ![2, 8192, 1024]⟩
abbrev S2x8192x1536 : Shape := ⟨3, ![2, 8192, 1536]⟩
abbrev S2x8192x128 : Shape := ⟨3, ![2, 8192, 128]⟩
abbrev S2x8192x16 : Shape := ⟨3, ![2, 8192, 16]⟩
abbrev S_ : Shape := ⟨0, ![]⟩
abbrev S2x8195x1536 : Shape := ⟨3, ![2, 8195, 1536]⟩
abbrev S1x1536 : Shape := ⟨2, ![1, 1536]⟩
abbrev S1x1x1536 : Shape := ⟨3, ![1, 1, 1536]⟩
abbrev S2x8192x256 : Shape := ⟨3, ![2, 8192, 256]⟩
abbrev S2x8192x16x64 : Shape := ⟨4, ![2, 8192, 16, 64]⟩
abbrev S2x8192x2x128 : Shape := ⟨4, ![2, 8192, 2, 128]⟩
abbrev S1x1x16 : Shape := ⟨3, ![1, 1, 16]⟩
abbrev S2x8192x16x1 : Shape := ⟨4, ![2, 8192, 16, 1]⟩
abbrev S2x128x64x2x8x64 : Shape := ⟨6, ![2, 128, 64, 2, 8, 64]⟩
abbrev S2x128x64x2x8 : Shape := ⟨5, ![2, 128, 64, 2, 8]⟩
abbrev S2x128x2x8x64 : Shape := ⟨5, ![2, 128, 2, 8, 64]⟩
abbrev S2x128x64x2x128 : Shape := ⟨5, ![2, 128, 64, 2, 128]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S2x128x2x8x64x1 : Shape := ⟨6, ![2, 128, 2, 8, 64, 1]⟩
abbrev S2x128x2x8x1x64 : Shape := ⟨6, ![2, 128, 2, 8, 1, 64]⟩
abbrev S2x128x2x8x64x64 : Shape := ⟨6, ![2, 128, 2, 8, 64, 64]⟩
abbrev S2x128x2x64x64 : Shape := ⟨5, ![2, 128, 2, 64, 64]⟩
abbrev S2x128x2x1x64x64 : Shape := ⟨6, ![2, 128, 2, 1, 64, 64]⟩
abbrev S2x128x2x8x1 : Shape := ⟨5, ![2, 128, 2, 8, 1]⟩
abbrev S2x128x64x2x8x1 : Shape := ⟨6, ![2, 128, 64, 2, 8, 1]⟩
abbrev S2x128x2x8x64x128 : Shape := ⟨6, ![2, 128, 2, 8, 64, 128]⟩
abbrev S2x128x2x8 : Shape := ⟨4, ![2, 128, 2, 8]⟩
abbrev S2x2x8x64x128 : Shape := ⟨5, ![2, 2, 8, 64, 128]⟩
abbrev S128x2x2x8x64x128 : Shape := ⟨6, ![128, 2, 2, 8, 64, 128]⟩
abbrev S128x2x2x8 : Shape := ⟨4, ![128, 2, 2, 8]⟩
abbrev S1x2x2x8x64x128 : Shape := ⟨6, ![1, 2, 2, 8, 64, 128]⟩
abbrev S1x2x2x8 : Shape := ⟨4, ![1, 2, 2, 8]⟩
abbrev S2x2x8 : Shape := ⟨3, ![2, 2, 8]⟩
abbrev S2x2x8x1x1 : Shape := ⟨5, ![2, 2, 8, 1, 1]⟩
abbrev S16x1 : Shape := ⟨2, ![16, 1]⟩
abbrev S1x1x16x1 : Shape := ⟨4, ![1, 1, 16, 1]⟩
abbrev S2x8192x2x512 : Shape := ⟨4, ![2, 8192, 2, 512]⟩
abbrev S2x8192x2 : Shape := ⟨3, ![2, 8192, 2]⟩
abbrev S2x8192x2x1 : Shape := ⟨4, ![2, 8192, 2, 1]⟩
abbrev S1x1x1024 : Shape := ⟨3, ![1, 1, 1024]⟩

abbrev nBuf : Space → Nat
  | .hbm => 216
  | .vmem => 0
  | .smem => 0
  | _ => 0

abbrev hbmTy0_0 (i : Nat) : BufTy := match i % 128 with
  | 0 => ⟨S16384x1024, .f32⟩
  | 1 => ⟨S16384x1536, .f32⟩
  | 2 => ⟨S16384x128, .f32⟩
  | 3 => ⟨S4x1536, .f32⟩
  | 4 => ⟨S1536, .f32⟩
  | 5 => ⟨S16, .f32⟩
  | 6 => ⟨S16, .f32⟩
  | 7 => ⟨S16, .f32⟩
  | 8 => ⟨S1024, .f32⟩
  | 9 => ⟨S2x8192x1024, .f32⟩
  | 10 => ⟨S2x8192x1536, .f32⟩
  | 11 => ⟨S2x8192x128, .f32⟩
  | 12 => ⟨S2x8192x16, .f32⟩
  | 13 => ⟨S_, .i32⟩
  | 14 => ⟨S_, .f32⟩
  | 15 => ⟨S2x8195x1536, .f32⟩
  | 16 => ⟨S2x8192x1536, .f32⟩
  | 17 => ⟨S1x1536, .f32⟩
  | 18 => ⟨S1536, .f32⟩
  | 19 => ⟨S1x1x1536, .f32⟩
  | 20 => ⟨S2x8192x1536, .f32⟩
  | 21 => ⟨S2x8192x1536, .f32⟩
  | 22 => ⟨S_, .f32⟩
  | 23 => ⟨S2x8192x1536, .f32⟩
  | 24 => ⟨S2x8192x1536, .f32⟩
  | 25 => ⟨S2x8192x1536, .f32⟩
  | 26 => ⟨S1x1536, .f32⟩
  | 27 => ⟨S1536, .f32⟩
  | 28 => ⟨S1x1x1536, .f32⟩
  | 29 => ⟨S2x8192x1536, .f32⟩
  | 30 => ⟨S2x8192x1536, .f32⟩
  | 31 => ⟨S2x8192x1536, .f32⟩
  | 32 => ⟨S2x8192x1536, .f32⟩
  | 33 => ⟨S1x1536, .f32⟩
  | 34 => ⟨S1536, .f32⟩
  | 35 => ⟨S1x1x1536, .f32⟩
  | 36 => ⟨S2x8192x1536, .f32⟩
  | 37 => ⟨S2x8192x1536, .f32⟩
  | 38 => ⟨S2x8192x1536, .f32⟩
  | 39 => ⟨S2x8192x1536, .f32⟩
  | 40 => ⟨S1x1536, .f32⟩
  | 41 => ⟨S1536, .f32⟩
  | 42 => ⟨S1x1x1536, .f32⟩
  | 43 => ⟨S2x8192x1536, .f32⟩
  | 44 => ⟨S2x8192x1536, .f32⟩
  | 45 => ⟨S2x8192x1536, .f32⟩
  | 46 => ⟨S1x1x1536, .f32⟩
  | 47 => ⟨S2x8192x1536, .f32⟩
  | 48 => ⟨S2x8192x1536, .f32⟩
  | 49 => ⟨S2x8192x1536, .f32⟩
  | 50 => ⟨S2x8192x1536, .f32⟩
  | 51 => ⟨S_, .f32⟩
  | 52 => ⟨S2x8192x1536, .f32⟩
  | 53 => ⟨S2x8192x1536, .f32⟩
  | 54 => ⟨S_, .f32⟩
  | 55 => ⟨S2x8192x1536, .f32⟩
  | 56 => ⟨S2x8192x1536, .f32⟩
  | 57 => ⟨S2x8192x1536, .f32⟩
  | 58 => ⟨S2x8192x1024, .f32⟩
  | 59 => ⟨S2x8192x256, .f32⟩
  | 60 => ⟨S2x8192x256, .f32⟩
  | 61 => ⟨S2x8192x16x64, .f32⟩
  | 62 => ⟨S2x8192x2x128, .f32⟩
  | 63 => ⟨S2x8192x2x128, .f32⟩
  | 64 => ⟨S1x1x16, .f32⟩
  | 65 => ⟨S2x8192x16, .f32⟩
  | 66 => ⟨S2x8192x16, .f32⟩
  | 67 => ⟨S_, .f32⟩
  | 68 => ⟨S2x8192x16, .f32⟩
  | 69 => ⟨S2x8192x16, .f32⟩
  | 70 => ⟨S2x8192x16, .f32⟩
  | 71 => ⟨S2x8192x16, .f32⟩
  | 72 => ⟨S2x8192x16, .i1⟩
  | 73 => ⟨S2x8192x16, .f32⟩
  | 74 => ⟨S2x8192x16, .f32⟩
  | 75 => ⟨S2x8192x16, .f32⟩
  | 76 => ⟨S2x8192x16, .f32⟩
  | 77 => ⟨S2x8192x16, .f32⟩
  | 78 => ⟨S2x8192x16, .f32⟩
  | 79 => ⟨S2x8192x16, .f32⟩
  | 80 => ⟨S2x8192x16, .f32⟩
  | 81 => ⟨S16, .f32⟩
  | 82 => ⟨S16, .f32⟩
  | 83 => ⟨S2x8192x16x1, .f32⟩
  | 84 => ⟨S2x8192x16x64, .f32⟩
  | 85 => ⟨S2x8192x16x64, .f32⟩
  | 86 => ⟨S2x128x64x2x8x64, .f32⟩
  | 87 => ⟨S1x1x16, .f32⟩
  | 88 => ⟨S2x8192x16, .f32⟩
  | 89 => ⟨S2x8192x16, .f32⟩
  | 90 => ⟨S2x128x64x2x8, .f32⟩
  | 91 => ⟨S2x128x2x8x64, .f32⟩
  | 92 => ⟨S_, .f32⟩
  | 93 => ⟨S_, .f32⟩
  | 94 => ⟨S2x128x2x8x64, .f32⟩
  | 95 => ⟨S2x128x64x2x128, .f32⟩
  | 96 => ⟨S2x128x64x2x128, .f32⟩
  | 97 => ⟨S64, .i32⟩
  | 98 => ⟨S64x1, .i32⟩
  | 99 => ⟨S1x64, .i32⟩
  | 100 => ⟨S64x64, .i32⟩
  | 101 => ⟨S64x64, .i32⟩
  | 102 => ⟨S64x64, .i1⟩
  | 103 => ⟨S2x128x2x8x64x1, .f32⟩
  | 104 => ⟨S2x128x2x8x1x64, .f32⟩
  | 105 => ⟨S2x128x2x8x64x64, .f32⟩
  | 106 => ⟨S2x128x2x8x64x64, .f32⟩
  | 107 => ⟨S2x128x2x8x64x64, .f32⟩
  | 108 => ⟨S_, .f32⟩
  | 109 => ⟨S_, .f32⟩
  | 110 => ⟨S2x128x2x8x64x64, .i1⟩
  | 111 => ⟨S2x128x2x8x64x64, .f32⟩
  | 112 => ⟨S2x128x2x8x64x64, .f32⟩
  | 113 => ⟨S2x128x2x8x64x64, .f32⟩
  | 114 => ⟨S2x128x2x64x64, .f32⟩
  | 115 => ⟨S2x128x2x1x64x64, .f32⟩
  | 116 => ⟨S2x128x2x8x64x64, .f32⟩
  | 117 => ⟨S2x128x2x8x64x64, .f32⟩
  | 118 => ⟨S2x128x2x8x64x64, .f32⟩
  | 119 => ⟨S2x128x64x2x8x64, .f32⟩
  | 120 => ⟨S2x128x2x8x1, .f32⟩
  | 121 => ⟨S2x128x2x8x64, .f32⟩
  | 122 => ⟨S2x128x2x8x64, .f32⟩
  | 123 => ⟨S2x128x2x8x64, .f32⟩
  | 124 => ⟨S2x128x64x2x8, .f32⟩
  | 125 => ⟨S2x128x64x2x8x1, .f32⟩
  | 126 => ⟨S2x128x64x2x8x64, .f32⟩
  | 127 => ⟨S2x128x64x2x8x64, .f32⟩
  | _ => ⟨S16384x1024, .f32⟩

abbrev hbmTy0_1 (i : Nat) : BufTy := match i % 128 with
  | 0 => ⟨S2x128x2x8x64x128, .f32⟩
  | 1 => ⟨S2x128x2x8x1, .f32⟩
  | 2 => ⟨S2x128x2x8, .f32⟩
  | 3 => ⟨S2x128x2x8, .f32⟩
  | 4 => ⟨S_, .f32⟩
  | 5 => ⟨S2x2x8x64x128, .f32⟩
  | 6 => ⟨S128x2x2x8x64x128, .f32⟩
  | 7 => ⟨S128x2x2x8, .f32⟩
  | 8 => ⟨S_, .f32⟩
  | 9 => ⟨S128x2x2x8x64x128, .f32⟩
  | 10 => ⟨S_, .i32⟩
  | 11 => ⟨S128x2x2x8x64x128, .f32⟩
  | 12 => ⟨S128x2x2x8, .f32⟩
  | 13 => ⟨S_, .i32⟩
  | 14 => ⟨S2x2x8x64x128, .f32⟩
  | 15 => ⟨S128x2x2x8x64x128, .f32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i32⟩
  | 23 => ⟨S1x2x2x8x64x128, .f32⟩
  | 24 => ⟨S2x2x8x64x128, .f32⟩
  | 25 => ⟨S_, .i32⟩
  | 26 => ⟨S_, .i32⟩
  | 27 => ⟨S_, .i32⟩
  | 28 => ⟨S1x2x2x8, .f32⟩
  | 29 => ⟨S2x2x8, .f32⟩
  | 30 => ⟨S2x2x8x1x1, .f32⟩
  | 31 => ⟨S2x2x8x64x128, .f32⟩
  | 32 => ⟨S2x2x8x64x128, .f32⟩
  | 33 => ⟨S2x2x8x64x128, .f32⟩
  | 34 => ⟨S1x2x2x8x64x128, .f32⟩
  | 35 => ⟨S_, .i32⟩
  | 36 => ⟨S_, .i32⟩
  | 37 => ⟨S_, .i32⟩
  | 38 => ⟨S_, .i32⟩
  | 39 => ⟨S_, .i32⟩
  | 40 => ⟨S128x2x2x8x64x128, .f32⟩
  | 41 => ⟨S_, .i32⟩
  | 42 => ⟨S_, .i32⟩
  | 43 => ⟨S2x128x2x8x64x128, .f32⟩
  | 44 => ⟨S2x128x2x8x64x64, .f32⟩
  | 45 => ⟨S2x128x64x2x8x64, .f32⟩
  | 46 => ⟨S2x128x2x8x64, .f32⟩
  | 47 => ⟨S2x128x64x2x8, .f32⟩
  | 48 => ⟨S2x128x64x2x8x1, .f32⟩
  | 49 => ⟨S2x128x64x2x8x64, .f32⟩
  | 50 => ⟨S2x128x64x2x8x64, .f32⟩
  | 51 => ⟨S2x128x64x2x8x64, .f32⟩
  | 52 => ⟨S2x8192x16x64, .f32⟩
  | 53 => ⟨S16x1, .f32⟩
  | 54 => ⟨S1x1x16x1, .f32⟩
  | 55 => ⟨S2x8192x16x64, .f32⟩
  | 56 => ⟨S2x8192x16x64, .f32⟩
  | 57 => ⟨S2x8192x16x64, .f32⟩
  | 58 => ⟨S2x8192x2x512, .f32⟩
  | 59 => ⟨S2x8192x2x512, .f32⟩
  | 60 => ⟨S2x8192x2x512, .f32⟩
  | 61 => ⟨S2x8192x2x512, .f32⟩
  | 62 => ⟨S_, .f32⟩
  | 63 => ⟨S2x8192x2x512, .f32⟩
  | 64 => ⟨S2x8192x2x512, .f32⟩
  | 65 => ⟨S_, .f32⟩
  | 66 => ⟨S2x8192x2x512, .f32⟩
  | 67 => ⟨S2x8192x2x512, .f32⟩
  | 68 => ⟨S2x8192x2x512, .f32⟩
  | 69 => ⟨S2x8192x2x512, .f32⟩
  | 70 => ⟨S2x8192x2x512, .f32⟩
  | 71 => ⟨S_, .f32⟩
  | 72 => ⟨S2x8192x2, .f32⟩
  | 73 => ⟨S2x8192x2x1, .f32⟩
  | 74 => ⟨S_, .f32⟩
  | 75 => ⟨S2x8192x2x1, .f32⟩
  | 76 => ⟨S2x8192x2x1, .f32⟩
  | 77 => ⟨S_, .f32⟩
  | 78 => ⟨S2x8192x2x1, .f32⟩
  | 79 => ⟨S2x8192x2x1, .f32⟩
  | 80 => ⟨S2x8192x2x1, .f32⟩
  | 81 => ⟨S2x8192x2x512, .f32⟩
  | 82 => ⟨S2x8192x2x512, .f32⟩
  | 83 => ⟨S2x8192x1024, .f32⟩
  | 84 => ⟨S1x1x1024, .f32⟩
  | 85 => ⟨S2x8192x1024, .f32⟩
  | 86 => ⟨S2x8192x1024, .f32⟩
  | 87 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call2_cst : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_call3_call0_cst : Ref sig .tc := ⟨.hbm, 92, rfl⟩
abbrev main_call3_call0_v0 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_0 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_1 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_2 : Ref sig .tc := ⟨.hbm, 136, rfl⟩
abbrev main_v96 : Ref sig .tc := ⟨.hbm, 137, rfl⟩
abbrev main_c_3 : Ref sig .tc := ⟨.hbm, 138, rfl⟩
abbrev main_v97_0 : Ref sig .tc := ⟨.hbm, 139, rfl⟩
abbrev main_v97_1 : Ref sig .tc := ⟨.hbm, 140, rfl⟩
abbrev main_v97_2 : Ref sig .tc := ⟨.hbm, 141, rfl⟩
abbrev main_v97_3 : Ref sig .tc := ⟨.hbm, 142, rfl⟩
abbrev main_v97_4 : Ref sig .tc := ⟨.hbm, 143, rfl⟩
abbrev main_while0c_c_11 : Ref sig .tc := ⟨.hbm, 144, rfl⟩
abbrev main_while0c_v132 : Ref sig .tc := ⟨.hbm, 145, rfl⟩
abbrev main_while0b_call5_c : Ref sig .tc := ⟨.hbm, 146, rfl⟩
abbrev main_while0b_call5_c_0 : Ref sig .tc := ⟨.hbm, 147, rfl⟩
abbrev main_while0b_call5_c_1 : Ref sig .tc := ⟨.hbm, 148, rfl⟩
abbrev main_while0b_call5_c_2 : Ref sig .tc := ⟨.hbm, 149, rfl⟩
abbrev main_while0b_call5_c_3 : Ref sig .tc := ⟨.hbm, 150, rfl⟩
abbrev main_while0b_call5_v0 : Ref sig .tc := ⟨.hbm, 151, rfl⟩
abbrev main_while0b_v132 : Ref sig .tc := ⟨.hbm, 152, rfl⟩
abbrev main_while0b_call6_c : Ref sig .tc := ⟨.hbm, 153, rfl⟩
abbrev main_while0b_call6_c_0 : Ref sig .tc := ⟨.hbm, 154, rfl⟩
abbrev main_while0b_call6_c_1 : Ref sig .tc := ⟨.hbm, 155, rfl⟩
abbrev main_while0b_call6_v0 : Ref sig .tc := ⟨.hbm, 156, rfl⟩
abbrev main_while0b_v133 : Ref sig .tc := ⟨.hbm, 157, rfl⟩
abbrev main_while0b_v134 : Ref sig .tc := ⟨.hbm, 158, rfl⟩
abbrev main_while0b_v135 : Ref sig .tc := ⟨.hbm, 159, rfl⟩
abbrev main_while0b_v136 : Ref sig .tc := ⟨.hbm, 160, rfl⟩
abbrev main_while0b_v137 : Ref sig .tc := ⟨.hbm, 161, rfl⟩
abbrev main_while0b_call7_v0 : Ref sig .tc := ⟨.hbm, 162, rfl⟩
abbrev main_while0b_call7_c : Ref sig .tc := ⟨.hbm, 163, rfl⟩
abbrev main_while0b_call7_c_0 : Ref sig .tc := ⟨.hbm, 164, rfl⟩
abbrev main_while0b_call7_c_1 : Ref sig .tc := ⟨.hbm, 165, rfl⟩
abbrev main_while0b_call7_c_2 : Ref sig .tc := ⟨.hbm, 166, rfl⟩
abbrev main_while0b_call7_c_3 : Ref sig .tc := ⟨.hbm, 167, rfl⟩
abbrev main_while0b_v138 : Ref sig .tc := ⟨.hbm, 168, rfl⟩
abbrev main_while0b_c_11 : Ref sig .tc := ⟨.hbm, 169, rfl⟩
abbrev main_while0b_v139 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_call8_v0 : Ref sig .tc := ⟨.hbm, 188, rfl⟩
abbrev main_call8_v1 : Ref sig .tc := ⟨.hbm, 189, rfl⟩
abbrev main_call8_cst : Ref sig .tc := ⟨.hbm, 190, rfl⟩
abbrev main_call8_v2 : Ref sig .tc := ⟨.hbm, 191, rfl⟩
abbrev main_call8_v3 : Ref sig .tc := ⟨.hbm, 192, rfl⟩
abbrev main_call8_cst_0 : Ref sig .tc := ⟨.hbm, 193, rfl⟩
abbrev main_call8_v4 : Ref sig .tc := ⟨.hbm, 194, rfl⟩
abbrev main_call8_v5 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_cst_4 : Ref sig .tc := ⟨.hbm, 199, rfl⟩
abbrev main_v118 : Ref sig .tc := ⟨.hbm, 200, rfl⟩
abbrev main_v119 : Ref sig .tc := ⟨.hbm, 201, rfl⟩
abbrev main_cst_5 : Ref sig .tc := ⟨.hbm, 202, rfl⟩
abbrev main_v120 : Ref sig .tc := ⟨.hbm, 203, rfl⟩
abbrev main_v121 : Ref sig .tc := ⟨.hbm, 204, rfl⟩
abbrev main_cst_6 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_v131 : Ref sig .tc := ⟨.hbm, 215, rfl⟩

abbrev nD : Nat := 1
abbrev τ : Topo := Topo.v7x

variable {F : FTy → Type} [FloatOps F]

abbrev main_while0_count : Scf.Loop 32 := ⟨0#32, 128#32, 1#32⟩
-- ==== Inproj.lean ====
abbrev S2x8192x1024 : Shape := ⟨3, ![2, 8192, 1024]⟩
abbrev S1024 : Shape := ⟨1, ![1024]⟩
abbrev S1024x6688 : Shape := ⟨2, ![1024, 6688]⟩
abbrev S16384x1024 : Shape := ⟨2, ![16384, 1024]⟩
abbrev S1024x16 : Shape := ⟨2, ![1024, 16]⟩
abbrev S1024x8 : Shape := ⟨2, ![1024, 8]⟩
abbrev S_ : Shape := ⟨0, ![]⟩
abbrev S1024x96 : Shape := ⟨2, ![1024, 96]⟩
abbrev S1024x128 : Shape := ⟨2, ![1024, 128]⟩
abbrev S1024x1024 : Shape := ⟨2, ![1024, 1024]⟩
abbrev S1024x1536 : Shape := ⟨2, ![1024, 1536]⟩
abbrev S1024x3072 : Shape := ⟨2, ![1024, 3072]⟩
abbrev S1024x6784 : Shape := ⟨2, ![1024, 6784]⟩
abbrev S1x1024 : Shape := ⟨2, ![1, 1024]⟩
abbrev S16384x1536 : Shape := ⟨2, ![16384, 1536]⟩
abbrev S16384x3072 : Shape := ⟨2, ![16384, 3072]⟩
abbrev S16384x128 : Shape := ⟨2, ![16384, 128]⟩
abbrev S256x1024 : Shape := ⟨2, ![256, 1024]⟩
abbrev S256x1536 : Shape := ⟨2, ![256, 1536]⟩
abbrev S256x3072 : Shape := ⟨2, ![256, 3072]⟩
abbrev S256x128 : Shape := ⟨2, ![256, 128]⟩
abbrev S256 : Shape := ⟨1, ![256]⟩
abbrev S256x1 : Shape := ⟨2, ![256, 1]⟩

abbrev nBuf : Space → Nat
  | .hbm => 22
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x6688, .f32⟩
  | .hbm, ⟨3, _⟩ => ⟨S16384x1024, .f32⟩
  | .hbm, ⟨4, _⟩ => ⟨S1024x16, .f32⟩
  | .hbm, ⟨5, _⟩ => ⟨S1024x8, .f32⟩
  | .hbm, ⟨6, _⟩ => ⟨S1024x8, .f32⟩
  | .hbm, ⟨7, _⟩ => ⟨S_, .f32⟩
  | .hbm, ⟨8, _⟩ => ⟨S1024x96, .f32⟩
  | .hbm, ⟨9, _⟩ => ⟨S1024x128, .f32⟩
  | .hbm, ⟨10, _⟩ => ⟨S1024x1024, .f32⟩
  | .hbm, ⟨11, _⟩ => ⟨S1024x1536, .f32⟩
  | .hbm, ⟨12, _⟩ => ⟨S1024x1024, .f32⟩
  | .hbm, ⟨13, _⟩ => ⟨S1024x3072, .f32⟩
  | .hbm, ⟨14, _⟩ => ⟨S1024x6784, .f32⟩
  | .hbm, ⟨15, _⟩ => ⟨S1024x6784, .bf16⟩
  | .hbm, ⟨16, _⟩ => ⟨S1x1024, .f32⟩
  | .hbm, ⟨17, _⟩ => ⟨S16384x1024, .f32⟩
  | .hbm, ⟨18, _⟩ => ⟨S16384x1536, .f32⟩
  | .hbm, ⟨19, _⟩ => ⟨S16384x1024, .f32⟩
  | .hbm, ⟨20, _⟩ => ⟨S16384x3072, .f32⟩
  | .hbm, ⟨21, _⟩ => ⟨S16384x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6784, .bf16⟩
  | .local _ .vmem, ⟨4, _⟩ => ⟨S256x1024, .f32⟩
  | .local _ .vmem, ⟨5, _⟩ => ⟨S256x1024, .f32⟩
  | .local _ .vmem, ⟨6, _⟩ => ⟨S256x1536, .f32⟩
  | .local _ .vmem, ⟨7, _⟩ => ⟨S256x1536, .f32⟩
  | .local _ .vmem, ⟨8, _⟩ => ⟨S256x1024, .f32⟩
  | .local _ .vmem, ⟨9, _⟩ => ⟨S256x1024, .f32⟩
  | .local _ .vmem, ⟨10, _⟩ => ⟨S256x3072, .f32⟩
  | .local _ .vmem, ⟨11, _⟩ => ⟨S256x3072, .f32⟩
  | .local _ .vmem, ⟨12, _⟩ => ⟨S256x128, .f32⟩
  | .local _ .vmem, ⟨13, _⟩ => ⟨S256x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13_0 : Ref sig .tc := ⟨.hbm, 17, rfl⟩
abbrev main_v13_1 : Ref sig .tc := ⟨.hbm, 18, rfl⟩
abbrev main_v13_2 : Ref sig .tc := ⟨.hbm, 19, rfl⟩
abbrev main_v13_3 : Ref sig .tc := ⟨.hbm, 20, rfl⟩
abbrev main_v13_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6784 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InprojRefIdeal.lean ====
abbrev S2x8192x1024 : Shape := ⟨3, ![2, 8192, 1024]⟩
abbrev S1024 : Shape := ⟨1, ![1024]⟩
abbrev S1024x6688 : Shape := ⟨2, ![1024, 6688]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x6688 : Shape := ⟨3, ![2, 8192, 6688]⟩
abbrev S2x8192x1536 : Shape := ⟨3, ![2, 8192, 1536]⟩
abbrev S2x8192x16 : Shape := ⟨3, ![2, 8192, 16]⟩
abbrev S2x8192x3072 : Shape := ⟨3, ![2, 8192, 3072]⟩
abbrev S2x8192x8 : Shape := ⟨3, ![2, 8192, 8]⟩
abbrev S2x8192x96 : Shape := ⟨3, ![2, 8192, 96]⟩
abbrev S2x8192x128 : Shape := ⟨3, ![2, 8192, 128]⟩
abbrev S16384x1024 : Shape := ⟨2, ![16384, 1024]⟩
abbrev S16384x1536 : Shape := ⟨2, ![16384, 1536]⟩
abbrev S16384x3072 : Shape := ⟨2, ![16384, 3072]⟩
abbrev S16384x128 : Shape := ⟨2, ![16384, 128]⟩

abbrev nBuf : Space → Nat
  | .hbm => 35
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x6688, .f32⟩
  | .hbm, ⟨3, _⟩ => ⟨S2x8192x1024, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x1024, .f32⟩
  | .hbm, ⟨15, _⟩ => ⟨S2x8192x1024, .f32⟩
  | .hbm, ⟨16, _⟩ => ⟨S1x1x1024, .f32⟩
  | .hbm, ⟨17, _⟩ => ⟨S2x8192x1024, .f32⟩
  | .hbm, ⟨18, _⟩ => ⟨S2x8192x1024, .f32⟩
  | .hbm, ⟨19, _⟩ => ⟨S2x8192x6688, .f32⟩
  | .hbm, ⟨20, _⟩ => ⟨S2x8192x1024, .f32⟩
  | .hbm, ⟨21, _⟩ => ⟨S2x8192x1536, .f32⟩
  | .hbm, ⟨22, _⟩ => ⟨S2x8192x16, .f32⟩
  | .hbm, ⟨23, _⟩ => ⟨S2x8192x1024, .f32⟩
  | .hbm, ⟨24, _⟩ => ⟨S2x8192x3072, .f32⟩
  | .hbm, ⟨25, _⟩ => ⟨S2x8192x8, .f32⟩
  | .hbm, ⟨26, _⟩ => ⟨S2x8192x8, .f32⟩
  | .hbm, ⟨27, _⟩ => ⟨S_, .f32⟩
  | .hbm, ⟨28, _⟩ => ⟨S2x8192x96, .f32⟩
  | .hbm, ⟨29, _⟩ => ⟨S2x8192x128, .f32⟩
  | .hbm, ⟨30, _⟩ => ⟨S16384x1024, .f32⟩
  | .hbm, ⟨31, _⟩ => ⟨S16384x1536, .f32⟩
  | .hbm, ⟨32, _⟩ => ⟨S16384x1024, .f32⟩
  | .hbm, ⟨33, _⟩ => ⟨S16384x3072, .f32⟩
  | .hbm, ⟨34, _⟩ => ⟨S16384x128, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Outproj.lean ====
abbrev S2x8192x1024 : Shape := ⟨3, ![2, 8192, 1024]⟩
abbrev S16384x1024 : Shape := ⟨2, ![16384, 1024]⟩
abbrev S2048x1024 : Shape := ⟨2, ![2048, 1024]⟩
abbrev S1024 : Shape := ⟨1, ![1024]⟩
abbrev S1x1024 : Shape := ⟨2, ![1, 1024]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 9
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S16384x1024, .f32⟩
  | .hbm, ⟨2, _⟩ => ⟨S16384x1024, .f32⟩
  | .hbm, ⟨3, _⟩ => ⟨S2048x1024, .f32⟩
  | .hbm, ⟨4, _⟩ => ⟨S1024, .f32⟩
  | .hbm, ⟨5, _⟩ => ⟨S16384x1024, .f32⟩
  | .hbm, ⟨6, _⟩ => ⟨S2048x1024, .bf16⟩
  | .hbm, ⟨7, _⟩ => ⟨S1x1024, .f32⟩
  | .hbm, ⟨8, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2048x1024, .bf16⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutprojRefIdeal.lean ====
abbrev S2x8192x1024 : Shape := ⟨3, ![2, 8192, 1024]⟩
abbrev S16384x1024 : Shape := ⟨2, ![16384, 1024]⟩
abbrev S2048x1024 : Shape := ⟨2, ![2048, 1024]⟩
abbrev S1024 : Shape := ⟨1, ![1024]⟩
abbrev S2x8192x2048 : Shape := ⟨3, ![2, 8192, 2048]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S16384x1024, .f32⟩
  | .hbm, ⟨2, _⟩ => ⟨S16384x1024, .f32⟩
  | .hbm, ⟨3, _⟩ => ⟨S2048x1024, .f32⟩
  | .hbm, ⟨4, _⟩ => ⟨S1024, .f32⟩
  | .hbm, ⟨5, _⟩ => ⟨S2x8192x1024, .f32⟩
  | .hbm, ⟨6, _⟩ => ⟨S2x8192x1024, .f32⟩
  | .hbm, ⟨7, _⟩ => ⟨S2x8192x2048, .f32⟩
  | .hbm, ⟨8, _⟩ => ⟨S2x8192x1024, .f32⟩
  | .hbm, ⟨9, _⟩ => ⟨S2x8192x1024, .f32⟩
  | .hbm, ⟨10, _⟩ => ⟨S2x8192x1024, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1, .f32⟩
  | .hbm, ⟨21, _⟩ => ⟨S2x8192x1024, .f32⟩
  | .hbm, ⟨22, _⟩ => ⟨S2x8192x1024, .f32⟩
  | .hbm, ⟨23, _⟩ => ⟨S1x1x1024, .f32⟩
  | .hbm, ⟨24, _⟩ => ⟨S2x8192x1024, .f32⟩
  | .hbm, ⟨25, _⟩ => ⟨S2x8192x1024, .f32⟩
  | .hbm, ⟨26, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Gdn.lean ====
abbrev S16384x3072 : Shape := ⟨2, ![16384, 3072]⟩
abbrev S16384x1024 : Shape := ⟨2, ![16384, 1024]⟩
abbrev S16384x128 : Shape := ⟨2, ![16384, 128]⟩
abbrev S4x3072 : Shape := ⟨2, ![4, 3072]⟩
abbrev S8 : Shape := ⟨1, ![8]⟩
abbrev S128 : Shape := ⟨1, ![128]⟩
abbrev S_ : Shape := ⟨0, ![]⟩
abbrev S1x128 : Shape := ⟨2, ![1, 128]⟩
abbrev S1 : Shape := ⟨1, ![1]⟩
abbrev S2 : Shape := ⟨1, ![2]⟩
abbrev S1024 : Shape := ⟨1, ![1024]⟩
abbrev S64 : Shape := ⟨1, ![64]⟩
abbrev S128x1 : Shape := ⟨2, ![128, 1]⟩
abbrev S1x1024 : Shape := ⟨2, ![1, 1024]⟩
abbrev S128x1024 : Shape := ⟨2, ![128, 1024]⟩
abbrev S512 : Shape := ⟨1, ![512]⟩
abbrev S1x512 : Shape := ⟨2, ![1, 512]⟩
abbrev S128x512 : Shape := ⟨2, ![128, 512]⟩
abbrev S64x1 : Shape := ⟨2, ![64, 1]⟩
abbrev S64x512 : Shape := ⟨2, ![64, 512]⟩
abbrev S1x64 : Shape := ⟨2, ![1, 64]⟩
abbrev S64x64 : Shape := ⟨2, ![64, 64]⟩
abbrev S128x128 : Shape := ⟨2, ![128, 128]⟩
abbrev S256x3072 : Shape := ⟨2, ![256, 3072]⟩
abbrev S256x1024 : Shape := ⟨2, ![256, 1024]⟩
abbrev S256x128 : Shape := ⟨2, ![256, 128]⟩
abbrev S264x3072 : Shape := ⟨2, ![264, 3072]⟩
abbrev S8x128x128 : Shape := ⟨3, ![8, 128, 128]⟩
abbrev S8x3072 : Shape := ⟨2, ![8, 3072]⟩
abbrev S64x128 : Shape := ⟨2, ![64, 128]⟩
abbrev S64x1024 : Shape := ⟨2, ![64, 1024]⟩
abbrev S128x256 : Shape := ⟨2, ![128, 256]⟩
abbrev S1x128x128 : Shape := ⟨3, ![1, 128, 128]⟩

abbrev nBuf : Space → Nat
  | .hbm => 304
  | .vmem => 22
  | .smem => 0
  | _ => 0

abbrev hbmTy0_0 (i : Nat) : BufTy := match i % 128 with
  | 0 => ⟨S16384x3072, .f32⟩
  | 1 => ⟨S16384x1024, .f32⟩
  | 2 => ⟨S16384x128, .f32⟩
  | 3 => ⟨S4x3072, .f32⟩
  | 4 => ⟨S8, .f32⟩
  | 5 => ⟨S8, .f32⟩
  | 6 => ⟨S128, .f32⟩
  | 7 => ⟨S_, .f32⟩
  | 8 => ⟨S1x128, .f32⟩
  | 9 => ⟨S_, .i32⟩
  | 10 => ⟨S1, .i32⟩
  | 11 => ⟨S_, .i32⟩
  | 12 => ⟨S1, .i32⟩
  | 13 => ⟨S2, .i32⟩
  | 14 => ⟨S1x128, .f32⟩
  | 15 => ⟨S8, .f32⟩
  | 16 => ⟨S8, .f32⟩
  | 17 => ⟨S_, .f32⟩
  | 18 => ⟨S1x128, .f32⟩
  | 19 => ⟨S_, .i32⟩
  | 20 => ⟨S1, .i32⟩
  | 21 => ⟨S_, .i32⟩
  | 22 => ⟨S1, .i32⟩
  | 23 => ⟨S2, .i32⟩
  | 24 => ⟨S1x128, .f32⟩
  | 25 => ⟨S1x128, .f32⟩
  | 26 => ⟨S1024, .i32⟩
  | 27 => ⟨S64, .i32⟩
  | 28 => ⟨S128, .i32⟩
  | 29 => ⟨S128x1, .i32⟩
  | 30 => ⟨S_, .i32⟩
  | 31 => ⟨S_, .i32⟩
  | 32 => ⟨S1024, .i32⟩
  | 33 => ⟨S1024, .i32⟩
  | 34 => ⟨S1024, .i32⟩
  | 35 => ⟨S_, .i32⟩
  | 36 => ⟨S1024, .i32⟩
  | 37 => ⟨S1024, .i1⟩
  | 38 => ⟨S1024, .i32⟩
  | 39 => ⟨S1024, .i32⟩
  | 40 => ⟨S_, .i32⟩
  | 41 => ⟨S1024, .i32⟩
  | 42 => ⟨S1024, .i1⟩
  | 43 => ⟨S1024, .i1⟩
  | 44 => ⟨S_, .i32⟩
  | 45 => ⟨S1024, .i32⟩
  | 46 => ⟨S1024, .i32⟩
  | 47 => ⟨S1024, .i32⟩
  | 48 => ⟨S_, .i32⟩
  | 49 => ⟨S1024, .i32⟩
  | 50 => ⟨S1024, .i32⟩
  | 51 => ⟨S1x1024, .i32⟩
  | 52 => ⟨S128x1024, .i32⟩
  | 53 => ⟨S128x1024, .i32⟩
  | 54 => ⟨S128x1024, .i1⟩
  | 55 => ⟨S128x1024, .f32⟩
  | 56 => ⟨S128, .i32⟩
  | 57 => ⟨S128x1, .i32⟩
  | 58 => ⟨S_, .i32⟩
  | 59 => ⟨S_, .i32⟩
  | 60 => ⟨S1024, .i32⟩
  | 61 => ⟨S1024, .i32⟩
  | 62 => ⟨S1024, .i32⟩
  | 63 => ⟨S_, .i32⟩
  | 64 => ⟨S1024, .i32⟩
  | 65 => ⟨S1024, .i1⟩
  | 66 => ⟨S1024, .i32⟩
  | 67 => ⟨S1024, .i32⟩
  | 68 => ⟨S_, .i32⟩
  | 69 => ⟨S1024, .i32⟩
  | 70 => ⟨S1024, .i1⟩
  | 71 => ⟨S1024, .i1⟩
  | 72 => ⟨S_, .i32⟩
  | 73 => ⟨S1024, .i32⟩
  | 74 => ⟨S1024, .i32⟩
  | 75 => ⟨S1024, .i32⟩
  | 76 => ⟨S_, .i32⟩
  | 77 => ⟨S1024, .i32⟩
  | 78 => ⟨S1024, .i32⟩
  | 79 => ⟨S1x1024, .i32⟩
  | 80 => ⟨S128x1024, .i32⟩
  | 81 => ⟨S128x1024, .i32⟩
  | 82 => ⟨S128x1024, .i1⟩
  | 83 => ⟨S128x1024, .f32⟩
  | 84 => ⟨S512, .i32⟩
  | 85 => ⟨S128, .i32⟩
  | 86 => ⟨S128x1, .i32⟩
  | 87 => ⟨S_, .i32⟩
  | 88 => ⟨S_, .i32⟩
  | 89 => ⟨S512, .i32⟩
  | 90 => ⟨S512, .i32⟩
  | 91 => ⟨S512, .i32⟩
  | 92 => ⟨S_, .i32⟩
  | 93 => ⟨S512, .i32⟩
  | 94 => ⟨S512, .i1⟩
  | 95 => ⟨S512, .i32⟩
  | 96 => ⟨S512, .i32⟩
  | 97 => ⟨S_, .i32⟩
  | 98 => ⟨S512, .i32⟩
  | 99 => ⟨S512, .i1⟩
  | 100 => ⟨S512, .i1⟩
  | 101 => ⟨S_, .i32⟩
  | 102 => ⟨S512, .i32⟩
  | 103 => ⟨S512, .i32⟩
  | 104 => ⟨S512, .i32⟩
  | 105 => ⟨S_, .i32⟩
  | 106 => ⟨S512, .i32⟩
  | 107 => ⟨S512, .i32⟩
  | 108 => ⟨S1x512, .i32⟩
  | 109 => ⟨S128x512, .i32⟩
  | 110 => ⟨S128x512, .i32⟩
  | 111 => ⟨S128x512, .i1⟩
  | 112 => ⟨S128x512, .f32⟩
  | 113 => ⟨S64x1, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S512, .i32⟩
  | 121 => ⟨S512, .i32⟩
  | 122 => ⟨S_, .i32⟩
  | 123 => ⟨S512, .i32⟩
  | 124 => ⟨S512, .i1⟩
  | 125 => ⟨S_, .i32⟩
  | 126 => ⟨S512, .i32⟩
  | 127 => ⟨S512, .i1⟩
  | _ => ⟨S16384x3072, .f32⟩

abbrev hbmTy0_1 (i : Nat) : BufTy := match i % 128 with
  | 0 => ⟨S_, .i32⟩
  | 1 => ⟨S_, .i1⟩
  | 2 => ⟨S512, .i1⟩
  | 3 => ⟨S512, .i1⟩
  | 4 => ⟨S512, .i1⟩
  | 5 => ⟨S512, .i32⟩
  | 6 => ⟨S512, .i32⟩
  | 7 => ⟨S512, .i32⟩
  | 8 => ⟨S1x512, .i32⟩
  | 9 => ⟨S64x512, .i32⟩
  | 10 => ⟨S64x512, .i32⟩
  | 11 => ⟨S64x512, .i1⟩
  | 12 => ⟨S64x512, .f32⟩
  | 13 => ⟨S64x1, .i32⟩
  | 14 => ⟨S1x64, .i32⟩
  | 15 => ⟨S64x64, .i32⟩
  | 16 => ⟨S64x64, .i32⟩
  | 17 => ⟨S64x64, .i1⟩
  | 18 => ⟨S64x64, .f32⟩
  | 19 => ⟨S128, .i32⟩
  | 20 => ⟨S128x1, .i32⟩
  | 21 => ⟨S_, .i32⟩
  | 22 => ⟨S_, .i32⟩
  | 23 => ⟨S128x1, .i32⟩
  | 24 => ⟨S128x1, .i32⟩
  | 25 => ⟨S128x1, .i32⟩
  | 26 => ⟨S_, .i32⟩
  | 27 => ⟨S128x1, .i32⟩
  | 28 => ⟨S128x1, .i1⟩
  | 29 => ⟨S128x1, .i32⟩
  | 30 => ⟨S128x1, .i32⟩
  | 31 => ⟨S_, .i32⟩
  | 32 => ⟨S128x1, .i32⟩
  | 33 => ⟨S128x1, .i1⟩
  | 34 => ⟨S128x1, .i1⟩
  | 35 => ⟨S_, .i32⟩
  | 36 => ⟨S128x1, .i32⟩
  | 37 => ⟨S128x1, .i32⟩
  | 38 => ⟨S128x1, .i32⟩
  | 39 => ⟨S1x128, .i32⟩
  | 40 => ⟨S_, .i32⟩
  | 41 => ⟨S_, .i32⟩
  | 42 => ⟨S1x128, .i32⟩
  | 43 => ⟨S1x128, .i32⟩
  | 44 => ⟨S1x128, .i32⟩
  | 45 => ⟨S_, .i32⟩
  | 46 => ⟨S1x128, .i32⟩
  | 47 => ⟨S1x128, .i1⟩
  | 48 => ⟨S1x128, .i32⟩
  | 49 => ⟨S1x128, .i32⟩
  | 50 => ⟨S_, .i32⟩
  | 51 => ⟨S1x128, .i32⟩
  | 52 => ⟨S1x128, .i1⟩
  | 53 => ⟨S1x128, .i1⟩
  | 54 => ⟨S_, .i32⟩
  | 55 => ⟨S1x128, .i32⟩
  | 56 => ⟨S1x128, .i32⟩
  | 57 => ⟨S1x128, .i32⟩
  | 58 => ⟨S128x128, .i32⟩
  | 59 => ⟨S128x128, .i32⟩
  | 60 => ⟨S128x128, .i1⟩
  | 61 => ⟨S128x1, .i32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S128x1, .i32⟩
  | 69 => ⟨S128x1, .i32⟩
  | 70 => ⟨S_, .i32⟩
  | 71 => ⟨S128x1, .i32⟩
  | 72 => ⟨S128x1, .i1⟩
  | 73 => ⟨S_, .i32⟩
  | 74 => ⟨S128x1, .i32⟩
  | 75 => ⟨S128x1, .i1⟩
  | 76 => ⟨S_, .i32⟩
  | 77 => ⟨S_, .i1⟩
  | 78 => ⟨S128x1, .i1⟩
  | 79 => ⟨S128x1, .i1⟩
  | 80 => ⟨S128x1, .i1⟩
  | 81 => ⟨S128x1, .i32⟩
  | 82 => ⟨S128x1, .i32⟩
  | 83 => ⟨S128x1, .i32⟩
  | 84 => ⟨S1x128, .i32⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S1x128, .i32⟩
  | 92 => ⟨S1x128, .i32⟩
  | 93 => ⟨S_, .i32⟩
  | 94 => ⟨S1x128, .i32⟩
  | 95 => ⟨S1x128, .i1⟩
  | 96 => ⟨S_, .i32⟩
  | 97 => ⟨S1x128, .i32⟩
  | 98 => ⟨S1x128, .i1⟩
  | 99 => ⟨S_, .i32⟩
  | 100 => ⟨S_, .i1⟩
  | 101 => ⟨S1x128, .i1⟩
  | 102 => ⟨S1x128, .i1⟩
  | 103 => ⟨S1x128, .i1⟩
  | 104 => ⟨S1x128, .i32⟩
  | 105 => ⟨S1x128, .i32⟩
  | 106 => ⟨S1x128, .i32⟩
  | 107 => ⟨S128x128, .i32⟩
  | 108 => ⟨S128x128, .i32⟩
  | 109 => ⟨S128x128, .i1⟩
  | 110 => ⟨S128x128, .i1⟩
  | 111 => ⟨S128x1, .i32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S128x1, .i32⟩
  | 119 => ⟨S128x1, .i32⟩
  | 120 => ⟨S_, .i32⟩
  | 121 => ⟨S128x1, .i32⟩
  | 122 => ⟨S128x1, .i1⟩
  | 123 => ⟨S_, .i32⟩
  | 124 => ⟨S128x1, .i32⟩
  | 125 => ⟨S128x1, .i1⟩
  | 126 => ⟨S_, .i32⟩
  | 127 => ⟨S_, .i1⟩
  | _ => ⟨S16384x3072, .f32⟩

abbrev hbmTy0_2 (i : Nat) : BufTy := match i % 128 with
  | 0 => ⟨S128x1, .i1⟩
  | 1 => ⟨S128x1, .i1⟩
  | 2 => ⟨S128x1, .i1⟩
  | 3 => ⟨S128x1, .i32⟩
  | 4 => ⟨S128x1, .i32⟩
  | 5 => ⟨S128x1, .i32⟩
  | 6 => ⟨S1x128, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S1x128, .i32⟩
  | 14 => ⟨S1x128, .i32⟩
  | 15 => ⟨S_, .i32⟩
  | 16 => ⟨S1x128, .i32⟩
  | 17 => ⟨S1x128, .i1⟩
  | 18 => ⟨S_, .i32⟩
  | 19 => ⟨S1x128, .i32⟩
  | 20 => ⟨S1x128, .i1⟩
  | 21 => ⟨S_, .i32⟩
  | 22 => ⟨S_, .i1⟩
  | 23 => ⟨S1x128, .i1⟩
  | 24 => ⟨S1x128, .i1⟩
  | 25 => ⟨S1x128, .i1⟩
  | 26 => ⟨S1x128, .i32⟩
  | 27 => ⟨S1x128, .i32⟩
  | 28 => ⟨S1x128, .i32⟩
  | 29 => ⟨S128x128, .i32⟩
  | 30 => ⟨S128x128, .i32⟩
  | 31 => ⟨S128x128, .i1⟩
  | 32 => ⟨S128x128, .i1⟩
  | 33 => ⟨S_, .f32⟩
  | 34 => ⟨S_, .f32⟩
  | 35 => ⟨S128x128, .f32⟩
  | 36 => ⟨S128x128, .f32⟩
  | 37 => ⟨S128x128, .f32⟩
  | 38 => ⟨S128x128, .f32⟩
  | 39 => ⟨S128x128, .i32⟩
  | 40 => ⟨S128x128, .i32⟩
  | 41 => ⟨S_, .i32⟩
  | 42 => ⟨S128x128, .i32⟩
  | 43 => ⟨S128x128, .i32⟩
  | 44 => ⟨S128x128, .i1⟩
  | 45 => ⟨S128x128, .f32⟩
  | 46 => ⟨S128x128, .f32⟩
  | 47 => ⟨S16384x1024, .f32⟩
  | _ => ⟨S16384x3072, .f32⟩

abbrev hbmTy (i : Nat) : BufTy := match i / 128 with
  | 0 => hbmTy0_0 i
  | 1 => hbmTy0_1 i
  | 2 => hbmTy0_2 i
  | _ => ⟨S16384x3072, .f32⟩

abbrev bufTy : (tb : Table) → Fin (tcTables nBuf tb) → BufTy
  | .hbm, ⟨i, _⟩ => hbmTy i
  | .local _ .vmem, ⟨0, _⟩ => ⟨S256x3072, .f32⟩
  | .local _ .vmem, ⟨1, _⟩ => ⟨S256x3072, .f32⟩
  | .local _ .vmem, ⟨2, _⟩ => ⟨S256x1024, .f32⟩
  | .local _ .vmem, ⟨3, _⟩ => ⟨S256x1024, .f32⟩
  | .local _ .vmem, ⟨4, _⟩ => ⟨S256x128, .f32⟩
  | .local _ .vmem, ⟨5, _⟩ => ⟨S256x128, .f32⟩
  | .local _ .vmem, ⟨6, _⟩ => ⟨S4x3072, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x1024, .f32⟩
  | .local _ .vmem, ⟨11, _⟩ => ⟨S128x1024, .f32⟩
  | .local _ .vmem, ⟨12, _⟩ => ⟨S128x512, .f32⟩
  | .local _ .vmem, ⟨13, _⟩ => ⟨S64x512, .f32⟩
  | .local _ .vmem, ⟨14, _⟩ => ⟨S64x64, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S256x1024, .f32⟩
  | .local _ .vmem, ⟨19, _⟩ => ⟨S256x1024, .f32⟩
  | .local _ .vmem, ⟨20, _⟩ => ⟨S264x3072, .f32⟩
  | .local _ .vmem, ⟨21, _⟩ => ⟨S8x128x128, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_c_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v17 : Ref sig .tc := ⟨.hbm, 47, rfl⟩
abbrev main_c_5 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_c_6 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_c : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_0 : Ref sig .tc := ⟨.hbm, 72, rfl⟩
abbrev main_call1_v12 : Ref sig .tc := ⟨.hbm, 73, rfl⟩
abbrev main_call1_v13 : Ref sig .tc := ⟨.hbm, 74, rfl⟩
abbrev main_v27 : Ref sig .tc := ⟨.hbm, 75, rfl⟩
abbrev main_c_7 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_c_8 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_v6 : Ref sig .tc := ⟨.hbm, 94, rfl⟩
abbrev main_call2_v7 : Ref sig .tc := ⟨.hbm, 95, rfl⟩
abbrev main_call2_v8 : Ref sig .tc := ⟨.hbm, 96, rfl⟩
abbrev main_call2_c : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_c_0 : Ref sig .tc := ⟨.hbm, 101, rfl⟩
abbrev main_call2_v12 : Ref sig .tc := ⟨.hbm, 102, rfl⟩
abbrev main_call2_v13 : Ref sig .tc := ⟨.hbm, 103, rfl⟩
abbrev main_v38 : Ref sig .tc := ⟨.hbm, 104, rfl⟩
abbrev main_c_9 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_c_10 : Ref sig .tc := ⟨.hbm, 114, rfl⟩
abbrev main_call3_v0 : Ref sig .tc := ⟨.hbm, 115, rfl⟩
abbrev main_call3_c : Ref sig .tc := ⟨.hbm, 116, rfl⟩
abbrev main_call3_v1 : Ref sig .tc := ⟨.hbm, 117, rfl⟩
abbrev main_call3_c_0 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_call3_c_1 : Ref sig .tc := ⟨.hbm, 122, rfl⟩
abbrev main_call3_v5 : Ref sig .tc := ⟨.hbm, 123, rfl⟩
abbrev main_call3_v6 : Ref sig .tc := ⟨.hbm, 124, rfl⟩
abbrev main_call3_c_2 : Ref sig .tc := ⟨.hbm, 125, rfl⟩
abbrev main_call3_v7 : Ref sig .tc := ⟨.hbm, 126, rfl⟩
abbrev main_call3_v8 : Ref sig .tc := ⟨.hbm, 127, rfl⟩
abbrev main_call3_c_3 : Ref sig .tc := ⟨.hbm, 128, rfl⟩
abbrev main_call3_v9 : Ref sig .tc := ⟨.hbm, 129, rfl⟩
abbrev main_call3_v10 : Ref sig .tc := ⟨.hbm, 130, rfl⟩
abbrev main_call3_v11 : Ref sig .tc := ⟨.hbm, 131, rfl⟩
abbrev main_call3_v12 : Ref sig .tc := ⟨.hbm, 132, rfl⟩
abbrev main_call3_v13 : Ref sig .tc := ⟨.hbm, 133, rfl⟩
abbrev main_call3_v14 : Ref sig .tc := ⟨.hbm, 134, rfl⟩
abbrev main_v47 : Ref sig .tc := ⟨.hbm, 135, rfl⟩
abbrev main_v48 : Ref sig .tc := ⟨.hbm, 136, rfl⟩
abbrev main_v49 : Ref sig .tc := ⟨.hbm, 137, rfl⟩
abbrev main_v50 : Ref sig .tc := ⟨.hbm, 138, rfl⟩
abbrev main_v51 : Ref sig .tc := ⟨.hbm, 139, rfl⟩
abbrev main_v52 : Ref sig .tc := ⟨.hbm, 140, rfl⟩
abbrev main_v53 : Ref sig .tc := ⟨.hbm, 141, rfl⟩
abbrev main_v54 : Ref sig .tc := ⟨.hbm, 142, rfl⟩
abbrev main_v55 : Ref sig .tc := ⟨.hbm, 143, rfl⟩
abbrev main_v56 : Ref sig .tc := ⟨.hbm, 144, rfl⟩
abbrev main_v57 : Ref sig .tc := ⟨.hbm, 145, rfl⟩
abbrev main_v58 : Ref sig .tc := ⟨.hbm, 146, rfl⟩
abbrev main_v59 : Ref sig .tc := ⟨.hbm, 147, rfl⟩
abbrev main_v60 : Ref sig .tc := ⟨.hbm, 148, rfl⟩
abbrev main_c_11 : Ref sig .tc := ⟨.hbm, 149, rfl⟩
abbrev main_call4_v0 : Ref sig .tc := ⟨.hbm, 150, rfl⟩
abbrev main_call4_v1 : Ref sig .tc := ⟨.hbm, 151, rfl⟩
abbrev main_call4_v2 : Ref sig .tc := ⟨.hbm, 152, rfl⟩
abbrev main_call4_v3 : Ref sig .tc := ⟨.hbm, 153, rfl⟩
abbrev main_call4_v4 : Ref sig .tc := ⟨.hbm, 154, rfl⟩
abbrev main_call4_v5 : Ref sig .tc := ⟨.hbm, 155, rfl⟩
abbrev main_call4_v6 : Ref sig .tc := ⟨.hbm, 156, rfl⟩
abbrev main_call4_v7 : Ref sig .tc := ⟨.hbm, 157, rfl⟩
abbrev main_call4_v8 : Ref sig .tc := ⟨.hbm, 158, rfl⟩
abbrev main_call4_c : Ref sig .tc := ⟨.hbm, 159, rfl⟩
abbrev main_call4_v9 : Ref sig .tc := ⟨.hbm, 160, rfl⟩
abbrev main_call4_v10 : Ref sig .tc := ⟨.hbm, 161, rfl⟩
abbrev main_call4_v11 : Ref sig .tc := ⟨.hbm, 162, rfl⟩
abbrev main_call4_c_0 : Ref sig .tc := ⟨.hbm, 163, rfl⟩
abbrev main_call4_v12 : Ref sig .tc := ⟨.hbm, 164, rfl⟩
abbrev main_call4_v13 : Ref sig .tc := ⟨.hbm, 165, rfl⟩
abbrev main_v61 : Ref sig .tc := ⟨.hbm, 166, rfl⟩
abbrev main_v62 : Ref sig .tc := ⟨.hbm, 167, rfl⟩
abbrev main_c_12 : Ref sig .tc := ⟨.hbm, 168, rfl⟩
abbrev main_call5_v0 : Ref sig .tc := ⟨.hbm, 169, rfl⟩
abbrev main_call5_v1 : Ref sig .tc := ⟨.hbm, 170, rfl⟩
abbrev main_call5_v2 : Ref sig .tc := ⟨.hbm, 171, rfl⟩
abbrev main_call5_v3 : Ref sig .tc := ⟨.hbm, 172, rfl⟩
abbrev main_call5_v4 : Ref sig .tc := ⟨.hbm, 173, rfl⟩
abbrev main_call5_v5 : Ref sig .tc := ⟨.hbm, 174, rfl⟩
abbrev main_call5_v6 : Ref sig .tc := ⟨.hbm, 175, rfl⟩
abbrev main_call5_v7 : Ref sig .tc := ⟨.hbm, 176, rfl⟩
abbrev main_call5_v8 : Ref sig .tc := ⟨.hbm, 177, rfl⟩
abbrev main_call5_c : Ref sig .tc := ⟨.hbm, 178, rfl⟩
abbrev main_call5_v9 : Ref sig .tc := ⟨.hbm, 179, rfl⟩
abbrev main_call5_v10 : Ref sig .tc := ⟨.hbm, 180, rfl⟩
abbrev main_call5_v11 : Ref sig .tc := ⟨.hbm, 181, rfl⟩
abbrev main_call5_c_0 : Ref sig .tc := ⟨.hbm, 182, rfl⟩
abbrev main_call5_v12 : Ref sig .tc := ⟨.hbm, 183, rfl⟩
abbrev main_call5_v13 : Ref sig .tc := ⟨.hbm, 184, rfl⟩
abbrev main_v63 : Ref sig .tc := ⟨.hbm, 185, rfl⟩
abbrev main_v64 : Ref sig .tc := ⟨.hbm, 186, rfl⟩
abbrev main_v65 : Ref sig .tc := ⟨.hbm, 187, rfl⟩
abbrev main_v66 : Ref sig .tc := ⟨.hbm, 188, rfl⟩
abbrev main_v67 : Ref sig .tc := ⟨.hbm, 189, rfl⟩
abbrev main_c_13 : Ref sig .tc := ⟨.hbm, 190, rfl⟩
abbrev main_call6_v0 : Ref sig .tc := ⟨.hbm, 191, rfl⟩
abbrev main_call6_c : Ref sig .tc := ⟨.hbm, 192, rfl⟩
abbrev main_call6_v1 : Ref sig .tc := ⟨.hbm, 193, rfl⟩
abbrev main_call6_c_0 : Ref sig .tc := ⟨.hbm, 194, rfl⟩
abbrev main_call6_v2 : Ref sig .tc := ⟨.hbm, 195, rfl⟩
abbrev main_call6_v3 : Ref sig .tc := ⟨.hbm, 196, rfl⟩
abbrev main_call6_v4 : Ref sig .tc := ⟨.hbm, 197, rfl⟩
abbrev main_call6_c_1 : Ref sig .tc := ⟨.hbm, 198, rfl⟩
abbrev main_call6_v5 : Ref sig .tc := ⟨.hbm, 199, rfl⟩
abbrev main_call6_v6 : Ref sig .tc := ⟨.hbm, 200, rfl⟩
abbrev main_call6_c_2 : Ref sig .tc := ⟨.hbm, 201, rfl⟩
abbrev main_call6_v7 : Ref sig .tc := ⟨.hbm, 202, rfl⟩
abbrev main_call6_v8 : Ref sig .tc := ⟨.hbm, 203, rfl⟩
abbrev main_call6_c_3 : Ref sig .tc := ⟨.hbm, 204, rfl⟩
abbrev main_call6_v9 : Ref sig .tc := ⟨.hbm, 205, rfl⟩
abbrev main_call6_v10 : Ref sig .tc := ⟨.hbm, 206, rfl⟩
abbrev main_call6_v11 : Ref sig .tc := ⟨.hbm, 207, rfl⟩
abbrev main_call6_v12 : Ref sig .tc := ⟨.hbm, 208, rfl⟩
abbrev main_call6_v13 : Ref sig .tc := ⟨.hbm, 209, rfl⟩
abbrev main_call6_v14 : Ref sig .tc := ⟨.hbm, 210, rfl⟩
abbrev main_v68 : Ref sig .tc := ⟨.hbm, 211, rfl⟩
abbrev main_v69 : Ref sig .tc := ⟨.hbm, 212, rfl⟩
abbrev main_c_14 : Ref sig .tc := ⟨.hbm, 213, rfl⟩
abbrev main_call7_v0 : Ref sig .tc := ⟨.hbm, 214, rfl⟩
abbrev main_call7_c : Ref sig .tc := ⟨.hbm, 215, rfl⟩
abbrev main_call7_v1 : Ref sig .tc := ⟨.hbm, 216, rfl⟩
abbrev main_call7_c_0 : Ref sig .tc := ⟨.hbm, 217, rfl⟩
abbrev main_call7_v2 : Ref sig .tc := ⟨.hbm, 218, rfl⟩
abbrev main_call7_v3 : Ref sig .tc := ⟨.hbm, 219, rfl⟩
abbrev main_call7_v4 : Ref sig .tc := ⟨.hbm, 220, rfl⟩
abbrev main_call7_c_1 : Ref sig .tc := ⟨.hbm, 221, rfl⟩
abbrev main_call7_v5 : Ref sig .tc := ⟨.hbm, 222, rfl⟩
abbrev main_call7_v6 : Ref sig .tc := ⟨.hbm, 223, rfl⟩
abbrev main_call7_c_2 : Ref sig .tc := ⟨.hbm, 224, rfl⟩
abbrev main_call7_v7 : Ref sig .tc := ⟨.hbm, 225, rfl⟩
abbrev main_call7_v8 : Ref sig .tc := ⟨.hbm, 226, rfl⟩
abbrev main_call7_c_3 : Ref sig .tc := ⟨.hbm, 227, rfl⟩
abbrev main_call7_v9 : Ref sig .tc := ⟨.hbm, 228, rfl⟩
abbrev main_call7_v10 : Ref sig .tc := ⟨.hbm, 229, rfl⟩
abbrev main_call7_v11 : Ref sig .tc := ⟨.hbm, 230, rfl⟩
abbrev main_call7_v12 : Ref sig .tc := ⟨.hbm, 231, rfl⟩
abbrev main_call7_v13 : Ref sig .tc := ⟨.hbm, 232, rfl⟩
abbrev main_call7_v14 : Ref sig .tc := ⟨.hbm, 233, rfl⟩
abbrev main_v70 : Ref sig .tc := ⟨.hbm, 234, rfl⟩
abbrev main_v71 : Ref sig .tc := ⟨.hbm, 235, rfl⟩
abbrev main_v72 : Ref sig .tc := ⟨.hbm, 236, rfl⟩
abbrev main_v73 : Ref sig .tc := ⟨.hbm, 237, rfl⟩
abbrev main_v74 : Ref sig .tc := ⟨.hbm, 238, rfl⟩
abbrev main_v75 : Ref sig .tc := ⟨.hbm, 239, rfl⟩
abbrev main_c_15 : Ref sig .tc := ⟨.hbm, 240, rfl⟩
abbrev main_call8_v0 : Ref sig .tc := ⟨.hbm, 241, rfl⟩
abbrev main_call8_c : Ref sig .tc := ⟨.hbm, 242, rfl⟩
abbrev main_call8_v1 : Ref sig .tc := ⟨.hbm, 243, rfl⟩
abbrev main_call8_c_0 : Ref sig .tc := ⟨.hbm, 244, rfl⟩
abbrev main_call8_v2 : Ref sig .tc := ⟨.hbm, 245, rfl⟩
abbrev main_call8_v3 : Ref sig .tc := ⟨.hbm, 246, rfl⟩
abbrev main_call8_v4 : Ref sig .tc := ⟨.hbm, 247, rfl⟩
abbrev main_call8_c_1 : Ref sig .tc := ⟨.hbm, 248, rfl⟩
abbrev main_call8_v5 : Ref sig .tc := ⟨.hbm, 249, rfl⟩
abbrev main_call8_v6 : Ref sig .tc := ⟨.hbm, 250, rfl⟩
abbrev main_call8_c_2 : Ref sig .tc := ⟨.hbm, 251, rfl⟩
abbrev main_call8_v7 : Ref sig .tc := ⟨.hbm, 252, rfl⟩
abbrev main_call8_v8 : Ref sig .tc := ⟨.hbm, 253, rfl⟩
abbrev main_call8_c_3 : Ref sig .tc := ⟨.hbm, 254, rfl⟩
abbrev main_call8_v9 : Ref sig .tc := ⟨.hbm, 255, rfl⟩
abbrev main_call8_v10 : Ref sig .tc := ⟨.hbm, 256, rfl⟩
abbrev main_call8_v11 : Ref sig .tc := ⟨.hbm, 257, rfl⟩
abbrev main_call8_v12 : Ref sig .tc := ⟨.hbm, 258, rfl⟩
abbrev main_call8_v13 : Ref sig .tc := ⟨.hbm, 259, rfl⟩
abbrev main_call8_v14 : Ref sig .tc := ⟨.hbm, 260, rfl⟩
abbrev main_v76 : Ref sig .tc := ⟨.hbm, 261, rfl⟩
abbrev main_v77 : Ref sig .tc := ⟨.hbm, 262, rfl⟩
abbrev main_c_16 : Ref sig .tc := ⟨.hbm, 263, rfl⟩
abbrev main_call9_v0 : Ref sig .tc := ⟨.hbm, 264, rfl⟩
abbrev main_call9_c : Ref sig .tc := ⟨.hbm, 265, rfl⟩
abbrev main_call9_v1 : Ref sig .tc := ⟨.hbm, 266, rfl⟩
abbrev main_call9_c_0 : Ref sig .tc := ⟨.hbm, 267, rfl⟩
abbrev main_call9_v2 : Ref sig .tc := ⟨.hbm, 268, rfl⟩
abbrev main_call9_v3 : Ref sig .tc := ⟨.hbm, 269, rfl⟩
abbrev main_call9_v4 : Ref sig .tc := ⟨.hbm, 270, rfl⟩
abbrev main_call9_c_1 : Ref sig .tc := ⟨.hbm, 271, rfl⟩
abbrev main_call9_v5 : Ref sig .tc := ⟨.hbm, 272, rfl⟩
abbrev main_call9_v6 : Ref sig .tc := ⟨.hbm, 273, rfl⟩
abbrev main_call9_c_2 : Ref sig .tc := ⟨.hbm, 274, rfl⟩
abbrev main_call9_v7 : Ref sig .tc := ⟨.hbm, 275, rfl⟩
abbrev main_call9_v8 : Ref sig .tc := ⟨.hbm, 276, rfl⟩
abbrev main_call9_c_3 : Ref sig .tc := ⟨.hbm, 277, rfl⟩
abbrev main_call9_v9 : Ref sig .tc := ⟨.hbm, 278, rfl⟩
abbrev main_call9_v10 : Ref sig .tc := ⟨.hbm, 279, rfl⟩
abbrev main_call9_v11 : Ref sig .tc := ⟨.hbm, 280, rfl⟩
abbrev main_call9_v12 : Ref sig .tc := ⟨.hbm, 281, rfl⟩
abbrev main_call9_v13 : Ref sig .tc := ⟨.hbm, 282, rfl⟩
abbrev main_call9_v14 : Ref sig .tc := ⟨.hbm, 283, rfl⟩
abbrev main_v78 : Ref sig .tc := ⟨.hbm, 284, rfl⟩
abbrev main_v79 : Ref sig .tc := ⟨.hbm, 285, rfl⟩
abbrev main_v80 : Ref sig .tc := ⟨.hbm, 286, rfl⟩
abbrev main_v81 : Ref sig .tc := ⟨.hbm, 287, rfl⟩
abbrev main_v82 : Ref sig .tc := ⟨.hbm, 288, rfl⟩
abbrev main_cst_17 : Ref sig .tc := ⟨.hbm, 289, rfl⟩
abbrev main_cst_18 : Ref sig .tc := ⟨.hbm, 290, rfl⟩
abbrev main_call10_v0 : Ref sig .tc := ⟨.hbm, 291, rfl⟩
abbrev main_call10_v1 : Ref sig .tc := ⟨.hbm, 292, rfl⟩
abbrev main_v83 : Ref sig .tc := ⟨.hbm, 293, rfl⟩
abbrev main_v84 : Ref sig .tc := ⟨.hbm, 294, rfl⟩
abbrev main_v85 : Ref sig .tc := ⟨.hbm, 295, rfl⟩
abbrev main_v86 : Ref sig .tc := ⟨.hbm, 296, rfl⟩
abbrev main_c_19 : Ref sig .tc := ⟨.hbm, 297, rfl⟩
abbrev main_v87 : Ref sig .tc := ⟨.hbm, 298, rfl⟩
abbrev main_v88 : Ref sig .tc := ⟨.hbm, 299, rfl⟩
abbrev main_v89 : Ref sig .tc := ⟨.hbm, 300, rfl⟩
abbrev main_v90 : Ref sig .tc := ⟨.hbm, 301, rfl⟩
abbrev main_v91 : Ref sig .tc := ⟨.hbm, 302, rfl⟩
abbrev main_v92 : Ref sig .tc := ⟨.hbm, 303, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Proof.SsdFrame.lean ====
/-
  The three frames of the SSD head group, and the references of the reference program that its loop does not write.
-/
module

public import proofs.«01_k».proof.Defs
public import proofs.«01_k».proof.Proof.Gen.Ssd.Frame
public import proofs.«01_k».proof.Proof.Gen.SsdIdeal.Frame
public import proofs.«01_k».proof.Proof.Gen.SsdRefIdeal.Run
public import Idealize.ShloMosaic.Lib.StableHlo.RunRead
public import Idealize.ShloMosaic.Lib.Quiescent

@[expose] public section

set_option maxRecDepth 16384

noncomputable section

namespace Cert.SsdRefKeep

open Idealize.ShloMosaic Idealize.ShloMosaic.TcCoe Idealize.SL.Sem Idealize.ShloMosaic.StableHlo
open Cert.SsdRefIdeal Cert.SsdRefIdeal.Gen Cert.SsdRefIdeal.Value

/-- The references that one trip of the loop writes. -/
abbrev loopW : List (Ref sig .tc) := condOps_W ++ while0Ops0_W ++ while0Ops0_1_W ++ while0Ops0_2_W ++ while0Ops0_3_W ++ while0Ops0_4_W

/-- A reference that no trip writes is after the loop as before it. -/
theorem atTrip_keep (W₀ : Dev nD → Valuation τ sig (Elt Ideal)) (c : Dev nD) (r : Ref sig .tc) (hr : r ∉ loopW) : ∀ k,
    atTrip condOps bodyI W₀ k c (Proc.devRef .tc r) = W₀ c (Proc.devRef .tc r)
  | 0 => rfl
  | k + 1 => by
    have h : ∀ W : List (Ref sig .tc), W ⊆ loopW → r ∉ W := fun W hW h => hr (hW h)
    refine Eq.trans ?_ (atTrip_keep W₀ c r hr k)
    show after while0Ops0_4 (after while0Ops0_3 (after while0Ops0_2 (after while0Ops0_1 (after while0Ops0 (after condOps _))))) _ = _
    rw [after_of_writes_sub _ _ while0Ops0_4_writes (h _ (by intro x hx; simp only [loopW, List.mem_append]; tauto)),
      after_of_writes_sub _ _ while0Ops0_3_writes (h _ (by intro x hx; simp only [loopW, List.mem_append]; tauto)),
      after_of_writes_sub _ _ while0Ops0_2_writes (h _ (by intro x hx; simp only [loopW, List.mem_append]; tauto)),
      after_of_writes_sub _ _ while0Ops0_1_writes (h _ (by intro x hx; simp only [loopW, List.mem_append]; tauto)),
      after_of_writes_sub _ _ while0Ops0_writes (h _ (by intro x hx; simp only [loopW, List.mem_append]; tauto)),
      after_of_writes_sub _ _ condOps_writes (h _ (by intro x hx; simp only [loopW, List.mem_append]; tauto))]

variable (m : (ℓ : Loc nD τ sig) → Buf (Elt Ideal) ℓ)

/-- An argument is not written by the stretches before the loop, by the loop, or by the stretches after it. -/
theorem kept (c : Dev nD) (r : Ref sig .tc) (hpre : ∀ V : Valuation τ sig (Elt Ideal), afterL preI V (Proc.devRef .tc r) = V (Proc.devRef .tc r))
    (hpost : ∀ V : Valuation τ sig (Elt Ideal), afterL postI (after condOps V) (Proc.devRef .tc r) = V (Proc.devRef .tc r)) (hr : r ∉ loopW) (n : ℕ) :
    finalContents condOps preI bodyI postI n m c (Proc.devRef .tc r) = m ((c : Thread nD τ).loc r) :=
  (hpost _).trans ((atTrip_keep _ c r hr n).trans (hpre _))

theorem pre0 (V : Valuation τ sig (Elt Ideal)) : afterL preI V (Proc.devRef .tc main_arg0) = V (Proc.devRef .tc main_arg0) := by
  simp only [preI, afterL_cons, afterL_nil]
  after_reads_simp

theorem post0 (V : Valuation τ sig (Elt Ideal)) : afterL postI (after condOps V) (Proc.devRef .tc main_arg0) = V (Proc.devRef .tc main_arg0) := by
  simp only [postI, afterL_cons, afterL_nil]
  after_reads_simp

theorem kept0 (n : ℕ) (c : Dev nD) : finalContents condOps preI bodyI postI n m c (Proc.devRef .tc main_arg0) = m ((c : Thread nD τ).loc main_arg0) :=
  kept m c main_arg0 pre0 post0 (by decide) n

theorem pre1 (V : Valuation τ sig (Elt Ideal)) : afterL preI V (Proc.devRef .tc main_arg1) = V (Proc.devRef .tc main_arg1) := by
  simp only [preI, afterL_cons, afterL_nil]
  after_reads_simp

theorem post1 (V : Valuation τ sig (Elt Ideal)) : afterL postI (after condOps V) (Proc.devRef .tc main_arg1) = V (Proc.devRef .tc main_arg1) := by
  simp only [postI, afterL_cons, afterL_nil]
  after_reads_simp

theorem kept1 (n : ℕ) (c : Dev nD) : finalContents condOps preI bodyI postI n m c (Proc.devRef .tc main_arg1) = m ((c : Thread nD τ).loc main_arg1) :=
  kept m c main_arg1 pre1 post1 (by decide) n

theorem pre2 (V : Valuation τ sig (Elt Ideal)) : afterL preI V (Proc.devRef .tc main_arg2) = V (Proc.devRef .tc main_arg2) := by
  simp only [preI, afterL_cons, afterL_nil]
  after_reads_simp

theorem post2 (V : Valuation τ sig (Elt Ideal)) : afterL postI (after condOps V) (Proc.devRef .tc main_arg2) = V (Proc.devRef .tc main_arg2) := by
  simp only [postI, afterL_cons, afterL_nil]
  after_reads_simp

theorem kept2 (n : ℕ) (c : Dev nD) : finalContents condOps preI bodyI postI n m c (Proc.devRef .tc main_arg2) = m ((c : Thread nD τ).loc main_arg2) :=
  kept m c main_arg2 pre2 post2 (by decide) n

theorem pre3 (V : Valuation τ sig (Elt Ideal)) : afterL preI V (Proc.devRef .tc main_arg3) = V (Proc.devRef .tc main_arg3) := by
  simp only [preI, afterL_cons, afterL_nil]
  after_reads_simp

theorem post3 (V : Valuation τ sig (Elt Ideal)) : afterL postI (after condOps V) (Proc.devRef .tc main_arg3) = V (Proc.devRef .tc main_arg3) := by
  simp only [postI, afterL_cons, afterL_nil]
  after_reads_simp

theorem kept3 (n : ℕ) (c : Dev nD) : finalContents condOps preI bodyI postI n m c (Proc.devRef .tc main_arg3) = m ((c : Thread nD τ).loc main_arg3) :=
  kept m c main_arg3 pre3 post3 (by decide) n

theorem pre4 (V : Valuation τ sig (Elt Ideal)) : afterL preI V (Proc.devRef .tc main_arg4) = V (Proc.devRef .tc main_arg4) := by
  simp only [preI, afterL_cons, afterL_nil]
  after_reads_simp

theorem post4 (V : Valuation τ sig (Elt Ideal)) : afterL postI (after condOps V) (Proc.devRef .tc main_arg4) = V (Proc.devRef .tc main_arg4) := by
  simp only [postI, afterL_cons, afterL_nil]
  after_reads_simp

theorem kept4 (n : ℕ) (c : Dev nD) : finalContents condOps preI bodyI postI n m c (Proc.devRef .tc main_arg4) = m ((c : Thread nD τ).loc main_arg4) :=
  kept m c main_arg4 pre4 post4 (by decide) n

theorem pre5 (V : Valuation τ sig (Elt Ideal)) : afterL preI V (Proc.devRef .tc main_arg5) = V (Proc.devRef .tc main_arg5) := by
  simp only [preI, afterL_cons, afterL_nil]
  after_reads_simp

theorem post5 (V : Valuation τ sig (Elt Ideal)) : afterL postI (after condOps V) (Proc.devRef .tc main_arg5) = V (Proc.devRef .tc main_arg5) := by
  simp only [postI, afterL_cons, afterL_nil]
  after_reads_simp

theorem kept5 (n : ℕ) (c : Dev nD) : finalContents condOps preI bodyI postI n m c (Proc.devRef .tc main_arg5) = m ((c : Thread nD τ).loc main_arg5) :=
  kept m c main_arg5 pre5 post5 (by decide) n

theorem pre6 (V : Valuation τ sig (Elt Ideal)) : afterL preI V (Proc.devRef .tc main_arg6) = V (Proc.devRef .tc main_arg6) := by
  simp only [preI, afterL_cons, afterL_nil]
  after_reads_simp

theorem post6 (V : Valuation τ sig (Elt Ideal)) : afterL postI (after condOps V) (Proc.devRef .tc main_arg6) = V (Proc.devRef .tc main_arg6) := by
  simp only [postI, afterL_cons, afterL_nil]
  after_reads_simp

theorem kept6 (n : ℕ) (c : Dev nD) : finalContents condOps preI bodyI postI n m c (Proc.devRef .tc main_arg6) = m ((c : Thread nD τ).loc main_arg6) :=
  kept m c main_arg6 pre6 post6 (by decide) n

theorem pre7 (V : Valuation τ sig (Elt Ideal)) : afterL preI V (Proc.devRef .tc main_arg7) = V (Proc.devRef .tc main_arg7) := by
  simp only [preI, afterL_cons, afterL_nil]
  after_reads_simp

theorem post7 (V : Valuation τ sig (Elt Ideal)) : afterL postI (after condOps V) (Proc.devRef .tc main_arg7) = V (Proc.devRef .tc main_arg7) := by
  simp only [postI, afterL_cons, afterL_nil]
  after_reads_simp

theorem kept7 (n : ℕ) (c : Dev nD) : finalContents condOps preI bodyI postI n m c (Proc.devRef .tc main_arg7) = m ((c : Thread nD τ).loc main_arg7) :=
  kept m c main_arg7 pre7 post7 (by decide) n

theorem pre8 (V : Valuation τ sig (Elt Ideal)) : afterL preI V (Proc.devRef .tc main_arg8) = V (Proc.devRef .tc main_arg8) := by
  simp only [preI, afterL_cons, afterL_nil]
  after_reads_simp

theorem post8 (V : Valuation τ sig (Elt Ideal)) : afterL postI (after condOps V) (Proc.devRef .tc main_arg8) = V (Proc.devRef .tc main_arg8) := by
  simp only [postI, afterL_cons, afterL_nil]
  after_reads_simp

theorem kept8 (n : ℕ) (c : Dev nD) : finalContents condOps preI bodyI postI n m c (Proc.devRef .tc main_arg8) = m ((c : Thread nD τ).loc main_arg8) :=
  kept m c main_arg8 pre8 post8 (by decide) n

end Cert.SsdRefKeep

namespace Cert.SsdClaim

open Idealize.ShloMosaic Idealize.ShloMosaic.TcCoe Idealize.SL.Sem Cert.SsdRefKeep

theorem frame_P : Cert.quiescent_Ssd (hSsd := Cert.Ssd.Gen.facts) := fun m ρ _ => Cert.Ssd.Gen.frame m ρ
theorem frame_PI : Cert.quiescent_SsdIdeal (hSsdIdeal := Cert.SsdIdeal.Gen.facts) := fun m ρ _ => Cert.SsdIdeal.Gen.frame m ρ
theorem frame_RI : Cert.quiescent_SsdRefIdeal (hSsdRefIdeal := Cert.SsdRefIdeal.Gen.facts) := fun m ρ _ =>
  (θ_run _ _ _).mono (fun r h => ⟨fun c => ⟨(h c Cert.SsdRefIdeal.main_arg0 rfl).trans (kept0 m 128 c),
      (h c Cert.SsdRefIdeal.main_arg1 rfl).trans (kept1 m 128 c),
      (h c Cert.SsdRefIdeal.main_arg2 rfl).trans (kept2 m 128 c),
      (h c Cert.SsdRefIdeal.main_arg3 rfl).trans (kept3 m 128 c),
      (h c Cert.SsdRefIdeal.main_arg4 rfl).trans (kept4 m 128 c),
      (h c Cert.SsdRefIdeal.main_arg5 rfl).trans (kept5 m 128 c),
      (h c Cert.SsdRefIdeal.main_arg6 rfl).trans (kept6 m 128 c),
      (h c Cert.SsdRefIdeal.main_arg7 rfl).trans (kept7 m 128 c),
      (h c Cert.SsdRefIdeal.main_arg8 rfl).trans (kept8 m 128 c)⟩, sem_eq_zero_of_no_sems (by decide) r.2⟩)
    (Cert.SsdRefIdeal.Value.run_fold (F := Ideal) m ρ)

end Cert.SsdClaim

end
-- ==== Proof.SsdChunk.lean ====
/-
  The state-space kernel works on 64-row chunks, four per block. Here one chunk is written once as a function of its
  rows and of the carried state (`outC`, `st0`, `st1`); the four chunks' printed terms are that function (`chunk*`).
-/
module

public import proofs.«01_k».proof.Proof.Gen.SsdIdeal.Skeleton
public import Idealize.ShloMosaic.Lib.Pointwise

@[expose] public section

set_option maxRecDepth 16384

noncomputable section

namespace Cert.SsdChunk

open Cert.SsdIdeal Cert.SsdIdeal.Gen Idealize.ShloMosaic Idealize.ShloMosaic.TcCoe Idealize.SL.Sem Idealize.ShloMosaic.Tactic
open Idealize.ShloMosaic.Pipeline (Dat)

/-- The tables and weights that every chunk reads. -/
structure Par where
  (w0 w1 w2 w3 b : Vec Ideal S1x1536 .f32)
  (dtb aneg : Vec Ideal S1x128 .f32)
  (expand : Vec Ideal S128x1024 .f32)
  (tri : Vec Ideal S64x64 .f32)
  (eye neg : Vec Ideal S64x1024 .f32)
  (bd : Vec Ideal S256x256 .f32)
  (dsk nw : Vec Ideal S1x1024 .f32)

/-- A chunk's rows: the convolution's four shifted windows, the step sizes and the gate. -/
structure Rows where
  (e0 e1 e2 e3 : Vec Ideal S64x1536 .f32)
  (sm : Vec Ideal S64x128 .f32)
  (z : Vec Ideal S64x1024 .f32)

variable (p : Par) (k : Rows) (s0 s1 : Vec Ideal S1x128x512 .f32)

def xc : FVec Ideal S64x1536 .f32 := k0_pay39 k.e0 p.w0 k.e1 p.w1 k.e2 p.w2 k.e3 p.w3 p.b
def xs : FVec Ideal S64x1024 .f32 := k0_pay40 (xc p k)
def bm : FVec Ideal S64x256 .f32 := k0_pay41 (xc p k)
def cm : FVec Ideal S64x256 .f32 := k0_pay42 (xc p k)
def dte : FVec Ideal S64x1024 .f32 := k0_pay44 k.sm p.dtb p.expand
def lace : FVec Ideal S64x1024 .f32 := k0_pay45 k.sm p.dtb p.aneg p.tri p.expand
def last : FVec Ideal S1x1024 .f32 := k0_pay46 k.sm p.dtb p.aneg p.tri p.expand
def gap : FVec Ideal S64x1024 .f32 := k0_pay47 k.sm p.dtb p.aneg p.tri p.expand p.eye
def yd0 : FVec Ideal S64x512 .f32 := k0_pay55 (xs p k) (bm p k) (cm p k) (dte p k) (gap p k) p.neg p.bd p.bd
def yd1 : FVec Ideal S64x512 .f32 := k0_pay65 (bm p k) (cm p k) (k0_pay48 (gap p k) p.neg) (k0_pay49 (xs p k) (dte p k)) p.bd p.bd
def yo0 : FVec Ideal S64x512 .f32 := k0_pay57 (cm p k) (lace p k) s0
def yo1 : FVec Ideal S64x512 .f32 := k0_pay67 (cm p k) (k0_pay51 (lace p k)) s1
/-- The state that the chunk leaves in each half. -/
def st0 : FVec Ideal S1x128x512 .f32 :=
  k0_pay61 (k0_pay58 (last p k) s0) (k0_pay59 (xs p k) (dte p k) (lace p k) (last p k)) (k0_pay60 (bm p k))
def st1 : FVec Ideal S1x128x512 .f32 :=
  k0_pay69 (k0_pay50 (xs p k) (dte p k) (lace p k) (last p k)) (k0_pay63 (bm p k)) (k0_pay68 (k0_pay52 (last p k)) s1)
/-- The rows that the chunk stores. -/
def outC : FVec Ideal S64x1024 .f32 :=
  k0_pay71 (k0_pay70 (xs p k) (k0_pay62 (yd0 p k) (yo0 p k s0)) (yd1 p k) (yo1 p k s1) p.dsk k.z) p.nw

theorem chunk0 :
    k0_pay38 (k0_pay35 (k0_pay9 (k0_pay6 k.e0 p.w0 k.e1 p.w1 k.e2 p.w2) k.e3 (k0_pay7 p.w3) p.b) (k0_pay20 (k0_pay14 k.sm p.dtb p.aneg p.tri
      p.expand)) (k0_pay28 (k0_pay20 (k0_pay14 k.sm p.dtb p.aneg p.tri p.expand)) (k0_pay24 (k0_pay9 (k0_pay6 k.e0 p.w0 k.e1 p.w1 k.e2 p.w2) k.e3
      (k0_pay7 p.w3) p.b) (k0_pay10 (k0_pay6 k.e0 p.w0 k.e1 p.w1 k.e2 p.w2) k.e3 (k0_pay7 p.w3) p.b) (k0_pay11 (k0_pay6 k.e0 p.w0 k.e1 p.w1 k.e2 p.w2)
      k.e3 (k0_pay7 p.w3) p.b) (k0_pay13 k.sm p.dtb p.expand) (k0_pay14 k.sm p.dtb p.aneg p.tri p.expand) (k0_pay15 p.eye) p.neg p.bd p.bd) (k0_pay25
      s0) (k0_pay26 (k0_pay11 (k0_pay6 k.e0 p.w0 k.e1 p.w1 k.e2 p.w2) k.e3 (k0_pay7 p.w3) p.b))) (k0_pay30 (k0_pay11 (k0_pay6 k.e0 p.w0 k.e1 p.w1 k.e2
      p.w2) k.e3 (k0_pay7 p.w3) p.b)) (k0_pay31 (k0_pay10 (k0_pay6 k.e0 p.w0 k.e1 p.w1 k.e2 p.w2) k.e3 (k0_pay7 p.w3) p.b) (k0_pay11 (k0_pay6 k.e0
      p.w0 k.e1 p.w1 k.e2 p.w2) k.e3 (k0_pay7 p.w3) p.b) (k0_pay17 (k0_pay14 k.sm p.dtb p.aneg p.tri p.expand) (k0_pay15 p.eye) p.neg) (k0_pay18
      (k0_pay9 (k0_pay6 k.e0 p.w0 k.e1 p.w1 k.e2 p.w2) k.e3 (k0_pay7 p.w3) p.b) (k0_pay13 k.sm p.dtb p.expand)) p.bd p.bd) s1 p.dsk k.z) (k0_pay36
      (k0_pay9 (k0_pay6 k.e0 p.w0 k.e1 p.w1 k.e2 p.w2) k.e3 (k0_pay7 p.w3) p.b) (k0_pay20 (k0_pay14 k.sm p.dtb p.aneg p.tri p.expand)) (k0_pay28
      (k0_pay20 (k0_pay14 k.sm p.dtb p.aneg p.tri p.expand)) (k0_pay24 (k0_pay9 (k0_pay6 k.e0 p.w0 k.e1 p.w1 k.e2 p.w2) k.e3 (k0_pay7 p.w3) p.b)
      (k0_pay10 (k0_pay6 k.e0 p.w0 k.e1 p.w1 k.e2 p.w2) k.e3 (k0_pay7 p.w3) p.b) (k0_pay11 (k0_pay6 k.e0 p.w0 k.e1 p.w1 k.e2 p.w2) k.e3 (k0_pay7 p.w3)
      p.b) (k0_pay13 k.sm p.dtb p.expand) (k0_pay14 k.sm p.dtb p.aneg p.tri p.expand) (k0_pay15 p.eye) p.neg p.bd p.bd) (k0_pay25 s0) (k0_pay26
      (k0_pay11 (k0_pay6 k.e0 p.w0 k.e1 p.w1 k.e2 p.w2) k.e3 (k0_pay7 p.w3) p.b))) (k0_pay30 (k0_pay11 (k0_pay6 k.e0 p.w0 k.e1 p.w1 k.e2 p.w2) k.e3
      (k0_pay7 p.w3) p.b)) (k0_pay31 (k0_pay10 (k0_pay6 k.e0 p.w0 k.e1 p.w1 k.e2 p.w2) k.e3 (k0_pay7 p.w3) p.b) (k0_pay11 (k0_pay6 k.e0 p.w0 k.e1 p.w1
      k.e2 p.w2) k.e3 (k0_pay7 p.w3) p.b) (k0_pay17 (k0_pay14 k.sm p.dtb p.aneg p.tri p.expand) (k0_pay15 p.eye) p.neg) (k0_pay18 (k0_pay9 (k0_pay6
      k.e0 p.w0 k.e1 p.w1 k.e2 p.w2) k.e3 (k0_pay7 p.w3) p.b) (k0_pay13 k.sm p.dtb p.expand)) p.bd p.bd) s1 p.dsk k.z) (k0_pay37 (k0_pay9 (k0_pay6
      k.e0 p.w0 k.e1 p.w1 k.e2 p.w2) k.e3 (k0_pay7 p.w3) p.b) (k0_pay20 (k0_pay14 k.sm p.dtb p.aneg p.tri p.expand)) (k0_pay28 (k0_pay20 (k0_pay14
      k.sm p.dtb p.aneg p.tri p.expand)) (k0_pay24 (k0_pay9 (k0_pay6 k.e0 p.w0 k.e1 p.w1 k.e2 p.w2) k.e3 (k0_pay7 p.w3) p.b) (k0_pay10 (k0_pay6 k.e0
      p.w0 k.e1 p.w1 k.e2 p.w2) k.e3 (k0_pay7 p.w3) p.b) (k0_pay11 (k0_pay6 k.e0 p.w0 k.e1 p.w1 k.e2 p.w2) k.e3 (k0_pay7 p.w3) p.b) (k0_pay13 k.sm
      p.dtb p.expand) (k0_pay14 k.sm p.dtb p.aneg p.tri p.expand) (k0_pay15 p.eye) p.neg p.bd p.bd) (k0_pay25 s0) (k0_pay26 (k0_pay11 (k0_pay6 k.e0
      p.w0 k.e1 p.w1 k.e2 p.w2) k.e3 (k0_pay7 p.w3) p.b))) (k0_pay30 (k0_pay11 (k0_pay6 k.e0 p.w0 k.e1 p.w1 k.e2 p.w2) k.e3 (k0_pay7 p.w3) p.b))
      (k0_pay31 (k0_pay10 (k0_pay6 k.e0 p.w0 k.e1 p.w1 k.e2 p.w2) k.e3 (k0_pay7 p.w3) p.b) (k0_pay11 (k0_pay6 k.e0 p.w0 k.e1 p.w1 k.e2 p.w2) k.e3
      (k0_pay7 p.w3) p.b) (k0_pay17 (k0_pay14 k.sm p.dtb p.aneg p.tri p.expand) (k0_pay15 p.eye) p.neg) (k0_pay18 (k0_pay9 (k0_pay6 k.e0 p.w0 k.e1
      p.w1 k.e2 p.w2) k.e3 (k0_pay7 p.w3) p.b) (k0_pay13 k.sm p.dtb p.expand)) p.bd p.bd) s1 p.dsk k.z) p.nw
      = outC p k s0 s1 := by
  dsimp only [outC, st0, st1, yd0, yd1, yo0, yo1, gap, last, lace, dte, cm, bm, xs, xc, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
theorem chunk0_st0 :
    k0_pay27 (k0_pay19 (k0_pay9 (k0_pay6 k.e0 p.w0 k.e1 p.w1 k.e2 p.w2) k.e3 (k0_pay7 p.w3) p.b) (k0_pay13 k.sm p.dtb p.expand) (k0_pay14 k.sm p.dtb
      p.aneg p.tri p.expand)) (k0_pay21 (k0_pay14 k.sm p.dtb p.aneg p.tri p.expand)) (k0_pay22 (k0_pay10 (k0_pay6 k.e0 p.w0 k.e1 p.w1 k.e2 p.w2) k.e3
      (k0_pay7 p.w3) p.b)) (k0_pay25 s0)
      = st0 p k s0 := by
  dsimp only [outC, st0, st1, yd0, yd1, yo0, yo1, gap, last, lace, dte, cm, bm, xs, xc, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
theorem chunk0_st1 :
    k0_pay33 (k0_pay19 (k0_pay9 (k0_pay6 k.e0 p.w0 k.e1 p.w1 k.e2 p.w2) k.e3 (k0_pay7 p.w3) p.b) (k0_pay13 k.sm p.dtb p.expand) (k0_pay14 k.sm p.dtb
      p.aneg p.tri p.expand)) (k0_pay21 (k0_pay14 k.sm p.dtb p.aneg p.tri p.expand)) (k0_pay29 (k0_pay10 (k0_pay6 k.e0 p.w0 k.e1 p.w1 k.e2 p.w2) k.e3
      (k0_pay7 p.w3) p.b)) s1
      = st1 p k s1 := by
  dsimp only [outC, st0, st1, yd0, yd1, yo0, yo1, gap, last, lace, dte, cm, bm, xs, xc, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]

theorem chunk1 :
    k0_pay71 (k0_pay70 (k0_pay40 (k0_pay39 k.e0 p.w0 k.e1 p.w1 k.e2 p.w2 k.e3 p.w3 p.b)) (k0_pay62 (k0_pay55 (k0_pay40 (k0_pay39 k.e0 p.w0 k.e1 p.w1
      k.e2 p.w2 k.e3 p.w3 p.b)) (k0_pay41 (k0_pay39 k.e0 p.w0 k.e1 p.w1 k.e2 p.w2 k.e3 p.w3 p.b)) (k0_pay42 (k0_pay39 k.e0 p.w0 k.e1 p.w1 k.e2 p.w2
      k.e3 p.w3 p.b)) (k0_pay44 k.sm p.dtb p.expand) (k0_pay47 k.sm p.dtb p.aneg p.tri p.expand p.eye) (p.neg) p.bd p.bd) (k0_pay57 (k0_pay42
      (k0_pay39 k.e0 p.w0 k.e1 p.w1 k.e2 p.w2 k.e3 p.w3 p.b)) (k0_pay45 k.sm p.dtb p.aneg p.tri p.expand) s0)) (k0_pay65 (k0_pay41 (k0_pay39 k.e0 p.w0
      k.e1 p.w1 k.e2 p.w2 k.e3 p.w3 p.b)) (k0_pay42 (k0_pay39 k.e0 p.w0 k.e1 p.w1 k.e2 p.w2 k.e3 p.w3 p.b)) (k0_pay48 (k0_pay47 k.sm p.dtb p.aneg
      p.tri p.expand p.eye) (p.neg)) (k0_pay49 (k0_pay40 (k0_pay39 k.e0 p.w0 k.e1 p.w1 k.e2 p.w2 k.e3 p.w3 p.b)) (k0_pay44 k.sm p.dtb p.expand)) p.bd
      p.bd) (k0_pay67 (k0_pay42 (k0_pay39 k.e0 p.w0 k.e1 p.w1 k.e2 p.w2 k.e3 p.w3 p.b)) (k0_pay51 (k0_pay45 k.sm p.dtb p.aneg p.tri p.expand)) s1)
      p.dsk k.z) p.nw
      = outC p k s0 s1 := by
  simp only [outC, st0, st1, yd0, yd1, yo0, yo1, gap, last, lace, dte, cm, bm, xs, xc]
theorem chunk1_st0 :
    k0_pay61 (k0_pay58 (k0_pay46 k.sm p.dtb p.aneg p.tri p.expand) s0) (k0_pay59 (k0_pay40 (k0_pay39 k.e0 p.w0 k.e1 p.w1 k.e2 p.w2 k.e3 p.w3 p.b))
      (k0_pay44 k.sm p.dtb p.expand) (k0_pay45 k.sm p.dtb p.aneg p.tri p.expand) (k0_pay46 k.sm p.dtb p.aneg p.tri p.expand)) (k0_pay60 (k0_pay41
      (k0_pay39 k.e0 p.w0 k.e1 p.w1 k.e2 p.w2 k.e3 p.w3 p.b)))
      = st0 p k s0 := by
  simp only [outC, st0, st1, yd0, yd1, yo0, yo1, gap, last, lace, dte, cm, bm, xs, xc]
theorem chunk1_st1 :
    k0_pay69 (k0_pay50 (k0_pay40 (k0_pay39 k.e0 p.w0 k.e1 p.w1 k.e2 p.w2 k.e3 p.w3 p.b)) (k0_pay44 k.sm p.dtb p.expand) (k0_pay45 k.sm p.dtb p.aneg
      p.tri p.expand) (k0_pay46 k.sm p.dtb p.aneg p.tri p.expand)) (k0_pay63 (k0_pay41 (k0_pay39 k.e0 p.w0 k.e1 p.w1 k.e2 p.w2 k.e3 p.w3 p.b)))
      (k0_pay68 (k0_pay52 (k0_pay46 k.sm p.dtb p.aneg p.tri p.expand)) s1)
      = st1 p k s1 := by
  simp only [outC, st0, st1, yd0, yd1, yo0, yo1, gap, last, lace, dte, cm, bm, xs, xc]

theorem chunk2 :
    k0_pay99 (k0_pay73 k.e0 p.w0 k.e1 p.w1 k.e2 p.w2 k.e3 p.w3 p.b) (k0_pay91 (k0_pay87 (k0_pay74 k.e0 p.w0 k.e1 p.w1 k.e2 p.w2 k.e3 p.w3 p.b)
      (k0_pay75 k.e0 p.w0 k.e1 p.w1 k.e2 p.w2 k.e3 p.w3 p.b) (k0_pay80 (k.sm) (k0_pay76 p.dtb) p.aneg p.tri p.expand p.eye p.neg) (k0_pay81 (k0_pay73
      k.e0 p.w0 k.e1 p.w1 k.e2 p.w2 k.e3 p.w3 p.b) (k.sm) (k0_pay76 p.dtb) p.expand) p.bd p.bd) (k0_pay89 (k0_pay75 k.e0 p.w0 k.e1 p.w1 k.e2 p.w2 k.e3
      p.w3 p.b) (k0_pay83 (k.sm) (k0_pay76 p.dtb) p.aneg p.tri p.expand) s0)) (k0_pay94 (k0_pay74 k.e0 p.w0 k.e1 p.w1 k.e2 p.w2 k.e3 p.w3 p.b)
      (k0_pay75 k.e0 p.w0 k.e1 p.w1 k.e2 p.w2 k.e3 p.w3 p.b) (k0_pay80 (k.sm) (k0_pay76 p.dtb) p.aneg p.tri p.expand p.eye p.neg) (k0_pay81 (k0_pay73
      k.e0 p.w0 k.e1 p.w1 k.e2 p.w2 k.e3 p.w3 p.b) (k.sm) (k0_pay76 p.dtb) p.expand) p.bd p.bd) (k0_pay96 (k0_pay75 k.e0 p.w0 k.e1 p.w1 k.e2 p.w2 k.e3
      p.w3 p.b) (k0_pay83 (k.sm) (k0_pay76 p.dtb) p.aneg p.tri p.expand) s1) p.dsk k.z p.nw
      = outC p k s0 s1 := by
  dsimp only [outC, st0, st1, yd0, yd1, yo0, yo1, gap, last, lace, dte, cm, bm, xs, xc, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99]
theorem chunk2_st0 :
    (k0_pay90 (k0_pay74 k.e0 p.w0 k.e1 p.w1 k.e2 p.w2 k.e3 p.w3 p.b) (k0_pay82 (k0_pay73 k.e0 p.w0 k.e1 p.w1 k.e2 p.w2 k.e3 p.w3 p.b) (k.sm) (k0_pay76
      p.dtb) p.aneg p.tri p.expand p.expand) (k0_pay84 (k.sm) (k0_pay76 p.dtb) p.aneg p.tri p.expand) s0)
      = st0 p k s0 := by
  dsimp only [outC, st0, st1, yd0, yd1, yo0, yo1, gap, last, lace, dte, cm, bm, xs, xc, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99]
theorem chunk2_st1 :
    k0_pay98 (k0_pay97 (k0_pay74 k.e0 p.w0 k.e1 p.w1 k.e2 p.w2 k.e3 p.w3 p.b) (k0_pay82 (k0_pay73 k.e0 p.w0 k.e1 p.w1 k.e2 p.w2 k.e3 p.w3 p.b) (k.sm)
      (k0_pay76 p.dtb) p.aneg p.tri p.expand p.expand) (k0_pay84 (k.sm) (k0_pay76 p.dtb) p.aneg p.tri p.expand) s1)
      = st1 p k s1 := by
  dsimp only [outC, st0, st1, yd0, yd1, yo0, yo1, gap, last, lace, dte, cm, bm, xs, xc, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99]

theorem chunk3 :
    k0_pay1 (k0_pay130 (k0_pay101 k.e0 p.w0 k.e1 p.w1 k.e2 p.w2 k.e3 p.w3 p.b) (k0_pay128 (k0_pay111 (k0_pay101 k.e0 p.w0 k.e1 p.w1 k.e2 p.w2 k.e3
      p.w3 p.b) (k0_pay105 k.sm p.dtb) (k0_pay106 k.sm p.dtb) p.expand) (k0_pay113 (k0_pay105 k.sm p.dtb) (k0_pay106 k.sm p.dtb) p.aneg p.tri
      p.expand) (k0_pay121 (k0_pay111 (k0_pay101 k.e0 p.w0 k.e1 p.w1 k.e2 p.w2 k.e3 p.w3 p.b) (k0_pay105 k.sm p.dtb) (k0_pay106 k.sm p.dtb) p.expand)
      (k0_pay113 (k0_pay105 k.sm p.dtb) (k0_pay106 k.sm p.dtb) p.aneg p.tri p.expand) (k0_pay116 (k0_pay103 k.e0 p.w0 k.e1 p.w1 k.e2 p.w2 k.e3 p.w3
      p.b)) (k0_pay117 (k0_pay102 k.e0 p.w0 k.e1 p.w1 k.e2 p.w2 k.e3 p.w3 p.b) (k0_pay103 k.e0 p.w0 k.e1 p.w1 k.e2 p.w2 k.e3 p.w3 p.b) (k0_pay105 k.sm
      p.dtb) (k0_pay106 k.sm p.dtb) p.aneg p.tri p.expand p.eye p.neg) (k0_pay118 (k0_pay101 k.e0 p.w0 k.e1 p.w1 k.e2 p.w2 k.e3 p.w3 p.b) (k0_pay105
      k.sm p.dtb) (k0_pay106 k.sm p.dtb) p.expand) p.bd p.bd s0) (k0_pay123 (k0_pay103 k.e0 p.w0 k.e1 p.w1 k.e2 p.w2 k.e3 p.w3 p.b)) (k0_pay124
      (k0_pay102 k.e0 p.w0 k.e1 p.w1 k.e2 p.w2 k.e3 p.w3 p.b) (k0_pay103 k.e0 p.w0 k.e1 p.w1 k.e2 p.w2 k.e3 p.w3 p.b)) (k0_pay125 (k0_pay110
      (k0_pay105 k.sm p.dtb) (k0_pay106 k.sm p.dtb) p.aneg p.tri p.expand p.eye p.neg)) p.bd p.bd s1) (k0_pay129 p.dsk) k.z) (k0_pay131 p.nw)
      = outC p k s0 s1 := by
  dsimp only [outC, st0, st1, yd0, yd1, yo0, yo1, gap, last, lace, dte, cm, bm, xs, xc, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay1, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131]
theorem chunk3_st0 :
    k0_pay120 (k0_pay112 (k0_pay101 k.e0 p.w0 k.e1 p.w1 k.e2 p.w2 k.e3 p.w3 p.b) (k0_pay105 k.sm p.dtb) (k0_pay106 k.sm p.dtb) p.aneg p.tri p.expand
      p.expand) (k0_pay114 (k0_pay105 k.sm p.dtb) (k0_pay106 k.sm p.dtb) p.aneg p.tri p.expand) (k0_pay115 (k0_pay102 k.e0 p.w0 k.e1 p.w1 k.e2 p.w2
      k.e3 p.w3 p.b)) s0
      = st0 p k s0 := by
  dsimp only [outC, st0, st1, yd0, yd1, yo0, yo1, gap, last, lace, dte, cm, bm, xs, xc, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay1, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131]
theorem chunk3_st1 :
    k0_pay127 (k0_pay112 (k0_pay101 k.e0 p.w0 k.e1 p.w1 k.e2 p.w2 k.e3 p.w3 p.b) (k0_pay105 k.sm p.dtb) (k0_pay106 k.sm p.dtb) p.aneg p.tri p.expand
      p.expand) (k0_pay114 (k0_pay105 k.sm p.dtb) (k0_pay106 k.sm p.dtb) p.aneg p.tri p.expand) (k0_pay122 (k0_pay102 k.e0 p.w0 k.e1 p.w1 k.e2 p.w2
      k.e3 p.w3 p.b)) s1
      = st1 p k s1 := by
  dsimp only [outC, st0, st1, yd0, yd1, yo0, yo1, gap, last, lace, dte, cm, bm, xs, xc, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay1, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131]

end Cert.SsdChunk

end

end
-- ==== Proof.SsdSpec.lean ====
/-
  One chunk of the state-space recurrence over the extended reals, and the recurrence over the chunks of a sequence.
-/
module

public import Idealize.ShloMosaic.Lib.Pointwise

@[expose] public section

noncomputable section

namespace Cert.SsdSpec

open Idealize.ShloMosaic

/-- A chunk: the convolved rows, the step sizes, the running decay sums, and the gate. -/
structure Ch where
  X : Fin 64 → Fin 1536 → EReal
  dt : Fin 64 → Fin 16 → EReal
  lac : Fin 64 → Fin 16 → EReal
  z : Fin 64 → Fin 1024 → EReal

/-- The head of a lane. -/
def hd (c : Fin 1024) : Fin 16 := ⟨c.val / 64, by omega⟩
/-- The columns of a lane: its own, and its group's keys and queries. -/
def xN (c : Fin 1024) : Fin 1536 := ⟨c.val, by omega⟩
def bN (c : Fin 1024) (n : Fin 128) : Fin 1536 := ⟨1024 + 128 * (c.val / 512) + n.val, by omega⟩
def cN (c : Fin 1024) (n : Fin 128) : Fin 1536 := ⟨1280 + 128 * (c.val / 512) + n.val, by omega⟩

variable (k : Ch) (S : Fin 128 → Fin 1024 → EReal)

/-- What a chunk's own rows contribute. -/
def ydiag (l : Fin 64) (c : Fin 1024) : EReal :=
  ∑ s : Fin 64, (∑ n : Fin 128, k.X l (cN c n) * k.X s (bN c n)) *
    (if s.val ≤ l.val then Ideal.exp (k.lac l (hd c) - k.lac s (hd c)) else 0) * (k.X s (xN c) * k.dt s (hd c))

/-- What the state before it contributes. -/
def yoff (l : Fin 64) (c : Fin 1024) : EReal := (∑ n : Fin 128, k.X l (cN c n) * S n c) * Ideal.exp (k.lac l (hd c))

/-- The state after it. -/
def next (n : Fin 128) (c : Fin 1024) : EReal :=
  S n c * Ideal.exp (k.lac 63 (hd c)) +
    ∑ l : Fin 64, k.X l (bN c n) * (k.X l (xN c) * k.dt l (hd c) * Ideal.exp (k.lac 63 (hd c) - k.lac l (hd c)))

/-- The gated rows. -/
def gated (d : Fin 1024 → EReal) (l : Fin 64) (c : Fin 1024) : EReal :=
  (ydiag k l c + yoff k S l c + d c * k.X l (xN c)) * (k.z l c * Ideal.logistic (k.z l c))

/-- The mean of squares of a lane's group. -/
def ms (d : Fin 1024 → EReal) (l : Fin 64) (g : Fin 2) : EReal :=
  Ideal.div (∑ i : Fin 512, gated k S d l ⟨512 * g.val + i.val, by omega⟩ * gated k S d l ⟨512 * g.val + i.val, by omega⟩) (Ideal.ofBits .f32 0x44000000#32)

/-- The normalized rows. -/
def out (d nw : Fin 1024 → EReal) (l : Fin 64) (c : Fin 1024) : EReal :=
  gated k S d l c * Ideal.rsqrt (ms k S d l ⟨c.val / 512, by omega⟩ + Ideal.ofBits .f32 0x358637BD#32) * nw c

/-- The state before the `j`-th chunk of a sequence. -/
def state (ks : Nat → Ch) : Nat → Fin 128 → Fin 1024 → EReal
  | 0 => fun _ _ => 0
  | j + 1 => next (ks j) (state ks j)

end Cert.SsdSpec
end
end
-- ==== Proof.SsdRead.lean ====
/-
  One chunk of the state-space kernel, read at an index over the extended reals: the tables are 0/1 masks, so a
  product with one is a selection; what is left is the recurrence's own arithmetic.
-/
module

public import proofs.«01_k».proof.Proof.SsdChunk
public import proofs.«01_k».proof.Proof.SsdSpec
public import Idealize.ShloMosaic.Lib.Pointwise

@[expose] public section

set_option maxRecDepth 16384
set_option maxHeartbeats 4000000

noncomputable section

namespace Cert.SsdRead

open Cert.SsdIdeal Cert.SsdIdeal.Gen Idealize.ShloMosaic Idealize.ShloMosaic.TcCoe Idealize.SL.Sem Idealize.ShloMosaic.Tactic Cert.SsdChunk
open Idealize.ShloMosaic.Pipeline (Dat)

/-- The tables are the masks their names say. -/
structure Tab (p : Par) : Prop where
  ex : ∀ (j : Fin 128) (c : Fin 1024), p.expand (ix2 j c) = if j.val = c.val / 64 then (1 : EReal) else 0
  tr : ∀ l s : Fin 64, p.tri (ix2 l s) = if s.val ≤ l.val then (1 : EReal) else 0
  ey : ∀ (l : Fin 64) (c : Fin 1024), p.eye (ix2 l c) = if l.val = c.val % 64 then (1 : EReal) else 0
  ng : ∀ (l : Fin 64) (c : Fin 1024), p.neg (ix2 l c) = if c.val % 64 ≤ l.val then (0 : EReal) else ⊥
  bl : ∀ i j : Fin 256, p.bd (ix2 i j) = if i.val / 64 = j.val / 64 then (1 : EReal) else 0

variable (p : Par) (k : Rows) (s0 s1 : Vec Ideal S1x128x512 .f32) (tb : Tab p)

/-- The step size of a row, per lane. -/
def dt (l : Fin 64) (j : Fin 128) : EReal := k0_pay43 (F := Ideal) k.sm p.dtb (ix2 l j)

/-- Its running sum of decays. -/
def lac (l : Fin 64) (j : Fin 128) : EReal := ∑ s : Fin 64, if s.val ≤ l.val then dt p k s j * p.aneg (ix2 0 j) else 0

def hd (c : Fin 1024) : Fin 128 := ⟨c.val / 64, by omega⟩

theorem pick {n : Nat} (f : Fin n → EReal) (i : Fin n) (g : Fin n → Prop) [DecidablePred g] (h : ∀ j, g j ↔ j = i) :
    (∑ j, f j * (if g j then 1 else 0)) = f i := by
  rw [Finset.sum_eq_single i]
  · rw [if_pos ((h i).mpr rfl), mul_one]
  · intro j _ hj
    rw [if_neg (fun hg => hj ((h j).mp hg)), mul_zero]
  · intro hi; exact absurd (Finset.mem_univ i) hi

include tb

theorem dte_at (l : Fin 64) (c : Fin 1024) : dte p k (ix2 l c) = dt p k l (hd c) := by
  have h : dte p k (ix2 l c) = ∑ j : Fin 128, dt p k l j * p.expand (ix2 j c) := by
    unfold dte dt
    pointwise [k0_pay44, dot_S64x128_S128x1024_S64x1024_1_0_0_1_n_n]
  rw [h]
  simp only [tb.ex]
  exact pick _ (hd c) _ fun j => ⟨fun h => Fin.ext h, fun h => h ▸ rfl⟩

theorem lace_at (l : Fin 64) (c : Fin 1024) : lace p k (ix2 l c) = lac p k l (hd c) := by
  have h : lace p k (ix2 l c) = ∑ j : Fin 128, (∑ s : Fin 64, p.tri (ix2 l s) * (dt p k s j * p.aneg (ix2 0 j))) * p.expand (ix2 j c) := by
    unfold lace dt
    pointwise [k0_pay45, dot_S64x128_S128x1024_S64x1024_1_0_0_1_n_n, dot_S64x64_S64x128_S64x128_1_0_0_1_n_n]
  rw [h]
  simp only [tb.ex, tb.tr]
  refine (pick _ (hd c) _ fun j => ⟨fun h => Fin.ext h, fun h => h ▸ rfl⟩).trans ?_
  unfold lac
  simp only [ite_mul, one_mul, zero_mul]

theorem last_at (c : Fin 1024) : last p k (ix2 0 c) = lac p k 63 (hd c) := by
  rw [← lace_at p k tb 63 c]
  unfold last lace
  pointwise [k0_pay46]

theorem gap_at (l : Fin 64) (c : Fin 1024) :
    gap p k (ix2 l c) = lac p k l (hd c) - lac p k ⟨c.val % 64, Nat.mod_lt _ (by decide)⟩ (hd c) := by
  have h : gap p k (ix2 l c) = lace p k (ix2 l c) - ∑ s : Fin 64, lace p k (ix2 s c) * p.eye (ix2 s c) := by
    unfold gap lace
    pointwise [k0_pay47]
  rw [h]
  simp only [lace_at p k tb, tb.ey]
  congr 1
  exact pick _ _ _ fun j => ⟨fun h => Fin.ext h, fun h => h ▸ rfl⟩

omit tb

/-- Eight copies of 64 rows. -/
def rep8 (v : FVec Ideal S64x128 .f32) : FVec Ideal S512x128 .f32 :=
  concatenate S512x128 0 [⟨S64x128, v⟩, ⟨S64x128, v⟩, ⟨S64x128, v⟩, ⟨S64x128, v⟩, ⟨S64x128, v⟩, ⟨S64x128, v⟩, ⟨S64x128, v⟩, ⟨S64x128, v⟩]
    concatenates_S64x128_S64x128_S64x128_S64x128_S64x128_S64x128_S64x128_S64x128_S512x128_d0
/-- Four copies of 64 rows. -/
def rep4 (v : FVec Ideal S64x256 .f32) : FVec Ideal S256x256 .f32 :=
  concatenate S256x256 0 [⟨S64x256, v⟩, ⟨S64x256, v⟩, ⟨S64x256, v⟩, ⟨S64x256, v⟩]
    concatenates_S64x256_S64x256_S64x256_S64x256_S256x256_d0

theorem rep8_at (v : FVec Ideal S64x128 .f32) (r : Fin 512) (n : Fin 128) :
    rep8 v (ix2 r n) = v (ix2 ⟨r.val % 64, Nat.mod_lt _ (by decide)⟩ n) := by
  pointwise [rep8]
  split_ifs <;> exact congrArg v (congrArg (fun i => ix2 i n) (Fin.ext (by simp only; omega)))

theorem rep4_at (v : FVec Ideal S64x256 .f32) (r : Fin 256) (n : Fin 256) :
    rep4 v (ix2 r n) = v (ix2 ⟨r.val % 64, Nat.mod_lt _ (by decide)⟩ n) := by
  pointwise [rep4]
  split_ifs <;> exact congrArg v (congrArg (fun i => ix2 i n) (Fin.ext (by simp only; omega)))

def mix (C : FVec Ideal S64x128 .f32) (R : FVec Ideal S512x128 .f32) (E : FVec Ideal S64x512 .f32) : FVec Ideal S64x512 .f32 :=
  mulf (matmul dot_S64x128_S512x128_S64x512_1_1_0_0_n_n none (truncf .bf16 C bitsLt_bf16_f32) (truncf .bf16 R bitsLt_bf16_f32)
    (constant S64x512 .f32 0x00000000#32)) E
def quad (M : FVec Ideal S64x256 .f32) (V : FVec Ideal S256x256 .f32) (bd : Vec Ideal S256x256 .f32) : FVec Ideal S64x256 .f32 :=
  matmul dot_S64x256_S256x256_S64x256_1_0_0_1_n_n none (truncf .bf16 M bitsLt_bf16_f32)
    (truncf .bf16 (mulf V (shapeCast S256x256 bd shapeCasts_S256x256_S256x256)) bitsLt_bf16_f32) (constant S64x256 .f32 0x00000000#32)
def quads (M : FVec Ideal S64x512 .f32) (V0 V1 : FVec Ideal S64x256 .f32) (bd : Vec Ideal S256x256 .f32) : FVec Ideal S64x512 .f32 :=
  concatenate S64x512 1 [⟨S64x256, quad (extractStridedSlice S64x256 ![0, 0] M slices_S64x512_o0_0_S64x256) (rep4 V0) bd⟩,
    ⟨S64x256, quad (extractStridedSlice S64x256 ![0, 256] M slices_S64x512_o0_256_S64x256) (rep4 V1) bd⟩]
    concatenates_S64x256_S64x256_S64x512_d1

theorem mix_at (C : FVec Ideal S64x128 .f32) (R : FVec Ideal S512x128 .f32) (E : FVec Ideal S64x512 .f32) (l : Fin 64) (r : Fin 512) :
    mix C R E (ix2 l r) = (∑ n : Fin 128, C (ix2 l n) * R (ix2 r n)) * E (ix2 l r) := by
  pointwise [mix, dot_S64x128_S512x128_S64x512_1_1_0_0_n_n]

theorem quad_at (M : FVec Ideal S64x256 .f32) (V : FVec Ideal S256x256 .f32) (bd : Vec Ideal S256x256 .f32) (l : Fin 64) (c : Fin 256) :
    quad M V bd (ix2 l c) = ∑ j : Fin 256, M (ix2 l j) * (V (ix2 j c) * bd (ix2 j c)) := by
  pointwise [quad, dot_S64x256_S256x256_S64x256_1_0_0_1_n_n]

theorem block_sum (f g : Fin 256 → EReal) (a : Nat) (ha : a < 4) :
    (∑ j : Fin 256, f j * (g j * (if j.val / 64 = a then 1 else 0)))
      = ∑ s : Fin 64, f ⟨64 * a + s.val, by omega⟩ * g ⟨64 * a + s.val, by omega⟩ := by
  rw [← (Equiv.sum_comp (finProdFinEquiv (m := 4) (n := 64)) (fun j : Fin 256 => f j * (g j * (if j.val / 64 = a then 1 else 0)))),
    Fintype.sum_prod_type, Finset.sum_eq_single (⟨a, ha⟩ : Fin 4)]
  · refine Finset.sum_congr rfl fun s _ => ?_
    have e : finProdFinEquiv (m := 4) (n := 64) (⟨a, ha⟩, s) = (⟨64 * a + s.val, by omega⟩ : Fin 256) :=
      Fin.ext (by simp only [finProdFinEquiv_apply_val]; omega)
    rw [e, if_pos (by simp only; omega), mul_one]
  · intro b _ hb
    refine Finset.sum_eq_zero fun s _ => ?_
    rw [if_neg, mul_zero, mul_zero]
    intro h
    apply hb
    refine Fin.ext ?_
    have := finProdFinEquiv_apply_val (m := 4) (n := 64) (b, s)
    simp only at this ⊢
    omega
  · intro h; exact absurd (Finset.mem_univ _) h

theorem quads_at (M : FVec Ideal S64x512 .f32) (V : FVec Ideal S64x1024 .f32) (V0 V1 : FVec Ideal S64x256 .f32) (bd : Vec Ideal S256x256 .f32)
    (hb : ∀ i j : Fin 256, bd (ix2 i j) = if i.val / 64 = j.val / 64 then (1 : EReal) else 0) (o : Nat) (ho : o ≤ 512)
    (h0 : ∀ (s : Fin 64) (c : Fin 256), V0 (ix2 s c) = V (ix2 s ⟨o + c.val, by omega⟩))
    (h1 : ∀ (s : Fin 64) (c : Fin 256), V1 (ix2 s c) = V (ix2 s ⟨o + 256 + c.val, by omega⟩)) (l : Fin 64) (c : Fin 512) :
    quads M V0 V1 bd (ix2 l c) = ∑ s : Fin 64, M (ix2 l ⟨64 * (c.val / 64) + s.val, by omega⟩) * V (ix2 s ⟨o + c.val, by omega⟩) := by
  by_cases hc : c.val < 256
  · have h : quads M V0 V1 bd (ix2 l c) = quad (extractStridedSlice S64x256 ![0, 0] M slices_S64x512_o0_0_S64x256) (rep4 V0) bd (ix2 l ⟨c.val, hc⟩) := by
      unfold quads
      generalize quad _ (rep4 V0) bd = a
      generalize quad _ (rep4 V1) bd = b
      pointwise
      rw [dif_pos hc]
    rw [h, quad_at]
    simp only [hb, rep4_at, h0]
    rw [block_sum _ _ _ (by omega)]
    refine Finset.sum_congr rfl fun s _ => ?_
    congr 1
    · pointwise
    · congr 2
      refine Fin.ext ?_
      simp only
      omega
  · have h : quads M V0 V1 bd (ix2 l c) = quad (extractStridedSlice S64x256 ![0, 256] M slices_S64x512_o0_256_S64x256) (rep4 V1) bd (ix2 l ⟨c.val - 256, by omega⟩) := by
      unfold quads
      generalize quad _ (rep4 V0) bd = a
      generalize quad _ (rep4 V1) bd = b
      pointwise
      rw [dif_neg hc]
    rw [h, quad_at]
    simp only [hb, rep4_at, h1]
    rw [block_sum _ _ _ (by omega)]
    refine Finset.sum_congr rfl fun s _ => ?_
    congr 1
    · pointwise
      refine congrArg M (congrArg (ix2 l) (Fin.ext ?_))
      simp only
      omega
    · refine congrArg V ?_
      congr 1
      · refine Fin.ext ?_
        simp only
        omega
      · refine Fin.ext ?_
        simp only
        omega

theorem xs_at (l : Fin 64) (c : Fin 1024) : xs p k (ix2 l c) = xc p k (ix2 l ⟨c.val, by omega⟩) := by
  unfold xs
  generalize xc p k = X
  pointwise [k0_pay40]

theorem bm_at (l : Fin 64) (c : Fin 256) : bm p k (ix2 l c) = xc p k (ix2 l ⟨1024 + c.val, by omega⟩) := by
  unfold bm
  generalize xc p k = X
  pointwise [k0_pay41]

theorem cm_at (l : Fin 64) (c : Fin 256) : cm p k (ix2 l c) = xc p k (ix2 l ⟨1280 + c.val, by omega⟩) := by
  unfold cm
  generalize xc p k = X
  pointwise [k0_pay42]

def E0 : FVec Ideal S64x512 .f32 := extractStridedSlice S64x512 ![0, 0] (k0_pay48 (gap p k) p.neg) slices_S64x1024_o0_0_S64x512
def E1 : FVec Ideal S64x512 .f32 := extractStridedSlice S64x512 ![0, 512] (k0_pay48 (gap p k) p.neg) slices_S64x1024_o0_512_S64x512

theorem yd0_fold : yd0 p k = quads (mix (k0_pay54 (cm p k)) (rep8 (k0_pay53 (bm p k))) (E0 p k))
    (extractStridedSlice S64x256 ![0, 0] (k0_pay49 (xs p k) (dte p k)) slices_S64x1024_o0_0_S64x256)
    (extractStridedSlice S64x256 ![0, 256] (k0_pay49 (xs p k) (dte p k)) slices_S64x1024_o0_256_S64x256) p.bd := by
  dsimp only [yd0, k0_pay55, quads, quad, mix, rep8, rep4, E0]

theorem yd1_fold : yd1 p k = quads (mix (k0_pay64 (cm p k)) (rep8 (k0_pay63 (bm p k))) (E1 p k))
    (extractStridedSlice S64x256 ![0, 512] (k0_pay49 (xs p k) (dte p k)) slices_S64x1024_o0_512_S64x256)
    (extractStridedSlice S64x256 ![0, 768] (k0_pay49 (xs p k) (dte p k)) slices_S64x1024_o0_768_S64x256) p.bd := by
  dsimp only [yd1, k0_pay65, quads, quad, mix, rep8, rep4, E1]

theorem xsd_at (l : Fin 64) (c : Fin 1024) : k0_pay49 (xs p k) (dte p k) (ix2 l c) = xs p k (ix2 l c) * dte p k (ix2 l c) := by
  generalize xs p k = X
  generalize dte p k = D
  pointwise [k0_pay49]

theorem E0_at (l : Fin 64) (c : Fin 512) : E0 p k (ix2 l c) = Ideal.exp (gap p k (ix2 l ⟨c.val, by omega⟩) + p.neg (ix2 l ⟨c.val, by omega⟩)) := by
  unfold E0
  generalize gap p k = G
  pointwise [k0_pay48]
theorem E1_at (l : Fin 64) (c : Fin 512) : E1 p k (ix2 l c) = Ideal.exp (gap p k (ix2 l ⟨512 + c.val, by omega⟩) + p.neg (ix2 l ⟨512 + c.val, by omega⟩)) := by
  unfold E1
  generalize gap p k = G
  pointwise [k0_pay48]

/-- The chunk's scalars. -/
def ch : SsdSpec.Ch where
  X l c := xc p k (ix2 l c)
  dt l h := dt p k l ⟨h.val, by omega⟩
  lac l h := lac p k l ⟨h.val, by omega⟩
  z l c := k.z (ix2 l c)

/-- Both halves of a state. -/
def SS (s0 s1 : Vec Ideal S1x128x512 .f32) (n : Fin 128) (c : Fin 1024) : EReal :=
  if h : c.val < 512 then s0 (ix3 0 n ⟨c.val, h⟩) else s1 (ix3 0 n ⟨c.val - 512, by omega⟩)

include tb

theorem decay_at (l : Fin 64) (c : Fin 1024) (s : Fin 64) (hs : c.val % 64 = s.val) :
    Ideal.exp (gap p k (ix2 l c) + p.neg (ix2 l c))
      = if s.val ≤ l.val then Ideal.exp (lac p k l (hd c) - lac p k s (hd c)) else 0 := by
  have e : (⟨c.val % 64, Nat.mod_lt _ (by decide)⟩ : Fin 64) = s := Fin.ext hs
  rw [gap_at p k tb, tb.ng, e, hs]
  split_ifs
  · rw [add_zero]
  · rw [EReal.add_bot]; rfl

omit tb

theorem c0_at (l : Fin 64) (n : Fin 128) : k0_pay54 (cm p k) (ix2 l n) = xc p k (ix2 l ⟨1280 + n.val, by omega⟩) := by
  have h := cm_at p k l ⟨n.val, by omega⟩
  generalize cm p k = C at h ⊢
  rw [← h]
  pointwise [k0_pay54]
theorem c1_at (l : Fin 64) (n : Fin 128) : k0_pay64 (cm p k) (ix2 l n) = xc p k (ix2 l ⟨1280 + (128 + n.val), by omega⟩) := by
  have h := cm_at p k l ⟨128 + n.val, by omega⟩
  generalize cm p k = C at h ⊢
  rw [← h]
  pointwise [k0_pay64]
theorem b0_at (l : Fin 64) (n : Fin 128) : k0_pay53 (bm p k) (ix2 l n) = xc p k (ix2 l ⟨1024 + n.val, by omega⟩) := by
  have h := bm_at p k l ⟨n.val, by omega⟩
  generalize bm p k = C at h ⊢
  rw [← h]
  pointwise [k0_pay53]
theorem b1_at (l : Fin 64) (n : Fin 128) : k0_pay63 (bm p k) (ix2 l n) = xc p k (ix2 l ⟨1024 + (128 + n.val), by omega⟩) := by
  have h := bm_at p k l ⟨128 + n.val, by omega⟩
  generalize bm p k = C at h ⊢
  rw [← h]
  pointwise [k0_pay63]

theorem xat (l l' : Fin 64) (c c' : Fin 1536) (hl : l.val = l'.val) (hc : c.val = c'.val) : xc p k (ix2 l c) = xc p k (ix2 l' c') := by
  rw [Fin.ext hl, Fin.ext hc]

include tb

theorem yd0_at (l : Fin 64) (c : Fin 512) : yd0 p k (ix2 l c) = SsdSpec.ydiag (ch p k) l ⟨c.val, by omega⟩ := by
  rw [yd0_fold, quads_at _ (k0_pay49 (xs p k) (dte p k)) _ _ _ tb.bl 0 (by omega) (fun s c => by pointwise) (fun s c => by pointwise)]
  unfold SsdSpec.ydiag
  refine Finset.sum_congr rfl fun s _ => ?_
  rw [mix_at, E0_at, xsd_at, xs_at, dte_at p k tb, decay_at p k tb l _ s (by simp only; omega)]
  simp only [rep8_at, c0_at, b0_at]
  have e0 : hd ⟨64 * (c.val / 64) + s.val, by omega⟩ = hd ⟨c.val, by omega⟩ := Fin.ext (by simp only [hd]; omega)
  have e1 : hd ⟨0 + c.val, by omega⟩ = hd ⟨c.val, by omega⟩ := Fin.ext (by simp only [hd]; omega)
  rw [e0, e1]
  refine congrArg₂ (· * ·) (congrArg₂ (· * ·) (Finset.sum_congr rfl fun n _ => congrArg₂ (· * ·) ?_ ?_) rfl) (congrArg₂ (· * ·) ?_ rfl)
  · exact xat p k _ _ _ _ rfl (by simp only [SsdSpec.cN]; omega)
  · exact xat p k _ _ _ _ (by simp only; omega) (by simp only [SsdSpec.bN]; omega)
  · exact xat p k _ _ _ _ rfl (by simp only [SsdSpec.xN]; omega)

theorem yd1_at (l : Fin 64) (c : Fin 512) : yd1 p k (ix2 l c) = SsdSpec.ydiag (ch p k) l ⟨512 + c.val, by omega⟩ := by
  rw [yd1_fold, quads_at _ (k0_pay49 (xs p k) (dte p k)) _ _ _ tb.bl 512 (by omega) (fun s c => by pointwise) (fun s c => by pointwise)]
  unfold SsdSpec.ydiag
  refine Finset.sum_congr rfl fun s _ => ?_
  rw [mix_at, E1_at, xsd_at, xs_at, dte_at p k tb, decay_at p k tb l _ s (by simp only; omega)]
  simp only [rep8_at, c1_at, b1_at]
  have e0 : hd ⟨512 + (64 * (c.val / 64) + s.val), by omega⟩ = hd ⟨512 + c.val, by omega⟩ := Fin.ext (by simp only [hd]; omega)
  rw [e0]
  refine congrArg₂ (· * ·) (congrArg₂ (· * ·) (Finset.sum_congr rfl fun n _ => congrArg₂ (· * ·) ?_ ?_) rfl) (congrArg₂ (· * ·) ?_ rfl)
  · exact xat p k _ _ _ _ rfl (by simp only [SsdSpec.cN]; omega)
  · exact xat p k _ _ _ _ (by simp only; omega) (by simp only [SsdSpec.bN]; omega)
  · exact xat p k _ _ _ _ rfl (by simp only [SsdSpec.xN])

theorem yo0_at (l : Fin 64) (c : Fin 512) : yo0 p k s0 (ix2 l c) = SsdSpec.yoff (ch p k) (SS s0 s1) l ⟨c.val, by omega⟩ := by
  have h : yo0 p k s0 (ix2 l c) = (∑ n : Fin 128, k0_pay54 (cm p k) (ix2 l n) * s0 (ix3 0 n c)) * Ideal.exp (lace p k (ix2 l ⟨c.val, by omega⟩)) := by
    unfold yo0
    have h54 : ∀ n, k0_pay54 (cm p k) (ix2 l n) = k0_pay54 (cm p k) (ix2 l n) := fun _ => rfl
    generalize lace p k = L
    generalize cm p k = C
    pointwise [k0_pay57, k0_pay56, k0_pay51, k0_pay54, dot_S64x128_S128x512_S64x512_1_0_0_1_n_n]
  rw [h, lace_at p k tb]
  unfold SsdSpec.yoff
  refine congrArg₂ (· * ·) (Finset.sum_congr rfl fun n _ => congrArg₂ (· * ·) ?_ ?_) rfl
  · rw [c0_at]
    exact xat p k _ _ _ _ rfl (by simp only [SsdSpec.cN]; omega)
  · unfold SS; rw [dif_pos c.isLt]

theorem yo1_at (l : Fin 64) (c : Fin 512) : yo1 p k s1 (ix2 l c) = SsdSpec.yoff (ch p k) (SS s0 s1) l ⟨512 + c.val, by omega⟩ := by
  have h : yo1 p k s1 (ix2 l c) = (∑ n : Fin 128, k0_pay64 (cm p k) (ix2 l n) * s1 (ix3 0 n c)) * Ideal.exp (lace p k (ix2 l ⟨512 + c.val, by omega⟩)) := by
    unfold yo1
    generalize lace p k = L
    generalize cm p k = C
    pointwise [k0_pay67, k0_pay66, k0_pay51, k0_pay64, dot_S64x128_S128x512_S64x512_1_0_0_1_n_n]
  rw [h, lace_at p k tb]
  unfold SsdSpec.yoff
  refine congrArg₂ (· * ·) (Finset.sum_congr rfl fun n _ => congrArg₂ (· * ·) ?_ ?_) rfl
  · rw [c1_at]
    exact xat p k _ _ _ _ rfl (by simp only [SsdSpec.cN]; omega)
  · unfold SS
    rw [dif_neg (by simp only; omega)]
    refine congrArg s1 (congrArg (ix3 0 n) (Fin.ext ?_))
    simp only; omega

theorem st0_at (n : Fin 128) (c : Fin 512) : st0 p k s0 (ix3 0 n c) = SsdSpec.next (ch p k) (SS s0 s1) n ⟨c.val, by omega⟩ := by
  have h : st0 p k s0 (ix3 0 n c) = s0 (ix3 0 n c) * Ideal.exp (last p k (ix2 0 ⟨c.val, by omega⟩))
      + ∑ l : Fin 64, k0_pay53 (bm p k) (ix2 l n) * (xs p k (ix2 l ⟨c.val, by omega⟩) * dte p k (ix2 l ⟨c.val, by omega⟩)
        * Ideal.exp (last p k (ix2 0 ⟨c.val, by omega⟩) - lace p k (ix2 l ⟨c.val, by omega⟩))) := by
    unfold st0
    generalize lace p k = L
    generalize bm p k = B
    generalize xs p k = X
    generalize dte p k = D
    generalize last p k = T
    pointwise [k0_pay61, k0_pay58, k0_pay59, k0_pay60, k0_pay50, k0_pay49, k0_pay52, k0_pay56, k0_pay53, dot_S64x128_S64x512_S128x512_0_0_1_1_n_n]
  rw [h]
  simp only [last_at p k tb, lace_at p k tb, dte_at p k tb, xs_at, b0_at]
  unfold SsdSpec.next
  refine congrArg₂ (· + ·) (congrArg₂ (· * ·) ?_ rfl) (Finset.sum_congr rfl fun l _ => congrArg₂ (· * ·) ?_ rfl)
  · unfold SS; rw [dif_pos c.isLt]
  · exact xat p k _ _ _ _ rfl (by simp only [SsdSpec.bN]; omega)

theorem st1_at (n : Fin 128) (c : Fin 512) : st1 p k s1 (ix3 0 n c) = SsdSpec.next (ch p k) (SS s0 s1) n ⟨512 + c.val, by omega⟩ := by
  have h : st1 p k s1 (ix3 0 n c) = s1 (ix3 0 n c) * Ideal.exp (last p k (ix2 0 ⟨512 + c.val, by omega⟩))
      + ∑ l : Fin 64, k0_pay63 (bm p k) (ix2 l n) * (xs p k (ix2 l ⟨512 + c.val, by omega⟩) * dte p k (ix2 l ⟨512 + c.val, by omega⟩)
        * Ideal.exp (last p k (ix2 0 ⟨512 + c.val, by omega⟩) - lace p k (ix2 l ⟨512 + c.val, by omega⟩))) := by
    unfold st1
    generalize lace p k = L
    generalize bm p k = B
    generalize xs p k = X
    generalize dte p k = D
    generalize last p k = T
    pointwise [k0_pay69, k0_pay68, k0_pay50, k0_pay49, k0_pay52, k0_pay66, k0_pay63, dot_S64x128_S64x512_S128x512_0_0_1_1_n_n]
  rw [h]
  simp only [last_at p k tb, lace_at p k tb, dte_at p k tb, xs_at, b1_at]
  unfold SsdSpec.next
  refine congrArg₂ (· + ·) (congrArg₂ (· * ·) ?_ rfl) (Finset.sum_congr rfl fun l _ => congrArg₂ (· * ·) ?_ rfl)
  · unfold SS
    rw [dif_neg (by simp only; omega)]
    refine congrArg s1 (congrArg (ix3 0 n) (Fin.ext ?_))
    simp only; omega
  · exact xat p k _ _ _ _ rfl (by simp only [SsdSpec.bN]; omega)

/-- The chunk's states as the recurrence's. -/
theorem next_at (n : Fin 128) (c : Fin 1024) : SS (st0 p k s0) (st1 p k s1) n c = SsdSpec.next (ch p k) (SS s0 s1) n c := by
  rw [SS]
  split_ifs with h
  · exact st0_at p k s0 s1 tb n ⟨c.val, h⟩
  · refine (st1_at p k s0 s1 tb n ⟨c.val - 512, by omega⟩).trans (congrArg _ (Fin.ext ?_))
    simp only; omega

/-- The chunk's stored rows as the recurrence's. -/
theorem outC_at (l : Fin 64) (c : Fin 1024) :
    outC p k s0 s1 (ix2 l c) = SsdSpec.out (ch p k) (SS s0 s1) (fun c => p.dsk (ix2 0 c)) (fun c => p.nw (ix2 0 c)) l c := by
  have ha := yd0_at p k tb l
  have hb := yd1_at p k tb l
  have ha' := yo0_at p k s0 s1 tb l
  have hb' := yo1_at p k s0 s1 tb l
  have hx := xs_at p k l
  unfold outC
  generalize yd0 p k = a at ha ⊢
  generalize yd1 p k = b at hb ⊢
  generalize yo0 p k s0 = a' at ha' ⊢
  generalize yo1 p k s1 = b' at hb' ⊢
  generalize xs p k = X at hx ⊢
  pointwise [k0_pay71, k0_pay70, k0_pay62]
  simp only [ha, hb, ha', hb', hx]
  unfold SsdSpec.out SsdSpec.ms SsdSpec.gated
  by_cases h : c.val < 512
  · have e : c.val / 512 = 0 := by omega
    rw [dif_pos h, dif_pos h]
    simp only [e, Nat.mul_zero, Nat.zero_add, ch, SsdSpec.xN]
  · have e : c.val / 512 = 1 := by omega
    have e2 : (⟨512 + (c.val - 512), by omega⟩ : Fin 1024) = c := Fin.ext (by simp only; omega)
    have e3 : (⟨512 + (c.val - 512), by omega⟩ : Fin 1536) = SsdSpec.xN c := Fin.ext (by simp only [SsdSpec.xN]; omega)
    rw [dif_neg h]
    simp only [e, e2, e3, Nat.mul_one, ch]
    rfl

end Cert.SsdRead
end
end
-- ==== Proof.SsdHost.lean ====
/-
  The arrays the state-space kernel's wrapper builds before the call, read at an index.
-/
module

public import proofs.«01_k».proof.Proof.SsdRead
public import proofs.«01_k».proof.Proof.Gen.SsdIdeal.Value
public import Idealize.ShloMosaic.Lib.StableHlo.RunRead
public import Idealize.ShloMosaic.Lib.StableHlo.ReadAt
public import Idealize.ShloMosaic.Lib.Routing.OpsOne
public import Idealize.ShloMosaic.Lib.Pointwise

@[expose] public section

set_option maxRecDepth 16384
set_option maxHeartbeats 4000000

noncomputable section

namespace Cert.SsdHost

open Cert.SsdIdeal Cert.SsdIdeal.Gen Idealize.ShloMosaic Idealize.ShloMosaic.TcCoe Idealize.SL.Sem Idealize.ShloMosaic.Tactic Cert.SsdChunk

variable (m : (ℓ : Loc nD τ sig) → Buf (Elt Ideal) ℓ)

theorem V_b (c : Dev nD) (n : Fin 1536) : V m c main_v0 (ix2 0 n) = m ((c : Thread nD τ).loc main_arg4) (ix1 n) := by
  unfold V
  after_reads_at

theorem V_dsk (c : Dev nD) (n : Fin 1024) : V m c main_v15 (ix2 0 n) = m ((c : Thread nD τ).loc main_arg7) (ix1 ⟨n.val / 64, by omega⟩) := by
  unfold V
  after_reads_at

theorem V_nw (c : Dev nD) (n : Fin 1024) : V m c main_v16 (ix2 0 n) = m ((c : Thread nD τ).loc main_arg8) (ix1 n) := by
  unfold V
  after_reads_at

/-- A mask's entry as a number. -/
theorem mask {p : Prop} [Decidable p] {b : BitVec 1} (h : b = if p then 1#1 else 0#1) :
    (FloatOps.uitofp FTy.f32 b : Ideal .f32) = if p then (1 : EReal) else 0 := by
  subst h
  split
  · show (((1#1 : BitVec 1).toNat : ℝ) : EReal) = 1
    norm_num
  · show (((0#1 : BitVec 1).toNat : ℝ) : EReal) = 0
    norm_num

/-- Floor division by 64, as printed. -/
def fd (x : BitVec 32) : BitVec 32 :=
  Scalar.select
    (IntOp.andi
      (IntOp.cmpi CmpIPredicate.ne (if x = 0 then (0 : BitVec 32) else if x.msb = true then (-1 : BitVec 32) else (1 : BitVec 32))
        (if (id (constantI S_ 32 64#32) ix0 : BitVec 32) = 0 then (0 : BitVec 32) else if BitVec.msb (id (constantI S_ 32 64#32) ix0 : BitVec 32) = true then (-1 : BitVec 32) else (1 : BitVec 32)))
      (IntOp.cmpi CmpIPredicate.ne (IntOp.remsi ArithUnit.host x (id (constantI S_ 32 64#32) ix0)) 0#32))
    (IntOp.subi (IntOp.divsi ArithUnit.host x (id (constantI S_ 32 64#32) ix0)) 1#32)
    (IntOp.divsi ArithUnit.host x (id (constantI S_ 32 64#32) ix0))

/-- The divisor with zero replaced, as printed. -/
def dv : BitVec 32 := Scalar.select (IntOp.cmpi CmpIPredicate.eq (id (constantI S_ 32 64#32) ix0) 0#32) (1#32) (id (constantI S_ 32 64#32) ix0)

/-- The remainder by 64, as printed. -/
def md (x : BitVec 32) : BitVec 32 :=
  Scalar.select
    (IntOp.andi
      (IntOp.cmpi CmpIPredicate.ne (IntOp.cmpi CmpIPredicate.slt (IntOp.remsi ArithUnit.host x dv) 0#32) (IntOp.cmpi CmpIPredicate.slt dv 0#32))
      (IntOp.cmpi CmpIPredicate.ne (IntOp.remsi ArithUnit.host x dv) 0#32))
    (IntOp.addi (IntOp.remsi ArithUnit.host x dv) dv)
    (IntOp.remsi ArithUnit.host x dv)

theorem fd_eq : ∀ n : Fin 1024, fd (BitVec.ofNat 32 n.val) = BitVec.ofNat 32 (n.val / 64) := by decide +kernel
theorem md_eq : ∀ n : Fin 1024, md (BitVec.ofNat 32 n.val) = BitVec.ofNat 32 (n.val % 64) := by decide +kernel
theorem eq_mask : ∀ a b : Fin 128, IntOp.cmpi CmpIPredicate.eq (BitVec.ofNat 32 a.val) (BitVec.ofNat 32 b.val) = if a.val = b.val then 1#1 else 0#1 := by decide +kernel
theorem ge_mask : ∀ a b : Fin 64, IntOp.cmpi CmpIPredicate.sge (BitVec.ofNat 32 a.val) (BitVec.ofNat 32 b.val) = if b.val ≤ a.val then 1#1 else 0#1 := by decide +kernel

theorem V_tr (c : Dev nD) (l s : Fin 64) : V m c main_v32 (ix2 l s) = if s.val ≤ l.val then (1 : EReal) else 0 := by
  unfold V
  after_reads_at
  exact mask (ge_mask l s)

theorem V_ex (c : Dev nD) (j : Fin 128) (n : Fin 1024) : V m c main_v26 (ix2 j n) = if j.val = n.val / 64 then (1 : EReal) else 0 := by
  unfold V
  after_reads_at
  refine mask ?_
  change IntOp.cmpi CmpIPredicate.eq (BitVec.ofNat 32 j.val) (fd (BitVec.ofNat 32 n.val)) = _
  rw [fd_eq]
  exact eq_mask j ⟨n.val / 64, by omega⟩

theorem V_ey (c : Dev nD) (j : Fin 64) (n : Fin 1024) : V m c main_v39 (ix2 j n) = if j.val = n.val % 64 then (1 : EReal) else 0 := by
  unfold V
  after_reads_at
  refine mask ?_
  change IntOp.cmpi CmpIPredicate.eq (BitVec.ofNat 32 j.val) (md (BitVec.ofNat 32 n.val)) = _
  rw [md_eq]
  exact eq_mask ⟨j.val, by omega⟩ ⟨n.val % 64, by omega⟩

theorem V_ng (c : Dev nD) (l : Fin 64) (n : Fin 1024) : V m c main_v47 (ix2 l n) = if n.val % 64 ≤ l.val then (0 : EReal) else ⊥ := by
  unfold V
  after_reads_at
  rw [id_eq]
  pointwise
  change Scalar.select (IntOp.cmpi CmpIPredicate.sge (BitVec.ofNat 32 l.val) (md (BitVec.ofNat 32 n.val))) _ _ = _
  rw [md_eq, ge_mask l ⟨n.val % 64, by omega⟩]
  split <;> rfl

theorem V_bl (c : Dev nD) (i j : Fin 256) : V m c main_v56 (ix2 i j) = if i.val / 64 = j.val / 64 then (1 : EReal) else 0 := by
  unfold V
  after_reads_at
  refine mask ?_
  change IntOp.cmpi CmpIPredicate.eq (fd (BitVec.ofNat 32 i.val)) (fd (BitVec.ofNat 32 j.val)) = _
  rw [fd_eq ⟨i.val, by omega⟩, fd_eq ⟨j.val, by omega⟩]
  exact eq_mask ⟨i.val / 64, by omega⟩ ⟨j.val / 64, by omega⟩

/-- A row of 16 values set into the first lanes of one row of 128: at lane `j`. -/
theorem row_set (x0 : S1x128.Idx → EReal) (idx : IVec S2 32) (u : S16.Idx → EReal) (h0 : (idx (ix1 (0 : Fin 2))).toInt = 0)
    (h1 : (idx (ix1 (1 : Fin 2))).toInt = 0) (j : Fin 128) :
    Host.scatter scatter_S1x128_S2_S16_0_0_01_0 (fun _ b => b) x0 idx u (ix2 0 j)
      = if h : j.val < 16 then u (ix1 ⟨j.val, h⟩) else x0 (ix2 0 j) := by
  have lands : ∀ k : Fin 16, scatter_S1x128_S2_S16_0_0_01_0.resultIdx? (ix1 k) idx = some (ix2 0 j) ↔ k.val = j.val := fun k => by
    refine (Routing.resultIdx?_ix2 (R := 1) (C := 128) scatter_S1x128_S2_S16_0_0_01_0 (ix1 k) idx 0 j).trans ?_
    rw [(Routing.start_pair (R := 1) (C := 128) scatter_S1x128_S2_S16_0_0_01_0 rfl rfl idx (ix1 k) 0).trans h0,
      (Routing.start_pair (R := 1) (C := 128) scatter_S1x128_S2_S16_0_0_01_0 rfl rfl idx (ix1 k) 1).trans h1]
    have w0 : scatter_S1x128_S2_S16_0_0_01_0.window (ix1 k) 0 = 0 := rfl
    have w1 : scatter_S1x128_S2_S16_0_0_01_0.window (ix1 k) 1 = k.val := rfl
    rw [w0, w1]
    show (0 : ℤ) + ((0 : ℕ) : ℤ) = ((0 : ℕ) : ℤ) ∧ (0 : ℤ) + (k.val : ℤ) = (j.val : ℤ) ↔ _
    omega
  have hk : ∀ k : S16.Idx, scatter_S1x128_S2_S16_0_0_01_0.resultIdx? k idx = some (ix2 0 j) → (k 0).val = j.val := fun k hk =>
    (lands (k 0)).1 ((congrArg (fun t => scatter_S1x128_S2_S16_0_0_01_0.resultIdx? t idx) (ValueIdx.eq_ix1 k).symm).trans hk)
  split
  · next h =>
    refine Routing.scatter_set_hit _ x0 idx u _ _ (fun k e => ?_) (ix1 ⟨j.val, h⟩) ((lands _).2 rfl)
    rw [ValueIdx.eq_ix1 k]
    exact congrArg (fun t => u (ix1 t)) (Fin.ext (hk k e))
  · next h =>
    exact Routing.scatter_set_miss _ x0 idx u _ fun k e => h (by rw [← hk k e]; exact (k 0).isLt)

theorem cat0 (a b : IVec S1 32) : concatenate S2 0 [⟨S1, a⟩, ⟨S1, b⟩] concatenates_S1_S1_S2_d0 (ix1 (0 : Fin 2)) = a (ix1 0) := by pointwise
theorem cat1 (a b : IVec S1 32) : concatenate S2 0 [⟨S1, a⟩, ⟨S1, b⟩] concatenates_S1_S1_S2_d0 (ix1 (1 : Fin 2)) = b (ix1 0) := by pointwise

theorem V_dtb (c : Dev nD) (j : Fin 128) : V m c main_v5 (ix2 0 j) = if h : j.val < 16 then m ((c : Thread nD τ).loc main_arg5) (ix1 ⟨j.val, h⟩) else (0 : EReal) := by
  unfold V
  after_reads_simp
  refine (row_set _ _ _ ?_ ?_ j).trans ?_
  · rw [cat0]; after_reads_simp; rfl
  · rw [cat1]; after_reads_simp; rfl
  · refine dite_congr rfl (fun _ => rfl) fun _ => ?_
    pointwise

theorem V_an (c : Dev nD) (j : Fin 128) : V m c main_v12 (ix2 0 j)
    = if h : j.val < 16 then - Ideal.exp (m ((c : Thread nD τ).loc main_arg6) (ix1 ⟨j.val, h⟩)) else (0 : EReal) := by
  unfold V
  after_reads_simp
  refine (row_set _ _ _ ?_ ?_ j).trans ?_
  · rw [cat0]; after_reads_simp; rfl
  · rw [cat1]; after_reads_simp; rfl
  · refine dite_congr rfl (fun _ => rfl) fun _ => ?_
    pointwise

end Cert.SsdHost
-- ==== Proof.SsdKernel.lean ====
module

public import proofs.«01_k».proof.Proof.Gen.SsdIdeal.Value
public import proofs.«01_k».proof.Proof.SsdChunk
public import Idealize.ShloMosaic.Lib.Pointwise

@[expose] public section

set_option maxRecDepth 16384
set_option maxHeartbeats 4000000

noncomputable section

namespace Cert.SsdKernel

open Cert.SsdIdeal Cert.SsdIdeal.Gen Idealize.ShloMosaic Idealize.ShloMosaic.TcCoe Idealize.SL.Sem Idealize.ShloMosaic.Tactic Cert.SsdChunk
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-- A block with the eight rows before it. -/
def ext (a : Vec Ideal S256x1536 .f32) (h : Vec Ideal S8x1536 .f32) : Vec Ideal S264x1536 .f32 := fun y =>
  if hy : (y 0).val < 8 then h (ix2 ⟨(y 0).val, hy⟩ (y 1))
  else a (ix2 ⟨(y 0).val - 8, by have : (y 0).val < 264 := (y 0).isLt; omega⟩ (y 1))

/-- Two halves of the state as one. -/
def join (a b : Vec Ideal S1x128x512 .f32) : Vec Ideal S2x128x512 .f32 := fun y =>
  if (y 0).val = 0 then a (ix3 0 (y 1) (y 2)) else b (ix3 0 (y 1) (y 2))

section cov
variable {sig : RefSig} {κ : Kind} {sp : Space} {S : Shape} {e : EltTy}

theorem cov_same (v : View sig κ sp S e) (R : Rect S) (w : R.shape.Idx → Elt Ideal e) (L : List (View.Piece (Elt Ideal) S e)) :
    v.readCov (⟨R, w⟩ :: L) R.toLoadRect = w :=
  funext fun j => View.read_writes_cons_emb v v.junk R w L j

theorem ext_cover (a : Vec Ideal S256x1536 .f32) (h : Vec Ideal S8x1536 .f32) (y : S264x1536.Idx) :
    ∃ p ∈ ([⟨Rect.unit ![8, 0] S256x1536.size inb_S264x1536_S256x1536_8_0, a⟩,
      ⟨Rect.unit ![0, 0] S8x1536.size inb_S264x1536_S8x1536_0_0, h⟩] : List (View.Piece (Elt Ideal) S264x1536 .f32)), y ∈ p.1.set := by
  have h0 : (y 0).val < 264 := (y 0).isLt
  have h1 : (y 1).val < 1536 := (y 1).isLt
  by_cases hy : (y 0).val < 8
  · refine ⟨_, List.mem_cons_of_mem _ (List.mem_singleton_self _), ?_⟩
    rw [Rect.mem_set_unit]
    intro i
    match i with
    | ⟨0, _⟩ => show 0 ≤ (y 0).val ∧ (y 0).val < 0 + 8; omega
    | ⟨1, _⟩ => show 0 ≤ (y 1).val ∧ (y 1).val < 0 + 1536; omega
  · refine ⟨_, List.mem_cons_self, ?_⟩
    rw [Rect.mem_set_unit]
    intro i
    match i with
    | ⟨0, _⟩ => show 8 ≤ (y 0).val ∧ (y 0).val < 8 + 256; omega
    | ⟨1, _⟩ => show 0 ≤ (y 1).val ∧ (y 1).val < 0 + 1536; omega

theorem ext_canon (a : Vec Ideal S256x1536 .f32) (h : Vec Ideal S8x1536 .f32) :
    View.canon ([⟨Rect.unit ![8, 0] S256x1536.size inb_S264x1536_S256x1536_8_0, a⟩,
      ⟨Rect.unit ![0, 0] S8x1536.size inb_S264x1536_S8x1536_0_0, h⟩] : List (View.Piece (Elt Ideal) S264x1536 .f32)) = ext a h := by
  funext y
  refine View.canon_apply_of_pieces (ext a h) _ ?_ y ?_
  · intro p hp x
    simp only [List.mem_cons, List.not_mem_nil, or_false] at hp
    rcases hp with rfl | rfl
    · have h0 : (((Rect.unit (s := S264x1536) ![8, 0] S256x1536.size inb_S264x1536_S256x1536_8_0).emb x) 0).val = 8 + 1 * (x 0).val := rfl
      have h1 : (((Rect.unit (s := S264x1536) ![8, 0] S256x1536.size inb_S264x1536_S256x1536_8_0).emb x) 1).val = 0 + 1 * (x 1).val := rfl
      refine Eq.symm ?_
      show ext a h ((Rect.unit (s := S264x1536) ![8, 0] S256x1536.size inb_S264x1536_S256x1536_8_0).emb x) = a x
      unfold ext
      rw [dif_neg (by omega)]
      refine congrArg a (funext fun i => Fin.ext ?_)
      match i with
      | ⟨0, _⟩ => show (((Rect.unit (s := S264x1536) ![8, 0] S256x1536.size inb_S264x1536_S256x1536_8_0).emb x) 0).val - 8 = (x 0).val; omega
      | ⟨1, _⟩ => show (((Rect.unit (s := S264x1536) ![8, 0] S256x1536.size inb_S264x1536_S256x1536_8_0).emb x) 1).val = (x 1).val; omega
    · have h0 : (((Rect.unit (s := S264x1536) ![0, 0] S8x1536.size inb_S264x1536_S8x1536_0_0).emb x) 0).val = 0 + 1 * (x 0).val := rfl
      have h1 : (((Rect.unit (s := S264x1536) ![0, 0] S8x1536.size inb_S264x1536_S8x1536_0_0).emb x) 1).val = 0 + 1 * (x 1).val := rfl
      have hx : (x 0).val < 8 := (x 0).isLt
      refine Eq.symm ?_
      show ext a h ((Rect.unit (s := S264x1536) ![0, 0] S8x1536.size inb_S264x1536_S8x1536_0_0).emb x) = h x
      unfold ext
      rw [dif_pos (by omega)]
      refine congrArg h (funext fun i => Fin.ext ?_)
      match i with
      | ⟨0, _⟩ => show (((Rect.unit (s := S264x1536) ![0, 0] S8x1536.size inb_S264x1536_S8x1536_0_0).emb x) 0).val = (x 0).val; omega
      | ⟨1, _⟩ => show (((Rect.unit (s := S264x1536) ![0, 0] S8x1536.size inb_S264x1536_S8x1536_0_0).emb x) 1).val = (x 1).val; omega
  · exact ext_cover a h y

theorem ext_cov (v : View sig κ sp S264x1536 .f32) (a : Vec Ideal S256x1536 .f32) (h : Vec Ideal S8x1536 .f32) (B : Rect S264x1536) :
    v.readCov [⟨Rect.unit ![8, 0] S256x1536.size inb_S264x1536_S256x1536_8_0, a⟩,
      ⟨Rect.unit ![0, 0] S8x1536.size inb_S264x1536_S8x1536_0_0, h⟩] B.toLoadRect = View.ld (Val := Elt Ideal) (e' := .f32) (ext a h) B := by
  rw [View.readCov_eq_canon_ld _ _ _ (fun y => ext_cover a h _), ext_canon]

abbrev R0 : Rect S2x128x512 := Rect.unit ![0, 0, 0] S1x128x512.size inb_S2x128x512_S1x128x512_0_0_0
abbrev R1 : Rect S2x128x512 := Rect.unit ![1, 0, 0] S1x128x512.size inb_S2x128x512_S1x128x512_1_0_0

theorem emb0 (x : S1x128x512.Idx) : (R0.emb x 0).val = 0 := by
  have : (x 0).val < 1 := (x 0).isLt
  show 0 + 1 * (x 0).val = 0; omega
theorem emb1 (x : S1x128x512.Idx) : (R1.emb x 0).val = 1 := by
  have : (x 0).val < 1 := (x 0).isLt
  show 1 + 1 * (x 0).val = 1; omega

theorem not_mem10 (y : S2x128x512.Idx) (h : (y 0).val = 0) : y ∉ R1.set := fun hm => by
  have := ((Rect.mem_set_unit ..).mp hm) 0
  change 1 ≤ (y 0).val ∧ _ at this
  omega
theorem not_mem01 (y : S2x128x512.Idx) (h : (y 0).val = 1) : y ∉ R0.set := fun hm => by
  have := ((Rect.mem_set_unit ..).mp hm) 0
  change 0 ≤ _ ∧ (y 0).val < 0 + 1 at this
  omega

theorem cov_skip (v : View sig κ sp S e) (R B : Rect S) (w : R.shape.Idx → Elt Ideal e) (L : List (View.Piece (Elt Ideal) S e))
    (hd : ∀ j, B.emb j ∉ R.set) : v.readCov (⟨R, w⟩ :: L) B.toLoadRect = v.readCov L B.toLoadRect := by
  rw [View.readCov_eq_canon', View.readCov_eq_canon']
  exact funext fun j => View.canon_cons_of_not_mem _ _ (hd j)

theorem cov_st0 (v : View sig κ sp S2x128x512 .f32) (a : R1.shape.Idx → Elt Ideal .f32) (b : R0.shape.Idx → Elt Ideal .f32)
    (L : List (View.Piece (Elt Ideal) S2x128x512 .f32)) : v.readCov (⟨R1, a⟩ :: ⟨R0, b⟩ :: L) R0.toLoadRect = b :=
  (cov_skip v R1 R0 a _ fun j => not_mem10 _ (emb0 j)).trans (cov_same v R0 b L)
theorem cov_st1 (v : View sig κ sp S2x128x512 .f32) (a : R0.shape.Idx → Elt Ideal .f32) (b : R1.shape.Idx → Elt Ideal .f32)
    (L : List (View.Piece (Elt Ideal) S2x128x512 .f32)) : v.readCov (⟨R0, a⟩ :: ⟨R1, b⟩ :: L) R1.toLoadRect = b :=
  (cov_skip v R0 R1 a _ fun j => not_mem01 _ (emb1 j)).trans (cov_same v R1 b L)

theorem ld_join0 (a b : Vec Ideal S1x128x512 .f32) : View.ld (Val := Elt Ideal) (e' := .f32) (join a b) R0 = a := by
  funext j
  have h : ((R0.emb j) 0).val = 0 := emb0 j
  show join a b (R0.emb j) = a j
  unfold join
  rw [if_pos h]
  refine congrArg a (funext fun i => Fin.ext ?_)
  match i with
  | ⟨0, _⟩ => have : (j 0).val < 1 := (j 0).isLt; show 0 = (j 0).val; omega
  | ⟨1, _⟩ => show 0 + 1 * (j 1).val = (j 1).val; omega
  | ⟨2, _⟩ => show 0 + 1 * (j 2).val = (j 2).val; omega

theorem ld_join1 (a b : Vec Ideal S1x128x512 .f32) : View.ld (Val := Elt Ideal) (e' := .f32) (join a b) R1 = b := by
  funext j
  have h : ((R1.emb j) 0).val = 1 := emb1 j
  show join a b (R1.emb j) = b j
  unfold join
  rw [if_neg (by omega)]
  refine congrArg b (funext fun i => Fin.ext ?_)
  match i with
  | ⟨0, _⟩ => have : (j 0).val < 1 := (j 0).isLt; show 0 = (j 0).val; omega
  | ⟨1, _⟩ => show 0 + 1 * (j 1).val = (j 1).val; omega
  | ⟨2, _⟩ => show 0 + 1 * (j 2).val = (j 2).val; omega

theorem ex_of_mem (R : Rect S) (y : S.Idx) (h : y ∈ R.set) : ∃ x, R.emb x = y := by
  have hm := (LoadRect.mem_set ..).mp h
  choose f hf hv using hm
  exact ⟨fun a => ⟨f a, hf a⟩, funext fun a => Fin.ext (hv a).symm⟩

theorem join_canon (a b : Vec Ideal S1x128x512 .f32) (L : List (View.Piece (Elt Ideal) S2x128x512 .f32)) :
    View.canon (⟨R1, b⟩ :: ⟨R0, a⟩ :: L) = join a b := by
  funext y
  have hy : (y 0).val < 2 := (y 0).isLt
  by_cases h : (y 0).val = 0
  · have hm : y ∈ R0.set := by
      rw [Rect.mem_set_unit]
      intro i
      match i with
      | ⟨0, _⟩ => show 0 ≤ (y 0).val ∧ (y 0).val < 0 + 1; omega
      | ⟨1, _⟩ => have : (y 1).val < 128 := (y 1).isLt; show 0 ≤ (y 1).val ∧ (y 1).val < 0 + 128; omega
      | ⟨2, _⟩ => have : (y 2).val < 512 := (y 2).isLt; show 0 ≤ (y 2).val ∧ (y 2).val < 0 + 512; omega
    rw [View.canon_cons_of_not_mem (⟨R1, b⟩ : View.Piece (Elt Ideal) S2x128x512 .f32) _ (not_mem10 y h)]
    obtain ⟨x, rfl⟩ := ex_of_mem _ y hm
    exact (View.canon_cons_emb R0 a L x).trans (congrFun (ld_join0 a b) x).symm
  · have hm : y ∈ R1.set := by
      rw [Rect.mem_set_unit]
      intro i
      match i with
      | ⟨0, _⟩ => show 1 ≤ (y 0).val ∧ (y 0).val < 1 + 1; omega
      | ⟨1, _⟩ => have : (y 1).val < 128 := (y 1).isLt; show 0 ≤ (y 1).val ∧ (y 1).val < 0 + 128; omega
      | ⟨2, _⟩ => have : (y 2).val < 512 := (y 2).isLt; show 0 ≤ (y 2).val ∧ (y 2).val < 0 + 512; omega
    obtain ⟨x, rfl⟩ := ex_of_mem _ y hm
    exact (View.canon_cons_emb R1 b _ x).trans (congrFun (ld_join1 a b) x).symm

end cov

/-- The tables and weights as the windows hold them. -/
def parOf (x3 : Vec Ideal S4x1536 .f32) (x4 : Vec Ideal S1x1536 .f32) (x5 x6 : Vec Ideal S1x128 .f32) (x7 x8 : Vec Ideal S1x1024 .f32)
    (x9 : Vec Ideal S128x1024 .f32) (x10 : Vec Ideal S64x64 .f32) (x11 x12 : Vec Ideal S64x1024 .f32) (x13 : Vec Ideal S256x256 .f32) : Par where
  w0 := View.ld (Val := Elt Ideal) (e' := .f32) x3 (Rect.unit ![0, 0] S1x1536.size inb_S4x1536_S1x1536_0_0)
  w1 := View.ld (Val := Elt Ideal) (e' := .f32) x3 (Rect.unit ![1, 0] S1x1536.size inb_S4x1536_S1x1536_1_0)
  w2 := View.ld (Val := Elt Ideal) (e' := .f32) x3 (Rect.unit ![2, 0] S1x1536.size inb_S4x1536_S1x1536_2_0)
  w3 := View.ld (Val := Elt Ideal) (e' := .f32) x3 (Rect.unit ![3, 0] S1x1536.size inb_S4x1536_S1x1536_3_0)
  b := x4
  dtb := x5
  aneg := x6
  expand := x9
  tri := x10
  eye := x11
  neg := x12
  bd := x13
  dsk := x7
  nw := x8

/-- Rows `o` on of a matrix, 64 of them. -/
def cut {n m : Nat} (hn : 0 < n) (x : (Shape.mk 2 ![n, m]).Idx → EReal) (o : Nat) : (Shape.mk 2 ![64, m]).Idx → EReal := fun i =>
  x (ix2 ⟨(o + (i 0).val) % n, Nat.mod_lt _ hn⟩ (i 1))

theorem ld_cut {n m o : Nat} (hn : 0 < n) (x : (Shape.mk 2 ![n, m]).Idx → EReal) (inb : ∀ a, ![o, 0] a + ![64, m] a ≤ (Shape.mk 2 ![n, m]).size a) :
    View.ld (Val := Elt Ideal) (e' := .f32) x (Rect.unit ![o, 0] ![64, m] inb) = cut hn x o := by
  funext i
  refine congrArg x (funext fun a => Fin.ext ?_)
  have h0 := inb 0
  have hi : (i 0).val < 64 := (i 0).isLt
  match a with
  | ⟨0, _⟩ =>
    show o + 1 * (i 0).val = (o + (i 0).val) % n
    change o + 64 ≤ n at h0
    rw [Nat.mod_eq_of_lt (by omega)]; omega
  | ⟨1, _⟩ => show 0 + 1 * (i 1).val = (i 1).val; omega

def rowsOf (e : Vec Ideal S264x1536 .f32) (x2 : Vec Ideal S256x128 .f32) (x0 : Vec Ideal S256x1024 .f32) (j : Nat) : Rows where
  e0 := cut (n := 264) (by decide) e (64 * j + 5)
  e1 := cut (n := 264) (by decide) e (64 * j + 6)
  e2 := cut (n := 264) (by decide) e (64 * j + 7)
  e3 := cut (n := 264) (by decide) e (64 * j + 8)
  sm := cut (n := 256) (by decide) x2 (64 * j)
  z := cut (n := 256) (by decide) x0 (64 * j)

/-- Half 0 of the state before the `j`-th chunk of a block. -/
def half0 (p : Par) (r : Nat → Rows) (a : Vec Ideal S1x128x512 .f32) : Nat → Vec Ideal S1x128x512 .f32
  | 0 => a
  | n + 1 => st0 p (r n) (half0 p r a n)
/-- Half 1 of it. -/
def half1 (p : Par) (r : Nat → Rows) (a : Vec Ideal S1x128x512 .f32) : Nat → Vec Ideal S1x128x512 .f32
  | 0 => a
  | n + 1 => st1 p (r n) (half1 p r a n)

section
variable (p : Par) (r : Nat → Rows) (a : Vec Ideal S1x128x512 .f32)
theorem half0_4 : half0 p r a 4 = st0 p (r 3) (half0 p r a 3) := rfl
theorem half0_3 : half0 p r a 3 = st0 p (r 2) (half0 p r a 2) := rfl
theorem half0_2 : half0 p r a 2 = st0 p (r 1) (half0 p r a 1) := rfl
theorem half0_1 : half0 p r a 1 = st0 p (r 0) (half0 p r a 0) := rfl
theorem half0_0 : half0 p r a 0 = a := rfl
theorem half1_4 : half1 p r a 4 = st1 p (r 3) (half1 p r a 3) := rfl
theorem half1_3 : half1 p r a 3 = st1 p (r 2) (half1 p r a 2) := rfl
theorem half1_2 : half1 p r a 2 = st1 p (r 1) (half1 p r a 1) := rfl
theorem half1_1 : half1 p r a 1 = st1 p (r 0) (half1 p r a 0) := rfl
theorem half1_0 : half1 p r a 0 = a := rfl
end

/-- Four chunks of rows as a block. -/
def rows4 (g : Nat → Vec Ideal S64x1024 .f32) : Vec Ideal S256x1024 .f32 := fun y =>
  g ((y 0).val / 64) (ix2 ⟨(y 0).val % 64, Nat.mod_lt _ (by decide)⟩ (y 1))

theorem rows4_emb (g : Nat → Vec Ideal S64x1024 .f32) (j : Nat) (inb : ∀ a, ![64 * j, 0] a + S64x1024.size a ≤ S256x1024.size a)
    (x : S64x1024.Idx) : rows4 g ((Rect.unit (s := S256x1024) ![64 * j, 0] S64x1024.size inb).emb x) = g j x := by
  have h0 : (((Rect.unit (s := S256x1024) ![64 * j, 0] S64x1024.size inb).emb x) 0).val = 64 * j + 1 * (x 0).val := rfl
  have hx : (x 0).val < 64 := (x 0).isLt
  unfold rows4
  have hj : (((Rect.unit (s := S256x1024) ![64 * j, 0] S64x1024.size inb).emb x) 0).val / 64 = j := by omega
  rw [hj]
  refine congrArg (g j) (funext fun i => Fin.ext ?_)
  match i with
  | ⟨0, _⟩ => show (((Rect.unit (s := S256x1024) ![64 * j, 0] S64x1024.size inb).emb x) 0).val % 64 = (x 0).val; omega
  | ⟨1, _⟩ => show 0 + 1 * (x 1).val = (x 1).val; omega

theorem out_canon (g : Nat → Vec Ideal S64x1024 .f32) (L : List (View.Piece (Elt Ideal) S256x1024 .f32))
    (hL : L = [⟨Rect.unit ![192, 0] S64x1024.size inb_S256x1024_S64x1024_192_0, g 3⟩,
      ⟨Rect.unit ![128, 0] S64x1024.size inb_S256x1024_S64x1024_128_0, g 2⟩,
      ⟨Rect.unit ![64, 0] S64x1024.size inb_S256x1024_S64x1024_64_0, g 1⟩,
      ⟨Rect.unit ![0, 0] S64x1024.size inb_S256x1024_S64x1024_0_0, g 0⟩]) :
    View.canon L = rows4 g := by
  subst hL
  funext y
  refine View.canon_apply_of_pieces (rows4 g) _ ?_ y ?_
  · intro p hp x
    simp only [List.mem_cons, List.not_mem_nil, or_false] at hp
    rcases hp with rfl | rfl | rfl | rfl
    · exact (rows4_emb g 3 inb_S256x1024_S64x1024_192_0 x).symm
    · exact (rows4_emb g 2 inb_S256x1024_S64x1024_128_0 x).symm
    · exact (rows4_emb g 1 inb_S256x1024_S64x1024_64_0 x).symm
    · exact (rows4_emb g 0 inb_S256x1024_S64x1024_0_0 x).symm
  · have h0 : (y 0).val < 256 := (y 0).isLt
    have h1 : (y 1).val < 1024 := (y 1).isLt
    have key : ∀ o (inb : ∀ a, ![o, 0] a + S64x1024.size a ≤ S256x1024.size a), o ≤ (y 0).val → (y 0).val < o + 64 →
        y ∈ (Rect.unit (s := S256x1024) ![o, 0] S64x1024.size inb).set := fun o inb ha hb => by
      rw [Rect.mem_set_unit]
      intro i
      match i with
      | ⟨0, _⟩ => exact ⟨ha, hb⟩
      | ⟨1, _⟩ => show 0 ≤ (y 1).val ∧ (y 1).val < 0 + 1024; omega
    by_cases a3 : 192 ≤ (y 0).val
    · exact ⟨_, List.mem_cons_self, key 192 inb_S256x1024_S64x1024_192_0 a3 (by omega)⟩
    by_cases a2 : 128 ≤ (y 0).val
    · exact ⟨_, List.mem_cons_of_mem _ List.mem_cons_self, key 128 inb_S256x1024_S64x1024_128_0 a2 (by omega)⟩
    by_cases a1 : 64 ≤ (y 0).val
    · exact ⟨_, List.mem_cons_of_mem _ (List.mem_cons_of_mem _ List.mem_cons_self), key 64 inb_S256x1024_S64x1024_64_0 a1 (by omega)⟩
    · exact ⟨_, List.mem_cons_of_mem _ (List.mem_cons_of_mem _ (List.mem_cons_of_mem _ List.mem_cons_self)), key 0 inb_S256x1024_S64x1024_0_0 (by omega) (by omega)⟩

theorem rows_ld0 (e : Vec Ideal S264x1536 .f32) (x2 : Vec Ideal S256x128 .f32) (x0 : Vec Ideal S256x1024 .f32) :
    rowsOf e x2 x0 0 = ⟨View.ld (Val := Elt Ideal) (e' := .f32) e (Rect.unit (s := S264x1536) ![5, 0] S64x1536.size inb_S264x1536_S64x1536_5_0),
      View.ld (Val := Elt Ideal) (e' := .f32) e (Rect.unit (s := S264x1536) ![6, 0] S64x1536.size inb_S264x1536_S64x1536_6_0),
      View.ld (Val := Elt Ideal) (e' := .f32) e (Rect.unit (s := S264x1536) ![7, 0] S64x1536.size inb_S264x1536_S64x1536_7_0),
      View.ld (Val := Elt Ideal) (e' := .f32) e (Rect.unit (s := S264x1536) ![8, 0] S64x1536.size inb_S264x1536_S64x1536_8_0),
      View.ld (Val := Elt Ideal) (e' := .f32) x2 (Rect.unit (s := S256x128) ![0, 0] S64x128.size inb_S256x128_S64x128_0_0),
      View.ld (Val := Elt Ideal) (e' := .f32) x0 (Rect.unit (s := S256x1024) ![0, 0] S64x1024.size inb_S256x1024_S64x1024_0_0)⟩ := by
  rw [ld_cut (n := 264) (m := 1536) (by decide), ld_cut (n := 264) (m := 1536) (by decide), ld_cut (n := 264) (m := 1536) (by decide), ld_cut (n := 264) (m := 1536) (by decide), ld_cut (n := 256) (m := 128) (by decide), ld_cut (n := 256) (m := 1024) (by decide)]
  rfl
theorem rows_ld1 (e : Vec Ideal S264x1536 .f32) (x2 : Vec Ideal S256x128 .f32) (x0 : Vec Ideal S256x1024 .f32) :
    rowsOf e x2 x0 1 = ⟨View.ld (Val := Elt Ideal) (e' := .f32) e (Rect.unit (s := S264x1536) ![69, 0] S64x1536.size inb_S264x1536_S64x1536_69_0),
      View.ld (Val := Elt Ideal) (e' := .f32) e (Rect.unit (s := S264x1536) ![70, 0] S64x1536.size inb_S264x1536_S64x1536_70_0),
      View.ld (Val := Elt Ideal) (e' := .f32) e (Rect.unit (s := S264x1536) ![71, 0] S64x1536.size inb_S264x1536_S64x1536_71_0),
      View.ld (Val := Elt Ideal) (e' := .f32) e (Rect.unit (s := S264x1536) ![72, 0] S64x1536.size inb_S264x1536_S64x1536_72_0),
      View.ld (Val := Elt Ideal) (e' := .f32) x2 (Rect.unit (s := S256x128) ![64, 0] S64x128.size inb_S256x128_S64x128_64_0),
      View.ld (Val := Elt Ideal) (e' := .f32) x0 (Rect.unit (s := S256x1024) ![64, 0] S64x1024.size inb_S256x1024_S64x1024_64_0)⟩ := by
  rw [ld_cut (n := 264) (m := 1536) (by decide), ld_cut (n := 264) (m := 1536) (by decide), ld_cut (n := 264) (m := 1536) (by decide), ld_cut (n := 264) (m := 1536) (by decide), ld_cut (n := 256) (m := 128) (by decide), ld_cut (n := 256) (m := 1024) (by decide)]
  rfl
theorem rows_ld2 (e : Vec Ideal S264x1536 .f32) (x2 : Vec Ideal S256x128 .f32) (x0 : Vec Ideal S256x1024 .f32) :
    rowsOf e x2 x0 2 = ⟨View.ld (Val := Elt Ideal) (e' := .f32) e (Rect.unit (s := S264x1536) ![133, 0] S64x1536.size inb_S264x1536_S64x1536_133_0),
      View.ld (Val := Elt Ideal) (e' := .f32) e (Rect.unit (s := S264x1536) ![134, 0] S64x1536.size inb_S264x1536_S64x1536_134_0),
      View.ld (Val := Elt Ideal) (e' := .f32) e (Rect.unit (s := S264x1536) ![135, 0] S64x1536.size inb_S264x1536_S64x1536_135_0),
      View.ld (Val := Elt Ideal) (e' := .f32) e (Rect.unit (s := S264x1536) ![136, 0] S64x1536.size inb_S264x1536_S64x1536_136_0),
      View.ld (Val := Elt Ideal) (e' := .f32) x2 (Rect.unit (s := S256x128) ![128, 0] S64x128.size inb_S256x128_S64x128_128_0),
      View.ld (Val := Elt Ideal) (e' := .f32) x0 (Rect.unit (s := S256x1024) ![128, 0] S64x1024.size inb_S256x1024_S64x1024_128_0)⟩ := by
  rw [ld_cut (n := 264) (m := 1536) (by decide), ld_cut (n := 264) (m := 1536) (by decide), ld_cut (n := 264) (m := 1536) (by decide), ld_cut (n := 264) (m := 1536) (by decide), ld_cut (n := 256) (m := 128) (by decide), ld_cut (n := 256) (m := 1024) (by decide)]
  rfl
theorem rows_ld3 (e : Vec Ideal S264x1536 .f32) (x2 : Vec Ideal S256x128 .f32) (x0 : Vec Ideal S256x1024 .f32) :
    rowsOf e x2 x0 3 = ⟨View.ld (Val := Elt Ideal) (e' := .f32) e (Rect.unit (s := S264x1536) ![197, 0] S64x1536.size inb_S264x1536_S64x1536_197_0),
      View.ld (Val := Elt Ideal) (e' := .f32) e (Rect.unit (s := S264x1536) ![198, 0] S64x1536.size inb_S264x1536_S64x1536_198_0),
      View.ld (Val := Elt Ideal) (e' := .f32) e (Rect.unit (s := S264x1536) ![199, 0] S64x1536.size inb_S264x1536_S64x1536_199_0),
      View.ld (Val := Elt Ideal) (e' := .f32) e (Rect.unit (s := S264x1536) ![200, 0] S64x1536.size inb_S264x1536_S64x1536_200_0),
      View.ld (Val := Elt Ideal) (e' := .f32) x2 (Rect.unit (s := S256x128) ![192, 0] S64x128.size inb_S256x128_S64x128_192_0),
      View.ld (Val := Elt Ideal) (e' := .f32) x0 (Rect.unit (s := S256x1024) ![192, 0] S64x1024.size inb_S256x1024_S64x1024_192_0)⟩ := by
  rw [ld_cut (n := 264) (m := 1536) (by decide), ld_cut (n := 264) (m := 1536) (by decide), ld_cut (n := 264) (m := 1536) (by decide), ld_cut (n := 264) (m := 1536) (by decide), ld_cut (n := 256) (m := 128) (by decide), ld_cut (n := 256) (m := 1024) (by decide)]
  rfl

theorem pay4_eq (x : Vec Ideal S256x1536 .f32) : k0_pay4 x = x := by
  unfold k0_pay4; exact shapeCast_self ..
theorem pay3_eq (x : Vec Ideal S8x1536 .f32) : k0_pay3 x = x := by
  unfold k0_pay3; exact shapeCast_self ..

theorem cov_w0 {sig : RefSig} {κ : Kind} {sp : Space} (v : View sig κ sp S2x128x512 .f32) (z : Vec Ideal S2x128x512 .f32) :
    v.readCov [⟨Rect.unit ![0, 0, 0] S2x128x512.size inb_S2x128x512_S2x128x512_0_0_0, z⟩] R0.toLoadRect
      = View.ld (Val := Elt Ideal) (e' := .f32) z R0 := by
  rw [View.readCov_eq_canon', View.canon_cons_unit_zero hz3]
theorem cov_w1 {sig : RefSig} {κ : Kind} {sp : Space} (v : View sig κ sp S2x128x512 .f32) (z : Vec Ideal S2x128x512 .f32)
    (w : R0.shape.Idx → Elt Ideal .f32) :
    v.readCov [⟨R0, w⟩, ⟨Rect.unit ![0, 0, 0] S2x128x512.size inb_S2x128x512_S2x128x512_0_0_0, z⟩] R1.toLoadRect
      = View.ld (Val := Elt Ideal) (e' := .f32) z R1 := by
  rw [cov_skip v R0 R1 w _ fun j => not_mem01 _ (emb1 j), View.readCov_eq_canon', View.canon_cons_unit_zero hz3]

abbrev RH : Rect S264x1536 := Rect.unit ![256, 0] S8x1536.size inb_S264x1536_S8x1536_256_0

theorem out0_B_14_eq (c : Dev nD) (i : grid0.Coords) (arg2 : Memref sig .tc .vmem S256x1024 .f32) (harg2 : arg2.IsWhole) (arg3 : Memref sig .tc .vmem S256x1536 .f32) (harg3 : arg3.IsWhole) (arg4 : Memref sig .tc .vmem S256x128 .f32) (harg4 : arg4.IsWhole) (arg5 : Memref sig .tc .vmem S4x1536 .f32) (harg5 : arg5.IsWhole) (arg6 : Memref sig .tc .vmem S1x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .f32) (harg11 : arg11.IsWhole) (arg12 : Memref sig .tc .vmem S64x64 .f32) (harg12 : arg12.IsWhole) (arg13 : Memref sig .tc .vmem S64x1024 .f32) (harg13 : arg13.IsWhole) (arg14 : Memref sig .tc .vmem S64x1024 .f32) (harg14 : arg14.IsWhole) (arg15 : Memref sig .tc .vmem S256x256 .f32) (harg15 : arg15.IsWhole) (arg16 : Memref sig .tc .vmem S256x1024 .f32) (harg16 : arg16.IsWhole) (arg17 : Memref sig .tc .vmem S264x1536 .f32) (harg17 : arg17.IsWhole) (arg18 : Memref sig .tc .vmem S2x128x512 .f32) (harg18 : arg18.IsWhole) (hc0 : ¬cond0_0 i) (hc1 : cond0_1 i) (hc2 : ¬cond0_2 i)
       (x0 : Vec Ideal S256x1024 .f32) (x1 : Vec Ideal S256x1536 .f32) (x2 : Vec Ideal S256x128 .f32) (x3 : Vec Ideal S4x1536 .f32) (x4 : Vec Ideal S1x1536 .f32) (x5 : Vec Ideal S1x128 .f32) (x6 : Vec Ideal S1x128 .f32) (x7 : Vec Ideal S1x1024 .f32) (x8 : Vec Ideal S1x1024 .f32) (x9 : Vec Ideal S128x1024 .f32) (x10 : Vec Ideal S64x64 .f32) (x11 : Vec Ideal S64x1024 .f32) (x12 : Vec Ideal S64x1024 .f32) (x13 : Vec Ideal S256x256 .f32) (xs0 : Vec Ideal S264x1536 .f32) (xs1 : Vec Ideal S2x128x512 .f32) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 xs0 xs1 =
      rows4 fun j => outC (parOf x3 x4 x5 x6 x7 x8 x9 x10 x11 x12 x13) ((rowsOf (ext x1 (View.ld (Val := Elt Ideal) (e' := .f32) xs0 RH)) x2 x0) j) (half0 (parOf x3 x4 x5 x6 x7 x8 x9 x10 x11 x12 x13) (rowsOf (ext x1 (View.ld (Val := Elt Ideal) (e' := .f32) xs0 RH)) x2 x0) (View.ld (Val := Elt Ideal) (e' := .f32) xs1 R0) j) (half1 (parOf x3 x4 x5 x6 x7 x8 x9 x10 x11 x12 x13) (rowsOf (ext x1 (View.ld (Val := Elt Ideal) (e' := .f32) xs0 RH)) x2 x0) (View.ld (Val := Elt Ideal) (e' := .f32) xs1 R1) j) := by
  unfold out0_B_14
  rw [View.read_writes_junk_eq_canon]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x256) hz2, View.ld_unit_zero (S := S1x1536) hz2, View.ld_unit_zero (S := S1x128) hz2, View.ld_unit_zero (S := S1x1024) hz2, View.ld_unit_zero (S := S128x1024) hz2, View.ld_unit_zero (S := S64x64) hz2, View.ld_unit_zero (S := S64x1024) hz2, View.ld_unit_zero (S := S256x1536) hz2, pay3_eq, pay4_eq, ext_cov, cov_st0, cov_st1, cov_w0, cov_w1]
  refine out_canon _ _ ?_
  beta_reduce
  iterate 16 rw [ext_cov]
  repeat first | rw [cov_st0] | rw [cov_st1]
  rw [half0_3, half0_2, half0_1, half0_0, half1_3, half1_2, half1_1, half1_0,
    ← chunk3 _ (rowsOf _ _ _ 3), ← chunk2 _ (rowsOf _ _ _ 2), ← chunk1 _ (rowsOf _ _ _ 1), ← chunk0 _ (rowsOf _ _ _ 0),
    ← chunk2_st0 _ (rowsOf _ _ _ 2), ← chunk1_st0 _ (rowsOf _ _ _ 1), ← chunk0_st0 _ (rowsOf _ _ _ 0),
    ← chunk2_st1 _ (rowsOf _ _ _ 2), ← chunk1_st1 _ (rowsOf _ _ _ 1), ← chunk0_st1 _ (rowsOf _ _ _ 0)]
  rw [rows_ld3, rows_ld2, rows_ld1, rows_ld0]
  dsimp only [parOf]

theorem sout0_B_0_eq (c : Dev nD) (i : grid0.Coords) (arg2 : Memref sig .tc .vmem S256x1024 .f32) (harg2 : arg2.IsWhole) (arg3 : Memref sig .tc .vmem S256x1536 .f32) (harg3 : arg3.IsWhole) (arg4 : Memref sig .tc .vmem S256x128 .f32) (harg4 : arg4.IsWhole) (arg5 : Memref sig .tc .vmem S4x1536 .f32) (harg5 : arg5.IsWhole) (arg6 : Memref sig .tc .vmem S1x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .f32) (harg11 : arg11.IsWhole) (arg12 : Memref sig .tc .vmem S64x64 .f32) (harg12 : arg12.IsWhole) (arg13 : Memref sig .tc .vmem S64x1024 .f32) (harg13 : arg13.IsWhole) (arg14 : Memref sig .tc .vmem S64x1024 .f32) (harg14 : arg14.IsWhole) (arg15 : Memref sig .tc .vmem S256x256 .f32) (harg15 : arg15.IsWhole) (arg16 : Memref sig .tc .vmem S256x1024 .f32) (harg16 : arg16.IsWhole) (arg17 : Memref sig .tc .vmem S264x1536 .f32) (harg17 : arg17.IsWhole) (arg18 : Memref sig .tc .vmem S2x128x512 .f32) (harg18 : arg18.IsWhole) (hc0 : ¬cond0_0 i) (hc1 : cond0_1 i) (hc2 : ¬cond0_2 i)
       (x0 : Vec Ideal S256x1024 .f32) (x1 : Vec Ideal S256x1536 .f32) (x2 : Vec Ideal S256x128 .f32) (x3 : Vec Ideal S4x1536 .f32) (x4 : Vec Ideal S1x1536 .f32) (x5 : Vec Ideal S1x128 .f32) (x6 : Vec Ideal S1x128 .f32) (x7 : Vec Ideal S1x1024 .f32) (x8 : Vec Ideal S1x1024 .f32) (x9 : Vec Ideal S128x1024 .f32) (x10 : Vec Ideal S64x64 .f32) (x11 : Vec Ideal S64x1024 .f32) (x12 : Vec Ideal S64x1024 .f32) (x13 : Vec Ideal S256x256 .f32) (xs0 : Vec Ideal S264x1536 .f32) (xs1 : Vec Ideal S2x128x512 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 xs0 xs1 =
      (ext x1 (View.ld (Val := Elt Ideal) (e' := .f32) xs0 RH)) := by
  unfold sout0_B_0
  rw [View.read_writes_junk_eq_canon]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x256) hz2, View.ld_unit_zero (S := S1x1536) hz2, View.ld_unit_zero (S := S1x128) hz2, View.ld_unit_zero (S := S1x1024) hz2, View.ld_unit_zero (S := S128x1024) hz2, View.ld_unit_zero (S := S64x64) hz2, View.ld_unit_zero (S := S64x1024) hz2, View.ld_unit_zero (S := S256x1536) hz2, pay3_eq, pay4_eq, ext_cov, cov_st0, cov_st1, cov_w0, cov_w1]
  exact ext_canon _ _

theorem sout0_B_1_eq (c : Dev nD) (i : grid0.Coords) (arg2 : Memref sig .tc .vmem S256x1024 .f32) (harg2 : arg2.IsWhole) (arg3 : Memref sig .tc .vmem S256x1536 .f32) (harg3 : arg3.IsWhole) (arg4 : Memref sig .tc .vmem S256x128 .f32) (harg4 : arg4.IsWhole) (arg5 : Memref sig .tc .vmem S4x1536 .f32) (harg5 : arg5.IsWhole) (arg6 : Memref sig .tc .vmem S1x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .f32) (harg11 : arg11.IsWhole) (arg12 : Memref sig .tc .vmem S64x64 .f32) (harg12 : arg12.IsWhole) (arg13 : Memref sig .tc .vmem S64x1024 .f32) (harg13 : arg13.IsWhole) (arg14 : Memref sig .tc .vmem S64x1024 .f32) (harg14 : arg14.IsWhole) (arg15 : Memref sig .tc .vmem S256x256 .f32) (harg15 : arg15.IsWhole) (arg16 : Memref sig .tc .vmem S256x1024 .f32) (harg16 : arg16.IsWhole) (arg17 : Memref sig .tc .vmem S264x1536 .f32) (harg17 : arg17.IsWhole) (arg18 : Memref sig .tc .vmem S2x128x512 .f32) (harg18 : arg18.IsWhole) (hc0 : ¬cond0_0 i) (hc1 : cond0_1 i) (hc2 : ¬cond0_2 i)
       (x0 : Vec Ideal S256x1024 .f32) (x1 : Vec Ideal S256x1536 .f32) (x2 : Vec Ideal S256x128 .f32) (x3 : Vec Ideal S4x1536 .f32) (x4 : Vec Ideal S1x1536 .f32) (x5 : Vec Ideal S1x128 .f32) (x6 : Vec Ideal S1x128 .f32) (x7 : Vec Ideal S1x1024 .f32) (x8 : Vec Ideal S1x1024 .f32) (x9 : Vec Ideal S128x1024 .f32) (x10 : Vec Ideal S64x64 .f32) (x11 : Vec Ideal S64x1024 .f32) (x12 : Vec Ideal S64x1024 .f32) (x13 : Vec Ideal S256x256 .f32) (xs0 : Vec Ideal S264x1536 .f32) (xs1 : Vec Ideal S2x128x512 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 xs0 xs1 =
      join (half0 (parOf x3 x4 x5 x6 x7 x8 x9 x10 x11 x12 x13) (rowsOf (ext x1 (View.ld (Val := Elt Ideal) (e' := .f32) xs0 RH)) x2 x0) (View.ld (Val := Elt Ideal) (e' := .f32) xs1 R0) 4) (half1 (parOf x3 x4 x5 x6 x7 x8 x9 x10 x11 x12 x13) (rowsOf (ext x1 (View.ld (Val := Elt Ideal) (e' := .f32) xs0 RH)) x2 x0) (View.ld (Val := Elt Ideal) (e' := .f32) xs1 R1) 4) := by
  unfold sout0_B_1
  rw [View.read_writes_junk_eq_canon]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x256) hz2, View.ld_unit_zero (S := S1x1536) hz2, View.ld_unit_zero (S := S1x128) hz2, View.ld_unit_zero (S := S1x1024) hz2, View.ld_unit_zero (S := S128x1024) hz2, View.ld_unit_zero (S := S64x64) hz2, View.ld_unit_zero (S := S64x1024) hz2, View.ld_unit_zero (S := S256x1536) hz2, pay3_eq, pay4_eq, ext_cov, cov_st0, cov_st1, cov_w0, cov_w1]
  refine (join_canon _ _ _).trans ?_
  iterate 16 rw [ext_cov]
  repeat first | rw [cov_st0] | rw [cov_st1]
  rw [half0_4, half0_3, half0_2, half0_1, half0_0, half1_4, half1_3, half1_2, half1_1, half1_0,
    ← chunk3_st0 _ (rowsOf _ _ _ 3), ← chunk3_st1 _ (rowsOf _ _ _ 3),
    ← chunk2_st0 _ (rowsOf _ _ _ 2), ← chunk1_st0 _ (rowsOf _ _ _ 1), ← chunk0_st0 _ (rowsOf _ _ _ 0),
    ← chunk2_st1 _ (rowsOf _ _ _ 2), ← chunk1_st1 _ (rowsOf _ _ _ 1), ← chunk0_st1 _ (rowsOf _ _ _ 0),
    rows_ld3, rows_ld2, rows_ld1, rows_ld0]
  dsimp only [parOf]

theorem out0_A_14_eq (c : Dev nD) (i : grid0.Coords) (arg2 : Memref sig .tc .vmem S256x1024 .f32) (harg2 : arg2.IsWhole) (arg3 : Memref sig .tc .vmem S256x1536 .f32) (harg3 : arg3.IsWhole) (arg4 : Memref sig .tc .vmem S256x128 .f32) (harg4 : arg4.IsWhole) (arg5 : Memref sig .tc .vmem S4x1536 .f32) (harg5 : arg5.IsWhole) (arg6 : Memref sig .tc .vmem S1x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .f32) (harg11 : arg11.IsWhole) (arg12 : Memref sig .tc .vmem S64x64 .f32) (harg12 : arg12.IsWhole) (arg13 : Memref sig .tc .vmem S64x1024 .f32) (harg13 : arg13.IsWhole) (arg14 : Memref sig .tc .vmem S64x1024 .f32) (harg14 : arg14.IsWhole) (arg15 : Memref sig .tc .vmem S256x256 .f32) (harg15 : arg15.IsWhole) (arg16 : Memref sig .tc .vmem S256x1024 .f32) (harg16 : arg16.IsWhole) (arg17 : Memref sig .tc .vmem S264x1536 .f32) (harg17 : arg17.IsWhole) (arg18 : Memref sig .tc .vmem S2x128x512 .f32) (harg18 : arg18.IsWhole) (hc0 : cond0_0 i) (hc1 : ¬cond0_1 i) (hc2 : cond0_2 i)
       (x0 : Vec Ideal S256x1024 .f32) (x1 : Vec Ideal S256x1536 .f32) (x2 : Vec Ideal S256x128 .f32) (x3 : Vec Ideal S4x1536 .f32) (x4 : Vec Ideal S1x1536 .f32) (x5 : Vec Ideal S1x128 .f32) (x6 : Vec Ideal S1x128 .f32) (x7 : Vec Ideal S1x1024 .f32) (x8 : Vec Ideal S1x1024 .f32) (x9 : Vec Ideal S128x1024 .f32) (x10 : Vec Ideal S64x64 .f32) (x11 : Vec Ideal S64x1024 .f32) (x12 : Vec Ideal S64x1024 .f32) (x13 : Vec Ideal S256x256 .f32) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 =
      rows4 fun j => outC (parOf x3 x4 x5 x6 x7 x8 x9 x10 x11 x12 x13) ((rowsOf (ext x1 (k0_pay2 (F := Ideal))) x2 x0) j) (half0 (parOf x3 x4 x5 x6 x7 x8 x9 x10 x11 x12 x13) (rowsOf (ext x1 (k0_pay2 (F := Ideal))) x2 x0) (View.ld (Val := Elt Ideal) (e' := .f32) (k0_pay5 (F := Ideal)) R0) j) (half1 (parOf x3 x4 x5 x6 x7 x8 x9 x10 x11 x12 x13) (rowsOf (ext x1 (k0_pay2 (F := Ideal))) x2 x0) (View.ld (Val := Elt Ideal) (e' := .f32) (k0_pay5 (F := Ideal)) R1) j) := by
  unfold out0_A_14
  rw [View.read_writes_junk_eq_canon]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x256) hz2, View.ld_unit_zero (S := S1x1536) hz2, View.ld_unit_zero (S := S1x128) hz2, View.ld_unit_zero (S := S1x1024) hz2, View.ld_unit_zero (S := S128x1024) hz2, View.ld_unit_zero (S := S64x64) hz2, View.ld_unit_zero (S := S64x1024) hz2, View.ld_unit_zero (S := S256x1536) hz2, pay3_eq, pay4_eq, ext_cov, cov_st0, cov_st1, cov_w0, cov_w1]
  refine out_canon _ _ ?_
  beta_reduce
  iterate 16 rw [ext_cov]
  rw [cov_w0]
  rw [cov_w1]
  repeat first | rw [cov_st0] | rw [cov_st1]
  rw [half0_3, half0_2, half0_1, half0_0, half1_3, half1_2, half1_1, half1_0,
    ← chunk3 _ (rowsOf _ _ _ 3), ← chunk2 _ (rowsOf _ _ _ 2), ← chunk1 _ (rowsOf _ _ _ 1), ← chunk0 _ (rowsOf _ _ _ 0),
    ← chunk2_st0 _ (rowsOf _ _ _ 2), ← chunk1_st0 _ (rowsOf _ _ _ 1), ← chunk0_st0 _ (rowsOf _ _ _ 0),
    ← chunk2_st1 _ (rowsOf _ _ _ 2), ← chunk1_st1 _ (rowsOf _ _ _ 1), ← chunk0_st1 _ (rowsOf _ _ _ 0)]
  rw [rows_ld3, rows_ld2, rows_ld1, rows_ld0]
  dsimp only [parOf]

theorem sout0_A_0_eq (c : Dev nD) (i : grid0.Coords) (arg2 : Memref sig .tc .vmem S256x1024 .f32) (harg2 : arg2.IsWhole) (arg3 : Memref sig .tc .vmem S256x1536 .f32) (harg3 : arg3.IsWhole) (arg4 : Memref sig .tc .vmem S256x128 .f32) (harg4 : arg4.IsWhole) (arg5 : Memref sig .tc .vmem S4x1536 .f32) (harg5 : arg5.IsWhole) (arg6 : Memref sig .tc .vmem S1x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .f32) (harg11 : arg11.IsWhole) (arg12 : Memref sig .tc .vmem S64x64 .f32) (harg12 : arg12.IsWhole) (arg13 : Memref sig .tc .vmem S64x1024 .f32) (harg13 : arg13.IsWhole) (arg14 : Memref sig .tc .vmem S64x1024 .f32) (harg14 : arg14.IsWhole) (arg15 : Memref sig .tc .vmem S256x256 .f32) (harg15 : arg15.IsWhole) (arg16 : Memref sig .tc .vmem S256x1024 .f32) (harg16 : arg16.IsWhole) (arg17 : Memref sig .tc .vmem S264x1536 .f32) (harg17 : arg17.IsWhole) (arg18 : Memref sig .tc .vmem S2x128x512 .f32) (harg18 : arg18.IsWhole) (hc0 : cond0_0 i) (hc1 : ¬cond0_1 i) (hc2 : cond0_2 i)
       (x0 : Vec Ideal S256x1024 .f32) (x1 : Vec Ideal S256x1536 .f32) (x2 : Vec Ideal S256x128 .f32) (x3 : Vec Ideal S4x1536 .f32) (x4 : Vec Ideal S1x1536 .f32) (x5 : Vec Ideal S1x128 .f32) (x6 : Vec Ideal S1x128 .f32) (x7 : Vec Ideal S1x1024 .f32) (x8 : Vec Ideal S1x1024 .f32) (x9 : Vec Ideal S128x1024 .f32) (x10 : Vec Ideal S64x64 .f32) (x11 : Vec Ideal S64x1024 .f32) (x12 : Vec Ideal S64x1024 .f32) (x13 : Vec Ideal S256x256 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 =
      (ext x1 (k0_pay2 (F := Ideal))) := by
  unfold sout0_A_0
  rw [View.read_writes_junk_eq_canon]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x256) hz2, View.ld_unit_zero (S := S1x1536) hz2, View.ld_unit_zero (S := S1x128) hz2, View.ld_unit_zero (S := S1x1024) hz2, View.ld_unit_zero (S := S128x1024) hz2, View.ld_unit_zero (S := S64x64) hz2, View.ld_unit_zero (S := S64x1024) hz2, View.ld_unit_zero (S := S256x1536) hz2, pay3_eq, pay4_eq, ext_cov, cov_st0, cov_st1, cov_w0, cov_w1]
  exact ext_canon _ _

theorem sout0_A_1_eq (c : Dev nD) (i : grid0.Coords) (arg2 : Memref sig .tc .vmem S256x1024 .f32) (harg2 : arg2.IsWhole) (arg3 : Memref sig .tc .vmem S256x1536 .f32) (harg3 : arg3.IsWhole) (arg4 : Memref sig .tc .vmem S256x128 .f32) (harg4 : arg4.IsWhole) (arg5 : Memref sig .tc .vmem S4x1536 .f32) (harg5 : arg5.IsWhole) (arg6 : Memref sig .tc .vmem S1x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .f32) (harg11 : arg11.IsWhole) (arg12 : Memref sig .tc .vmem S64x64 .f32) (harg12 : arg12.IsWhole) (arg13 : Memref sig .tc .vmem S64x1024 .f32) (harg13 : arg13.IsWhole) (arg14 : Memref sig .tc .vmem S64x1024 .f32) (harg14 : arg14.IsWhole) (arg15 : Memref sig .tc .vmem S256x256 .f32) (harg15 : arg15.IsWhole) (arg16 : Memref sig .tc .vmem S256x1024 .f32) (harg16 : arg16.IsWhole) (arg17 : Memref sig .tc .vmem S264x1536 .f32) (harg17 : arg17.IsWhole) (arg18 : Memref sig .tc .vmem S2x128x512 .f32) (harg18 : arg18.IsWhole) (hc0 : cond0_0 i) (hc1 : ¬cond0_1 i) (hc2 : cond0_2 i)
       (x0 : Vec Ideal S256x1024 .f32) (x1 : Vec Ideal S256x1536 .f32) (x2 : Vec Ideal S256x128 .f32) (x3 : Vec Ideal S4x1536 .f32) (x4 : Vec Ideal S1x1536 .f32) (x5 : Vec Ideal S1x128 .f32) (x6 : Vec Ideal S1x128 .f32) (x7 : Vec Ideal S1x1024 .f32) (x8 : Vec Ideal S1x1024 .f32) (x9 : Vec Ideal S128x1024 .f32) (x10 : Vec Ideal S64x64 .f32) (x11 : Vec Ideal S64x1024 .f32) (x12 : Vec Ideal S64x1024 .f32) (x13 : Vec Ideal S256x256 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 =
      join (half0 (parOf x3 x4 x5 x6 x7 x8 x9 x10 x11 x12 x13) (rowsOf (ext x1 (k0_pay2 (F := Ideal))) x2 x0) (View.ld (Val := Elt Ideal) (e' := .f32) (k0_pay5 (F := Ideal)) R0) 4) (half1 (parOf x3 x4 x5 x6 x7 x8 x9 x10 x11 x12 x13) (rowsOf (ext x1 (k0_pay2 (F := Ideal))) x2 x0) (View.ld (Val := Elt Ideal) (e' := .f32) (k0_pay5 (F := Ideal)) R1) 4) := by
  unfold sout0_A_1
  rw [View.read_writes_junk_eq_canon]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x256) hz2, View.ld_unit_zero (S := S1x1536) hz2, View.ld_unit_zero (S := S1x128) hz2, View.ld_unit_zero (S := S1x1024) hz2, View.ld_unit_zero (S := S128x1024) hz2, View.ld_unit_zero (S := S64x64) hz2, View.ld_unit_zero (S := S64x1024) hz2, View.ld_unit_zero (S := S256x1536) hz2, pay3_eq, pay4_eq, ext_cov, cov_st0, cov_st1, cov_w0, cov_w1]
  refine (join_canon _ _ _).trans ?_
  iterate 16 rw [ext_cov]
  rw [cov_w0]
  rw [cov_w1]
  repeat first | rw [cov_st0] | rw [cov_st1]
  rw [half0_4, half0_3, half0_2, half0_1, half0_0, half1_4, half1_3, half1_2, half1_1, half1_0,
    ← chunk3_st0 _ (rowsOf _ _ _ 3), ← chunk3_st1 _ (rowsOf _ _ _ 3),
    ← chunk2_st0 _ (rowsOf _ _ _ 2), ← chunk1_st0 _ (rowsOf _ _ _ 1), ← chunk0_st0 _ (rowsOf _ _ _ 0),
    ← chunk2_st1 _ (rowsOf _ _ _ 2), ← chunk1_st1 _ (rowsOf _ _ _ 1), ← chunk0_st1 _ (rowsOf _ _ _ 0),
    rows_ld3, rows_ld2, rows_ld1, rows_ld0]
  dsimp only [parOf]

end Cert.SsdKernel
end
end
-- ==== Proof.SsdSeq.lean ====
/-
  The state-space layer over a whole run of rows, on the extended reals: two sequences of 8192 rows, each in 128 chunks.
-/
module

public import proofs.«01_k».proof.Proof.SsdSpec

@[expose] public section

noncomputable section

namespace Cert.SsdSeq

open Idealize.ShloMosaic Cert.SsdSpec

/-- The layer's arguments. -/
structure In where
  z : Fin 16384 → Fin 1024 → EReal
  x : Fin 16384 → Fin 1536 → EReal
  sm : Fin 16384 → Fin 128 → EReal
  cw : Fin 4 → Fin 1536 → EReal
  cb : Fin 1536 → EReal
  (dtb alog d : Fin 16 → EReal)
  nw : Fin 1024 → EReal

/-- A row by its number. -/
def row (n : ℕ) : Fin 16384 := ⟨n % 16384, Nat.mod_lt _ (by decide)⟩

variable (i : In)

/-- The row that the convolution's tap `k` reads for row `n`: three back at tap 0, nothing before the sequence's start. -/
def tap (n k : ℕ) (c : Fin 1536) : EReal := if n % 8192 + k < 3 then 0 else i.x (row (n + k - 3)) c

def pre (n : ℕ) (c : Fin 1536) : EReal :=
  tap i n 0 c * i.cw 0 c + tap i n 1 c * i.cw 1 c + tap i n 2 c * i.cw 2 c + tap i n 3 c * i.cw 3 c + i.cb c

/-- The convolution. -/
def conv (n : ℕ) (c : Fin 1536) : EReal := pre i n c * Ideal.logistic (pre i n c)

def arg (n : ℕ) (h : Fin 16) : EReal := i.sm (row n) ⟨h.val, by omega⟩ + i.dtb h

/-- The step size. -/
def step (n : ℕ) (h : Fin 16) : EReal :=
  max (arg i n h) 0 + Ideal.log1p (Ideal.exp (0 - FloatOps.absf (F := Ideal) (φ := .f32) (arg i n h)))

/-- Chunk `K` of the rows. -/
def chunk (K : ℕ) : Ch where
  X l c := conv i (64 * K + l.val) c
  dt l h := step i (64 * K + l.val) h
  lac l h := ∑ s : Fin 64, if s.val ≤ l.val then step i (64 * K + s.val) h * (- Ideal.exp (i.alog h)) else 0
  z l c := i.z (row (64 * K + l.val)) c

/-- The state before chunk `K`. -/
def before (K : ℕ) : Fin 128 → Fin 1024 → EReal := state (fun j => chunk i (K / 128 * 128 + j)) (K % 128)

/-- The layer's value. -/
def val (R : Fin 16384) (c : Fin 1024) : EReal :=
  out (chunk i (R.val / 64)) (before i (R.val / 64)) (fun c => i.d (hd c)) i.nw ⟨R.val % 64, Nat.mod_lt _ (by decide)⟩ c

theorem before_start (K : ℕ) (h : K % 128 = 0) : before i K = fun _ _ => 0 := by
  unfold before
  rw [h]
  rfl

theorem before_next (K : ℕ) (h : (K + 1) % 128 ≠ 0) : before i (K + 1) = next (chunk i K) (before i K) := by
  unfold before
  have h1 : (K + 1) % 128 = K % 128 + 1 := by omega
  have h2 : (K + 1) / 128 = K / 128 := by omega
  rw [h1, h2]
  show next (chunk i (K / 128 * 128 + K % 128)) _ = _
  congr 2
  omega

end Cert.SsdSeq
end
end
-- ==== Proof.SsdPoints.lean ====
/-
  The state-space kernel over its 64 grid points: what each point stores is the layer's value at its 256 rows, by
  induction over the points, the state and the eight last rows going from one to the next.
-/
module

public import proofs.«01_k».proof.Proof.SsdHost
public import proofs.«01_k».proof.Proof.SsdKernel
public import proofs.«01_k».proof.Proof.SsdSeq
public import Idealize.ShloMosaic.Lib.Pointwise

@[expose] public section

set_option maxRecDepth 16384
set_option maxHeartbeats 4000000

noncomputable section

namespace Cert.SsdPoints

open Cert.SsdIdeal Cert.SsdIdeal.Gen Idealize.ShloMosaic Idealize.ShloMosaic.TcCoe Idealize.SL.Sem Idealize.ShloMosaic.Tactic
open Cert.SsdChunk Cert.SsdKernel Cert.SsdRead Cert.SsdHost
open Idealize.ShloMosaic.Pipeline (Dat)

variable (m : (ℓ : Loc nD τ sig) → Buf (Elt Ideal) ℓ)

/-- The arguments as functions of plain coordinates. -/
def inp (c : Dev nD) : SsdSeq.In where
  z R n := m ((c : Thread nD τ).loc main_arg0) (ix2 R n)
  x R n := m ((c : Thread nD τ).loc main_arg1) (ix2 R n)
  sm R n := m ((c : Thread nD τ).loc main_arg2) (ix2 R n)
  cw k n := m ((c : Thread nD τ).loc main_arg3) (ix2 k n)
  cb n := m ((c : Thread nD τ).loc main_arg4) (ix1 n)
  dtb h := m ((c : Thread nD τ).loc main_arg5) (ix1 h)
  alog h := m ((c : Thread nD τ).loc main_arg6) (ix1 h)
  d h := m ((c : Thread nD τ).loc main_arg7) (ix1 h)
  nw n := m ((c : Thread nD τ).loc main_arg8) (ix1 n)

/-- The windows' block indices: the row windows move with the point, the others stay. -/
theorem win_idx : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_14.index t 0 = t.val ∧ win0_14.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_14.index t 0 = t.val ∧ win0_14.index t 1 = 0))

theorem win_idx0 : ∀ t : Fin cfg0.N, ∀ a : Fin 2, win0_3.index t a = 0 ∧ win0_4.index t a = 0 ∧ win0_5.index t a = 0 ∧ win0_6.index t a = 0
    ∧ win0_7.index t a = 0 ∧ win0_8.index t a = 0 ∧ win0_9.index t a = 0 ∧ win0_10.index t a = 0 ∧ win0_11.index t a = 0
    ∧ win0_12.index t a = 0 ∧ win0_13.index t a = 0 :=
  (by decide +kernel : ∀ t : Fin grid0.N, ∀ a : Fin 2, win0_3.index t a = 0 ∧ win0_4.index t a = 0 ∧ win0_5.index t a = 0 ∧ win0_6.index t a = 0
    ∧ win0_7.index t a = 0 ∧ win0_8.index t a = 0 ∧ win0_9.index t a = 0 ∧ win0_10.index t a = 0 ∧ win0_11.index t a = 0
    ∧ win0_12.index t a = 0 ∧ win0_13.index t a = 0)

variable (c : Dev nD) (t : Fin cfg0.N)

theorem tlt : t.val < 64 := by have := t.isLt; have hN : cfg0.N = 64 := N_0; omega

theorem blk_z (r : Fin 256) (n : Fin 1024) : iblk m c 0 t (ix2 r n) = (inp m c).z (SsdSeq.row (256 * t.val + r.val)) n := by
  unfold iblk inp
  rw [View.read_apply, ← V_main_arg0 m c]
  show V m c main_arg0 _ = _
  have h := (win_idx t).1
  have := tlt t
  congr 1
  funext a
  apply Fin.ext
  match a with
  | ⟨0, _⟩ => show win0_0.index t 0 * 256 + 1 * r.val = (256 * t.val + r.val) % 16384; rw [h.1]; omega
  | ⟨1, _⟩ => show win0_0.index t 1 * 1024 + 1 * n.val = n.val; rw [h.2]; omega

theorem blk_x (r : Fin 256) (n : Fin 1536) : iblk m c 1 t (ix2 r n) = (inp m c).x (SsdSeq.row (256 * t.val + r.val)) n := by
  unfold iblk inp
  rw [View.read_apply, ← V_main_arg1 m c]
  show V m c main_arg1 _ = _
  have h := (win_idx t).2.1
  have := tlt t
  congr 1
  funext a
  apply Fin.ext
  match a with
  | ⟨0, _⟩ => show win0_1.index t 0 * 256 + 1 * r.val = (256 * t.val + r.val) % 16384; rw [h.1]; omega
  | ⟨1, _⟩ => show win0_1.index t 1 * 1536 + 1 * n.val = n.val; rw [h.2]; omega

theorem blk_sm (r : Fin 256) (n : Fin 128) : iblk m c 2 t (ix2 r n) = (inp m c).sm (SsdSeq.row (256 * t.val + r.val)) n := by
  unfold iblk inp
  rw [View.read_apply, ← V_main_arg2 m c]
  show V m c main_arg2 _ = _
  have h := (win_idx t).2.2.1
  have := tlt t
  congr 1
  funext a
  apply Fin.ext
  match a with
  | ⟨0, _⟩ => show win0_2.index t 0 * 256 + 1 * r.val = (256 * t.val + r.val) % 16384; rw [h.1]; omega
  | ⟨1, _⟩ => show win0_2.index t 1 * 128 + 1 * n.val = n.val; rw [h.2]; omega

/-- A window that stays reads its whole array. -/
theorem at_rest {S : Shape} (f : S.Idx → EReal) (i j : S.Idx) (h : ∀ a, (i a).val = (j a).val) : f i = f j :=
  congrArg f (funext fun a => Fin.ext (h a))

theorem blk_cw (k : Fin 4) (n : Fin 1536) : iblk m c 3 t (ix2 k n) = (inp m c).cw k n := by
  unfold iblk inp
  rw [View.read_apply, ← V_main_arg3 m c]
  refine at_rest (V m c main_arg3) _ _ fun a => ?_
  match a with
  | ⟨0, _⟩ => show win0_3.index t 0 * 4 + 1 * k.val = k.val; rw [(win_idx0 t 0).1]; omega
  | ⟨1, _⟩ => show win0_3.index t 1 * 1536 + 1 * n.val = n.val; rw [(win_idx0 t 1).1]; omega

theorem blk_b : (iblk m c 4 t : Vec Ideal S1x1536 .f32) = V m c main_v0 := by
  unfold iblk
  funext i
  rw [View.read_apply]
  refine at_rest (V m c main_v0) _ _ fun a => ?_
  match a with
  | ⟨0, _⟩ => show win0_4.index t 0 * 1 + 1 * (i 0).val = (i 0).val; rw [(win_idx0 t 0).2.1]; omega
  | ⟨1, _⟩ => show win0_4.index t 1 * 1536 + 1 * (i 1).val = (i 1).val; rw [(win_idx0 t 1).2.1]; omega

theorem blk_dtb : (iblk m c 5 t : Vec Ideal S1x128 .f32) = V m c main_v5 := by
  unfold iblk
  funext i
  rw [View.read_apply]
  refine at_rest (V m c main_v5) _ _ fun a => ?_
  match a with
  | ⟨0, _⟩ => show win0_5.index t 0 * 1 + 1 * (i 0).val = (i 0).val; rw [(win_idx0 t 0).2.2.1]; omega
  | ⟨1, _⟩ => show win0_5.index t 1 * 128 + 1 * (i 1).val = (i 1).val; rw [(win_idx0 t 1).2.2.1]; omega

theorem blk_an : (iblk m c 6 t : Vec Ideal S1x128 .f32) = V m c main_v12 := by
  unfold iblk
  funext i
  rw [View.read_apply]
  refine at_rest (V m c main_v12) _ _ fun a => ?_
  match a with
  | ⟨0, _⟩ => show win0_6.index t 0 * 1 + 1 * (i 0).val = (i 0).val; rw [(win_idx0 t 0).2.2.2.1]; omega
  | ⟨1, _⟩ => show win0_6.index t 1 * 128 + 1 * (i 1).val = (i 1).val; rw [(win_idx0 t 1).2.2.2.1]; omega

theorem blk_dsk : (iblk m c 7 t : Vec Ideal S1x1024 .f32) = V m c main_v15 := by
  unfold iblk
  funext i
  rw [View.read_apply]
  refine at_rest (V m c main_v15) _ _ fun a => ?_
  match a with
  | ⟨0, _⟩ => show win0_7.index t 0 * 1 + 1 * (i 0).val = (i 0).val; rw [(win_idx0 t 0).2.2.2.2.1]; omega
  | ⟨1, _⟩ => show win0_7.index t 1 * 1024 + 1 * (i 1).val = (i 1).val; rw [(win_idx0 t 1).2.2.2.2.1]; omega

theorem blk_nw : (iblk m c 8 t : Vec Ideal S1x1024 .f32) = V m c main_v16 := by
  unfold iblk
  funext i
  rw [View.read_apply]
  refine at_rest (V m c main_v16) _ _ fun a => ?_
  match a with
  | ⟨0, _⟩ => show win0_8.index t 0 * 1 + 1 * (i 0).val = (i 0).val; rw [(win_idx0 t 0).2.2.2.2.2.1]; omega
  | ⟨1, _⟩ => show win0_8.index t 1 * 1024 + 1 * (i 1).val = (i 1).val; rw [(win_idx0 t 1).2.2.2.2.2.1]; omega

theorem blk_ex : (iblk m c 9 t : Vec Ideal S128x1024 .f32) = V m c main_v26 := by
  unfold iblk
  funext i
  rw [View.read_apply]
  refine at_rest (V m c main_v26) _ _ fun a => ?_
  match a with
  | ⟨0, _⟩ => show win0_9.index t 0 * 128 + 1 * (i 0).val = (i 0).val; rw [(win_idx0 t 0).2.2.2.2.2.2.1]; omega
  | ⟨1, _⟩ => show win0_9.index t 1 * 1024 + 1 * (i 1).val = (i 1).val; rw [(win_idx0 t 1).2.2.2.2.2.2.1]; omega

theorem blk_tr : (iblk m c 10 t : Vec Ideal S64x64 .f32) = V m c main_v32 := by
  unfold iblk
  funext i
  rw [View.read_apply]
  refine at_rest (V m c main_v32) _ _ fun a => ?_
  match a with
  | ⟨0, _⟩ => show win0_10.index t 0 * 64 + 1 * (i 0).val = (i 0).val; rw [(win_idx0 t 0).2.2.2.2.2.2.2.1]; omega
  | ⟨1, _⟩ => show win0_10.index t 1 * 64 + 1 * (i 1).val = (i 1).val; rw [(win_idx0 t 1).2.2.2.2.2.2.2.1]; omega

theorem blk_ey : (iblk m c 11 t : Vec Ideal S64x1024 .f32) = V m c main_v39 := by
  unfold iblk
  funext i
  rw [View.read_apply]
  refine at_rest (V m c main_v39) _ _ fun a => ?_
  match a with
  | ⟨0, _⟩ => show win0_11.index t 0 * 64 + 1 * (i 0).val = (i 0).val; rw [(win_idx0 t 0).2.2.2.2.2.2.2.2.1]; omega
  | ⟨1, _⟩ => show win0_11.index t 1 * 1024 + 1 * (i 1).val = (i 1).val; rw [(win_idx0 t 1).2.2.2.2.2.2.2.2.1]; omega

theorem blk_ng : (iblk m c 12 t : Vec Ideal S64x1024 .f32) = V m c main_v47 := by
  unfold iblk
  funext i
  rw [View.read_apply]
  refine at_rest (V m c main_v47) _ _ fun a => ?_
  match a with
  | ⟨0, _⟩ => show win0_12.index t 0 * 64 + 1 * (i 0).val = (i 0).val; rw [(win_idx0 t 0).2.2.2.2.2.2.2.2.2.1]; omega
  | ⟨1, _⟩ => show win0_12.index t 1 * 1024 + 1 * (i 1).val = (i 1).val; rw [(win_idx0 t 1).2.2.2.2.2.2.2.2.2.1]; omega

theorem blk_bl : (iblk m c 13 t : Vec Ideal S256x256 .f32) = V m c main_v56 := by
  unfold iblk
  funext i
  rw [View.read_apply]
  refine at_rest (V m c main_v56) _ _ fun a => ?_
  match a with
  | ⟨0, _⟩ => show win0_13.index t 0 * 256 + 1 * (i 0).val = (i 0).val; rw [(win_idx0 t 0).2.2.2.2.2.2.2.2.2.2]; omega
  | ⟨1, _⟩ => show win0_13.index t 1 * 256 + 1 * (i 1).val = (i 1).val; rw [(win_idx0 t 1).2.2.2.2.2.2.2.2.2.2]; omega

end Cert.SsdPoints
end
end
-- ==== Proof.SsdFold.lean ====
/-
  The state-space kernel's fold over the grid: the state before each point, and the value the call leaves.
-/
module

public import proofs.«01_k».proof.Proof.SsdPoints
public import Idealize.ShloMosaic.Lib.Pointwise

@[expose] public section

set_option maxRecDepth 16384
set_option maxHeartbeats 4000000

noncomputable section

namespace Cert.SsdFold

open Cert.SsdIdeal Cert.SsdIdeal.Gen Idealize.ShloMosaic Idealize.ShloMosaic.TcCoe Idealize.SL.Sem Idealize.ShloMosaic.Tactic
open Cert.SsdChunk Cert.SsdKernel Cert.SsdRead Cert.SsdHost Cert.SsdPoints
open Idealize.ShloMosaic.Pipeline (Dat)

variable (m : (ℓ : Loc nD τ sig) → Buf (Elt Ideal) ℓ) (c : Dev nD) (t : Fin cfg0.N)

/-- The tables at a point. -/
def P : Par := parOf (iblk m c 3 t) (iblk m c 4 t) (iblk m c 5 t) (iblk m c 6 t) (iblk m c 7 t) (iblk m c 8 t) (iblk m c 9 t) (iblk m c 10 t)
  (iblk m c 11 t) (iblk m c 12 t) (iblk m c 13 t)

theorem tab : Tab (P m c t) where
  ex j n := by show (iblk m c 9 t : Vec Ideal S128x1024 .f32) _ = _; rw [blk_ex]; exact V_ex m c j n
  tr l s := by show (iblk m c 10 t : Vec Ideal S64x64 .f32) _ = _; rw [blk_tr]; exact V_tr m c l s
  ey l n := by show (iblk m c 11 t : Vec Ideal S64x1024 .f32) _ = _; rw [blk_ey]; exact V_ey m c l n
  ng l n := by show (iblk m c 12 t : Vec Ideal S64x1024 .f32) _ = _; rw [blk_ng]; exact V_ng m c l n
  bl i j := by show (iblk m c 13 t : Vec Ideal S256x256 .f32) _ = _; rw [blk_bl]; exact V_bl m c i j

/-- What the point before left. -/
def bef : Vec Ideal S256x1024 .f32 × Vec Ideal S264x1536 .f32 × Vec Ideal S2x128x512 .f32 :=
  outsAt0 m c (t.val - 1) (lt_of_le_of_lt (Nat.sub_le _ _) t.isLt)

/-- The eight rows before the point's block. -/
def hist : Vec Ideal S8x1536 .f32 := if t.val % 32 = 0 then k0_pay2 (F := Ideal) else View.ld (Val := Elt Ideal) (e' := .f32) (bef m c t).2.1 RH
/-- The state before it. -/
def s0 : Vec Ideal S1x128x512 .f32 :=
  if t.val % 32 = 0 then View.ld (Val := Elt Ideal) (e' := .f32) (k0_pay5 (F := Ideal)) R0 else View.ld (Val := Elt Ideal) (e' := .f32) (bef m c t).2.2 R0
def s1 : Vec Ideal S1x128x512 .f32 :=
  if t.val % 32 = 0 then View.ld (Val := Elt Ideal) (e' := .f32) (k0_pay5 (F := Ideal)) R1 else View.ld (Val := Elt Ideal) (e' := .f32) (bef m c t).2.2 R1

def R : ℕ → Rows := rowsOf (ext (iblk m c 1 t) (hist m c t)) (iblk m c 2 t) (iblk m c 0 t)

/-- What a point leaves. -/
theorem outs_eq : outsAt0 m c t.val t.isLt =
    (rows4 fun j => outC (P m c t) (R m c t j) (half0 (P m c t) (R m c t) (s0 m c t) j) (half1 (P m c t) (R m c t) (s1 m c t) j),
     ext (iblk m c 1 t) (hist m c t),
     join (half0 (P m c t) (R m c t) (s0 m c t) 4) (half1 (P m c t) (R m c t) (s1 m c t) 4)) := by
  by_cases h : t.val % 32 = 0
  · rw [outsAt0_A m c t h (by omega) h, out0_A_14_eq, sout0_A_0_eq, sout0_A_1_eq]
    unfold R s0 s1 hist P
    simp only [if_pos h]
  · rw [outsAt0_B m c t h (by omega) h, out0_B_14_eq, sout0_B_0_eq, sout0_B_1_eq]
    unfold R s0 s1 hist P bef
    simp only [if_neg h]

/-- The history rows are the eight rows before the block, or zero at a sequence's start. -/
theorem hist_at (r : Fin 8) (n : Fin 1536) :
    hist m c t (ix2 r n) = if t.val % 32 = 0 then 0 else (inp m c).x (SsdSeq.row (256 * t.val + r.val - 8)) n := by
  have ht := tlt t
  unfold hist
  split_ifs with h
  · pointwise [k0_pay2]
  · have hp : t.val - 1 < cfg0.N := lt_of_le_of_lt (Nat.sub_le _ _) t.isLt
    have e : bef m c t = _ := outs_eq m c ⟨t.val - 1, hp⟩
    rw [e]
    show ext (iblk m c 1 ⟨t.val - 1, hp⟩) (hist m c ⟨t.val - 1, hp⟩) (RH.emb (ix2 r n)) = _
    have hv : ((RH.emb (ix2 r n)) 0).val = 256 + 1 * r.val := rfl
    unfold ext
    rw [dif_neg (by omega)]
    refine (at_rest (iblk m c 1 ⟨t.val - 1, hp⟩ : Vec Ideal S256x1536 .f32) _ (ix2 ⟨248 + r.val, by omega⟩ n) fun a => ?_).trans ?_
    · match a with
      | ⟨0, _⟩ => show ((RH.emb (ix2 r n)) 0).val - 8 = 248 + r.val; rw [hv]; omega
      | ⟨1, _⟩ => show 0 + 1 * n.val = n.val; omega
    · rw [blk_x]
      refine congrArg (fun k => (inp m c).x (SsdSeq.row k) n) ?_
      simp only
      omega

/-- The convolution's taps at a row of the block's `j`-th chunk. -/
theorem ext_at (q : Fin 264) (n : Fin 1536) (j l k : ℕ) (hj : j < 4) (hl : l < 64) (hk : k < 4) (hq : q.val = 64 * j + 5 + k + l) :
    ext (iblk m c 1 t) (hist m c t) (ix2 q n) = SsdSeq.tap (inp m c) (64 * (4 * t.val + j) + l) k n := by
  have ht := tlt t
  unfold ext SsdSeq.tap
  by_cases h : q.val < 8
  · rw [dif_pos (show ((ix2 q n : S264x1536.Idx) 0).val < 8 from h)]
    refine (hist_at m c t ⟨q.val, h⟩ n).trans ?_
    by_cases h0 : t.val % 32 = 0
    · rw [if_pos h0, if_pos (by omega)]
    · rw [if_neg h0, if_neg (by omega)]
      refine congrArg (fun k => (inp m c).x (SsdSeq.row k) n) ?_
      simp only
      omega
  · rw [dif_neg (show ¬((ix2 q n : S264x1536.Idx) 0).val < 8 from h), if_neg (by omega)]
    refine (blk_x m c t ⟨q.val - 8, by omega⟩ n).trans ?_
    refine congrArg (fun k => (inp m c).x (SsdSeq.row k) n) ?_
    simp only
    omega

theorem xc_at (p : Par) (k : Rows) (l : Fin 64) (n : Fin 1536) (v : EReal)
    (hv : k.e0 (ix2 l n) * p.w0 (ix2 0 n) + k.e1 (ix2 l n) * p.w1 (ix2 0 n) + k.e2 (ix2 l n) * p.w2 (ix2 0 n) + k.e3 (ix2 l n) * p.w3 (ix2 0 n)
      + p.b (ix2 0 n) = v) : xc p k (ix2 l n) = v * Ideal.logistic v := by
  subst hv
  unfold xc
  pointwise [k0_pay39]

theorem dt_at (p : Par) (k : Rows) (l : Fin 64) (j : Fin 128) (v : EReal) (hv : k.sm (ix2 l j) + p.dtb (ix2 0 j) = v) :
    dt p k l j = max v 0 + Ideal.log1p (Ideal.exp (0 - FloatOps.absf (F := Ideal) (φ := .f32) v)) := by
  subst hv
  unfold dt
  pointwise [k0_pay43]

theorem w_at (k : ℕ) (hk : k < 4) (inb : ∀ a, ![k, 0] a + S1x1536.size a ≤ S4x1536.size a) (n : Fin 1536) :
    View.ld (Val := Elt Ideal) (e' := .f32) (iblk m c 3 t : Vec Ideal S4x1536 .f32) (Rect.unit ![k, 0] S1x1536.size inb) (ix2 0 n) = (inp m c).cw ⟨k, hk⟩ n := by
  rw [← blk_cw m c t]
  refine at_rest (iblk m c 3 t : Vec Ideal S4x1536 .f32) _ _ fun a => ?_
  match a with
  | ⟨0, _⟩ => show k + 1 * 0 = k; omega
  | ⟨1, _⟩ => show 0 + 1 * n.val = n.val; omega

theorem cut_ext (j l k : ℕ) (hj : j < 4) (hl : l < 64) (hk : k < 4) (n : Fin 1536) (o : ℕ) (ho : o = 64 * j + 5 + k) :
    cut (n := 264) (by decide) (ext (iblk m c 1 t) (hist m c t)) o (ix2 ⟨l, hl⟩ n) = SsdSeq.tap (inp m c) (64 * (4 * t.val + j) + l) k n := by
  subst ho
  refine ext_at m c t _ n j l k hj hl hk ?_
  show (64 * j + 5 + k + l) % 264 = _
  rw [Nat.mod_eq_of_lt (by omega)]

/-- The step sizes of the block's rows. -/
theorem dt_eq (j : ℕ) (hj : j < 4) (l : Fin 64) (h : Fin 16) :
    dt (P m c t) (R m c t j) l ⟨h.val, by omega⟩ = SsdSeq.step (inp m c) (64 * (4 * t.val + j) + l.val) h := by
  have ht := tlt t
  refine dt_at _ _ _ _ _ ?_
  have hb : (P m c t).dtb = V m c main_v5 := blk_dtb m c t
  rw [hb, V_dtb, dif_pos h.isLt]
  unfold SsdSeq.arg
  refine congrArg₂ (· + ·) ?_ rfl
  refine (blk_sm m c t ⟨(64 * j + l.val) % 256, by omega⟩ ⟨h.val, by omega⟩).trans ?_
  refine congrArg (fun k => (inp m c).sm (SsdSeq.row k) _) ?_
  simp only
  omega

/-- The block's `j`-th chunk is chunk `4 t + j`. -/
theorem ch_eq (j : ℕ) (hj : j < 4) : ch (P m c t) (R m c t j) = SsdSeq.chunk (inp m c) (4 * t.val + j) := by
  have ht := tlt t
  unfold ch SsdSeq.chunk
  congr 1
  · funext l n
    refine xc_at _ _ _ _ _ ?_
    unfold SsdSeq.pre
    refine congrArg₂ (· + ·) (congrArg₂ (· + ·) (congrArg₂ (· + ·) (congrArg₂ (· + ·) (congrArg₂ (· * ·) ?_ ?_) (congrArg₂ (· * ·) ?_ ?_))
      (congrArg₂ (· * ·) ?_ ?_)) (congrArg₂ (· * ·) ?_ ?_)) ?_
    · exact cut_ext m c t j l.val 0 hj l.isLt (by omega) n _ (by omega)
    · exact w_at m c t 0 (by omega) _ n
    · exact cut_ext m c t j l.val 1 hj l.isLt (by omega) n _ (by omega)
    · exact w_at m c t 1 (by omega) _ n
    · exact cut_ext m c t j l.val 2 hj l.isLt (by omega) n _ (by omega)
    · exact w_at m c t 2 (by omega) _ n
    · exact cut_ext m c t j l.val 3 hj l.isLt (by omega) n _ (by omega)
    · exact w_at m c t 3 (by omega) _ n
    · show (iblk m c 4 t : Vec Ideal S1x1536 .f32) _ = _
      rw [blk_b]
      exact V_b m c n
  · funext l h
    exact dt_eq m c t j hj l h
  · funext l h
    unfold lac
    refine Finset.sum_congr rfl fun s _ => ?_
    have ha : (P m c t).aneg = V m c main_v12 := blk_an m c t
    rw [dt_eq m c t j hj s h, ha, V_an, dif_pos h.isLt]
    rfl
  · funext l n
    refine (blk_z m c t ⟨(64 * j + l.val) % 256, by omega⟩ n).trans ?_
    refine congrArg (fun k => (inp m c).z (SsdSeq.row k) _) ?_
    simp only
    omega

/-- The state inside a block, from the state before it. -/
theorem half_state (h : SS (s0 m c t) (s1 m c t) = SsdSeq.before (inp m c) (4 * t.val)) : ∀ j, j < 4 →
    SS (half0 (P m c t) (R m c t) (s0 m c t) j) (half1 (P m c t) (R m c t) (s1 m c t) j) = SsdSeq.before (inp m c) (4 * t.val + j)
  | 0, _ => h
  | j + 1, hj => by
    have ih := half_state h j (by omega)
    have e := SsdSeq.before_next (inp m c) (4 * t.val + j) (by omega)
    rw [← Nat.add_assoc, e, ← ih, ← ch_eq m c t j (by omega)]
    funext n q
    exact next_at _ _ _ _ (tab m c t) n q

/-- The state after a block. -/
theorem half_last (h : SS (s0 m c t) (s1 m c t) = SsdSeq.before (inp m c) (4 * t.val)) :
    SS (half0 (P m c t) (R m c t) (s0 m c t) 4) (half1 (P m c t) (R m c t) (s1 m c t) 4)
      = SsdSpec.next (SsdSeq.chunk (inp m c) (4 * t.val + 3)) (SsdSeq.before (inp m c) (4 * t.val + 3)) := by
  rw [← half_state m c t h 3 (by omega), ← ch_eq m c t 3 (by omega)]
  funext n q
  exact next_at _ _ _ _ (tab m c t) n q

/-- The state before every point. -/
theorem start_eq : ∀ (k : ℕ) (hk : k < cfg0.N), SS (s0 m c ⟨k, hk⟩) (s1 m c ⟨k, hk⟩) = SsdSeq.before (inp m c) (4 * k)
  | k, hk => by
    by_cases h : k % 32 = 0
    · rw [SsdSeq.before_start _ _ (by omega)]
      unfold s0 s1
      rw [if_pos h, if_pos h]
      funext n q
      have hz : ∀ y, k0_pay5 (F := Ideal) y = (0 : EReal) := fun y => by
        obtain ⟨a, b, d, rfl⟩ : ∃ (a : Fin 2) (b : Fin 128) (d : Fin 512), y = ix3 a b d := ⟨y 0, y 1, y 2, ValueIdx.eq_ix3 y⟩
        pointwise [k0_pay5]
      unfold SS
      split_ifs
      · exact hz _
      · exact hz _
    · match k, hk, h with
      | k + 1, hk, h =>
        have ih := start_eq k (by omega)
        have e : bef m c ⟨k + 1, hk⟩ = _ := outs_eq m c ⟨k, by omega⟩
        unfold s0 s1
        rw [if_neg h, if_neg h, e]
        dsimp only
        rw [ld_join0, ld_join1, half_last m c ⟨k, by omega⟩ ih, ← SsdSeq.before_next _ _ (by simp only; omega)]
        rfl

/-- What a point stores is the layer's value at its rows. -/
theorem point_value (r : Fin 256) (n : Fin 1024) :
    (outsAt0 m c t.val t.isLt).1 (ix2 r n) = SsdSeq.val (inp m c) (SsdSeq.row (256 * t.val + r.val)) n := by
  have ht := tlt t
  have hr : r.val / 64 < 4 := by omega
  rw [outs_eq]
  show outC (P m c t) (R m c t (r.val / 64)) (half0 (P m c t) (R m c t) (s0 m c t) (r.val / 64)) (half1 (P m c t) (R m c t) (s1 m c t) (r.val / 64))
    (ix2 ⟨r.val % 64, by omega⟩ n) = _
  rw [outC_at _ _ _ _ (tab m c t), half_state m c t (start_eq m c t.val t.isLt) _ hr, ch_eq m c t _ hr]
  unfold SsdSeq.val
  have hR : (SsdSeq.row (256 * t.val + r.val)).val = 256 * t.val + r.val := Nat.mod_eq_of_lt (by omega)
  have hd : (fun q => (P m c t).dsk (ix2 0 q)) = fun q => (inp m c).d (SsdSpec.hd q) := by
    funext q
    show (iblk m c 7 t : Vec Ideal S1x1024 .f32) _ = _
    rw [blk_dsk]
    exact V_dsk m c q
  have hw : (fun q => (P m c t).nw (ix2 0 q)) = (inp m c).nw := by
    funext q
    show (iblk m c 8 t : Vec Ideal S1x1024 .f32) _ = _
    rw [blk_nw]
    exact V_nw m c q
  rw [hd, hw]
  have hK : (SsdSeq.row (256 * t.val + r.val)).val / 64 = 4 * t.val + r.val / 64 := by rw [hR]; omega
  have hl : (⟨r.val % 64, by omega⟩ : Fin 64) = ⟨(SsdSeq.row (256 * t.val + r.val)).val % 64, by omega⟩ := Fin.ext (by simp only [hR]; omega)
  rw [hK, hl]

/-- The result array. -/
def G : S16384x1024.Idx → EReal := fun i => SsdSeq.val (inp m c) (i 0) (i 1)

theorem flushed_eq (hf : (cfg0.win 14).flush t = true) :
    (dats m 0 c).flushed 14 t = ((cfg0.win 14).blk t).view.read (Elt Ideal) (G m c : Buf (Elt Ideal) ((c : Thread nD τ).loc main_v57)) := by
  rw [Value.flushed14]
  funext j
  have h := (win_idx t).2.2.2
  have ht := tlt t
  obtain ⟨r, n, rfl⟩ : ∃ (r : Fin 256) (n : Fin 1024), j = ix2 r n := ⟨j 0, j 1, ValueIdx.eq_ix2 j⟩
  rw [View.read_apply]
  have e0 : (((cfg0.win 14).blk t).view.emb (ix2 r n) : S16384x1024.Idx) 0 = SsdSeq.row (256 * t.val + r.val) := by
    apply Fin.ext
    show win0_14.index t 0 * 256 + 1 * r.val = (256 * t.val + r.val) % 16384; rw [h.1]; omega
  have e1 : (((cfg0.win 14).blk t).view.emb (ix2 r n) : S16384x1024.Idx) 1 = n := by
    apply Fin.ext
    show win0_14.index t 1 * 1024 + 1 * n.val = n.val; rw [h.2]; omega
  show (outsAt0 m c t.val t.isLt).1 (ix2 r n) = SsdSeq.val (inp m c) _ _
  rw [e0, e1, point_value]

theorem kernel_value : (dats m 0 c).arrAt 14 cfg0.N = (G m c : Buf (Elt Ideal) ((c : Thread nD τ).loc main_v57)) :=
  (dats m 0 c).arrAt_eq_of_cover 14 _ (fun t => flushed_eq m c t) fun i => by
    have h0 : (i 0 : Nat) < 16384 := (i 0).isLt
    have h1 : (i 1 : Nat) < 1024 := (i 1).isLt
    have hN : cfg0.N = 64 := N_0
    refine ⟨⟨(i 0 : Nat) / 256, by omega⟩, by rw [flush0_14], ?_⟩
    generalize ht : (⟨(i 0 : Nat) / 256, _⟩ : Fin cfg0.N) = t
    have htv : t.val = (i 0 : Nat) / 256 := by rw [← ht]
    have h := (win_idx t).2.2.2
    show i ∈ ((View.whole main_v57).slice (win0_14.rect t)).set
    rw [View.set_slice_whole, Rect.mem_set_unit]
    intro a
    match a with
    | ⟨0, _⟩ => show win0_14.index t 0 * 256 ≤ (i 0 : Nat) ∧ (i 0 : Nat) < win0_14.index t 0 * 256 + 256
                rw [h.1]; omega
    | ⟨1, _⟩ => show win0_14.index t 1 * 1024 ≤ (i 1 : Nat) ∧ (i 1 : Nat) < win0_14.index t 1 * 1024 + 1024
                rw [h.2]; omega

end Cert.SsdFold
end
end
-- ==== Proof.SsdRef.lean ====
/-
  The reference of the SSD head group, stretch by stretch: what each buffer holds at an index over the buffers before.
-/
module

public import proofs.«01_k».proof.Proof.SsdFrame
public import proofs.«01_k».proof.Proof.SsdPoints
public import proofs.«01_k».proof.Proof.SsdSeq
public import Idealize.ShloMosaic.Lib.StableHlo.ReadAt
public import Idealize.ShloMosaic.Lib.IdealHost
public import Idealize.ShloMosaic.Lib.Pointwise

@[expose] public section

set_option maxRecDepth 16384
set_option maxHeartbeats 400000

noncomputable section

namespace Cert.SsdRef

open Idealize.ShloMosaic Idealize.ShloMosaic.TcCoe Idealize.SL.Sem Idealize.ShloMosaic.StableHlo
open Cert.SsdRefIdeal Cert.SsdRefIdeal.Gen Cert.SsdRefIdeal.Value

variable (V : Valuation τ sig (Elt Ideal))

/-! ## The buffers, as arrays of extended reals -/

abbrev a0 : S16384x1024.Idx → EReal := V (Proc.devRef .tc main_arg0)
abbrev a1 : S16384x1536.Idx → EReal := V (Proc.devRef .tc main_arg1)
abbrev a2 : S16384x128.Idx → EReal := V (Proc.devRef .tc main_arg2)
abbrev a3 : S4x1536.Idx → EReal := V (Proc.devRef .tc main_arg3)
abbrev a4 : S1536.Idx → EReal := V (Proc.devRef .tc main_arg4)
abbrev a5 : S16.Idx → EReal := V (Proc.devRef .tc main_arg5)
abbrev a6 : S16.Idx → EReal := V (Proc.devRef .tc main_arg6)
abbrev a7 : S16.Idx → EReal := V (Proc.devRef .tc main_arg7)
abbrev a8 : S1024.Idx → EReal := V (Proc.devRef .tc main_arg8)
abbrev v0 : S2x8192x1024.Idx → EReal := V (Proc.devRef .tc main_v0)
abbrev v1 : S2x8192x1536.Idx → EReal := V (Proc.devRef .tc main_v1)
abbrev v2 : S2x8192x128.Idx → EReal := V (Proc.devRef .tc main_v2)
abbrev v3 : S2x8192x16.Idx → EReal := V (Proc.devRef .tc main_v3)
abbrev v4 : S2x8195x1536.Idx → EReal := V (Proc.devRef .tc main_v4)
abbrev v36 : S2x8192x1536.Idx → EReal := V (Proc.devRef .tc main_v36)
abbrev v37 : S2x8192x1536.Idx → EReal := V (Proc.devRef .tc main_v37)
abbrev v41 : S2x8192x16x64.Idx → EReal := V (Proc.devRef .tc main_v41)
abbrev v42 : S2x8192x2x128.Idx → EReal := V (Proc.devRef .tc main_v42)
abbrev v43 : S2x8192x2x128.Idx → EReal := V (Proc.devRef .tc main_v43)
abbrev v46 : S2x8192x16.Idx → EReal := V (Proc.devRef .tc main_v46)
abbrev v47 : S2x8192x16.Idx → EReal := V (Proc.devRef .tc main_v47)
abbrev v53 : S2x128x64x2x8x64.Idx → EReal := V (Proc.devRef .tc main_v53)
abbrev v58 : S2x128x2x8x64.Idx → EReal := V (Proc.devRef .tc main_v58)
abbrev v59 : S2x128x2x8x64.Idx → EReal := V (Proc.devRef .tc main_v59)
abbrev v60 : S2x128x64x2x128.Idx → EReal := V (Proc.devRef .tc main_v60)
abbrev v61 : S2x128x64x2x128.Idx → EReal := V (Proc.devRef .tc main_v61)
abbrev v73 : S2x128x2x8x64x64.Idx → EReal := V (Proc.devRef .tc main_v73)
abbrev v80 : S2x128x64x2x8x64.Idx → EReal := V (Proc.devRef .tc main_v80)
abbrev w0 : S128x2x2x8x64x128.Idx → EReal := V (Proc.devRef .tc main_v97_0)
abbrev w1 : S128x2x2x8.Idx → EReal := V (Proc.devRef .tc main_v97_1)
abbrev w3 : S2x2x8x64x128.Idx → EReal := V (Proc.devRef .tc main_v97_3)
abbrev w4 : S128x2x2x8x64x128.Idx → EReal := V (Proc.devRef .tc main_v97_4)
abbrev v112 : S2x8192x16x64.Idx → EReal := V (Proc.devRef .tc main_v112)
abbrev v113 : S2x8192x2x512.Idx → EReal := V (Proc.devRef .tc main_v113)
abbrev v114 : S2x8192x2x512.Idx → EReal := V (Proc.devRef .tc main_v114)
abbrev v115 : S2x8192x2x512.Idx → EReal := V (Proc.devRef .tc main_v115)
abbrev v131 : S16384x1024.Idx → EReal := V (Proc.devRef .tc main_v131)

/-- The smallest value, as the mask's fill. -/
theorem low_f32 : (Ideal.ofBits .f32 0xFF800000#32 : EReal) = ⊥ := by simp [Ideal.ofBits, Ideal.ieee]

/-! ## The running sum of a chunk -/

theorem fold_sum {ι : Type} (g : ι → EReal) : ∀ (l : List ι) (r : EReal), l.foldl (fun a n => a + g n) r = r + (l.map g).sum
  | [], r => by simp
  | n :: l, r => by rw [List.foldl_cons, fold_sum g l, List.map_cons, List.sum_cons, add_assoc]

/-- A window of 64 on the last axis, as the one row of five axes. -/
def line : (⟨5, ![1, 1, 1, 1, 64]⟩ : Shape).Idx ≃ Fin 64 where
  toFun i := i 4
  invFun w := ix5 (0 : Fin 1) (0 : Fin 1) (0 : Fin 1) (0 : Fin 1) w
  left_inv i := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => exact Subsingleton.elim (α := Fin 1) _ _
    | ⟨4, _⟩ => rfl
  right_inv w := rfl

theorem running (x : S2x128x2x8x64.Idx → EReal) (h) (b : Fin 2) (q : Fin 128) (g : Fin 2) (r : Fin 8) (l : Fin 64) :
    Ideal.hostReduceWindowAdd (s := S2x128x2x8x64) ![1, 1, 1, 1, 64] ![1, 1, 1, 1, 1] ![0, 0, 0, 0, 63] ![0, 0, 0, 0, 0] (t := S2x128x2x8x64) h x 0 (ix5 b q g r l)
      = ∑ s : Fin 64, if s ≤ l then x (ix5 b q g r s) else 0 := by
  unfold Ideal.hostReduceWindowAdd Host.reduceWindow
  dsimp only
  rw [fold_sum, zero_add, ← Fin.sum_univ_def]
  refine (Finset.sum_congr rfl fun n _ => ?_).trans ((Equiv.sum_comp (Shape.rowMajor ⟨5, ![1, 1, 1, 1, 64]⟩).symm (fun i : (⟨5, ![1, 1, 1, 1, 64]⟩ : Shape).Idx =>
    if hin : ∀ a : Fin 5, (![0, 0, 0, 0, 63] : Fin 5 → ℕ) a ≤ (ix5 b q g r l a).val * (![1, 1, 1, 1, 1] : Fin 5 → ℕ) a + (i a).val
      ∧ (ix5 b q g r l a).val * (![1, 1, 1, 1, 1] : Fin 5 → ℕ) a + (i a).val - (![0, 0, 0, 0, 63] : Fin 5 → ℕ) a < S2x128x2x8x64.size a
    then x (fun a => ⟨(ix5 b q g r l a).val * (![1, 1, 1, 1, 1] : Fin 5 → ℕ) a + (i a).val - (![0, 0, 0, 0, 63] : Fin 5 → ℕ) a, (hin a).2⟩)
    else (0 : EReal))).trans ?_)
  · exact congrArg (fun d => @dite EReal _ d _ _) (Subsingleton.elim _ _)
  refine (Equiv.sum_comp line.symm _).symm.trans ?_
  refine (Equiv.sum_comp (Equiv.addRight (⟨63 - l.val, by omega⟩ : Fin 64)) _).symm.trans ?_
  refine Finset.sum_congr rfl fun s _ => ?_
  have hw : (Equiv.addRight (⟨63 - l.val, by omega⟩ : Fin 64) s).val = (s.val + (63 - l.val)) % 64 := rfl
  generalize Equiv.addRight (⟨63 - l.val, by omega⟩ : Fin 64) s = w at hw
  have hs := s.isLt
  have hl := l.isLt
  by_cases hsl : s ≤ l
  · have hsl' : s.val ≤ l.val := hsl
    rw [if_pos hsl, dif_pos (by
      intro a
      match a with
      | ⟨0, _⟩ => exact ⟨Nat.zero_le _, by show b.val * 1 + 0 - 0 < 2; omega⟩
      | ⟨1, _⟩ => exact ⟨Nat.zero_le _, by show q.val * 1 + 0 - 0 < 128; omega⟩
      | ⟨2, _⟩ => exact ⟨Nat.zero_le _, by show g.val * 1 + 0 - 0 < 2; omega⟩
      | ⟨3, _⟩ => exact ⟨Nat.zero_le _, by show r.val * 1 + 0 - 0 < 8; omega⟩
      | ⟨4, _⟩ => exact ⟨by show 63 ≤ l.val * 1 + w.val; omega, by show l.val * 1 + w.val - 63 < 64; omega⟩)]
    refine congrArg x (funext fun a => Fin.ext ?_)
    match a with
    | ⟨0, _⟩ => show b.val * 1 + 0 - 0 = b.val; omega
    | ⟨1, _⟩ => show q.val * 1 + 0 - 0 = q.val; omega
    | ⟨2, _⟩ => show g.val * 1 + 0 - 0 = g.val; omega
    | ⟨3, _⟩ => show r.val * 1 + 0 - 0 = r.val; omega
    | ⟨4, _⟩ => show l.val * 1 + w.val - 63 = s.val; omega
  · have hsl' : ¬ s.val ≤ l.val := hsl
    rw [if_neg hsl, dif_neg]
    intro hin
    have h4 : 63 ≤ l.val * 1 + w.val := (hin 4).1
    omega

/-! ## The stretches -/

theorem r0_v0 (b : Fin 2) (n : Fin 8192) (c : Fin 1024) :
    v0 (after hostOps0 V) (ix3 b n c) = a0 V (ix2 ⟨b.val * 8192 + n.val, by omega⟩ c) := by
  dsimp only [v0, a0]; after_reads_at

theorem r0_v3 (b : Fin 2) (n : Fin 8192) (h : Fin 16) :
    v3 (after hostOps0 V) (ix3 b n h) = a2 V (ix2 ⟨b.val * 8192 + n.val, by omega⟩ ⟨h.val, by omega⟩) := by
  have e : v2 (after hostOps0 V) = shapeCast S2x8192x128 (a2 V) shapeCasts_S16384x128_S2x8192x128 := by
    dsimp only [v2, a2]; after_reads_simp; rfl
  have e' : v3 (after hostOps0 V) = extractStridedSlice S2x8192x16 ![0, 0, 0] (v2 (after hostOps0 V)) slices_S2x8192x128_S2x8192x16_0_0_0 := by
    dsimp only [v2, v3]; after_reads_simp
  rw [e']
  pointwise
  rw [e]
  pointwise

theorem r0_c : after hostOps0 V (Proc.devRef .tc main_c) = constantI S_ 32 0#32 := by
  after_reads_simp

theorem r0_v1 (b : Fin 2) (n : Fin 8192) (c : Fin 1536) :
    v1 (after hostOps0 V) (ix3 b n c) = a1 V (ix2 ⟨b.val * 8192 + n.val, by omega⟩ c) := by
  dsimp only [v1, a1]; after_reads_at

theorem r1_v4 (hc : V (Proc.devRef .tc main_c) = constantI S_ 32 0#32) (b : Fin 2) (n : Fin 8195) (c : Fin 1536) :
    v4 (after hostOps0_1 V) (ix3 b n c) = if h : 3 ≤ n.val then v1 V (ix3 b ⟨n.val - 3, by omega⟩ c) else (0 : EReal) := by
  dsimp only [v4, v1]; after_reads_at
  rw [hc]
  by_cases h : 3 ≤ n.val
  · rw [dif_pos h, dif_pos ⟨h, by omega⟩]
  · rw [dif_neg h, dif_neg (fun h' => h h'.1)]
    show (((0#32 : BitVec 32).toInt : ℝ) : EReal) = 0
    simp

theorem r2_v36 (b : Fin 2) (n : Fin 8192) (c : Fin 1536) :
    v36 (after hostOps0_2 V) (ix3 b n c)
      = v4 V (ix3 b ⟨n.val, by omega⟩ c) * a3 V (ix2 0 c) + v4 V (ix3 b ⟨1 + n.val, by omega⟩ c) * a3 V (ix2 1 c)
        + v4 V (ix3 b ⟨2 + n.val, by omega⟩ c) * a3 V (ix2 2 c) + v4 V (ix3 b ⟨3 + n.val, by omega⟩ c) * a3 V (ix2 3 c)
        + a4 V (ix1 c) := by
  dsimp only [v36, v4, a3, a4]; after_reads_at

theorem r3_v37 (b : Fin 2) (n : Fin 8192) (c : Fin 1536) :
    v37 (after hostOps0_3 V) (ix3 b n c) = v36 V (ix3 b n c) * Ideal.logistic (v36 V (ix3 b n c)) := by
  dsimp only [v37, v36]; after_reads_at
  rfl

theorem r4_v41 (b : Fin 2) (n : Fin 8192) (h : Fin 16) (p : Fin 64) :
    v41 (after hostOps0_4 V) (ix4 b n h p) = v37 V (ix3 b n ⟨h.val * 64 + p.val, by omega⟩) := by
  dsimp only [v41, v37]; after_reads_at
theorem r4_v42 (b : Fin 2) (n : Fin 8192) (g : Fin 2) (k : Fin 128) :
    v42 (after hostOps0_4 V) (ix4 b n g k) = v37 V (ix3 b n ⟨1024 + (g.val * 128 + k.val), by omega⟩) := by
  dsimp only [v42, v37]; after_reads_at
theorem r4_v43 (b : Fin 2) (n : Fin 8192) (g : Fin 2) (k : Fin 128) :
    v43 (after hostOps0_4 V) (ix4 b n g k) = v37 V (ix3 b n ⟨1280 + (g.val * 128 + k.val), by omega⟩) := by
  dsimp only [v43, v37]; after_reads_at
theorem r4_v46 (b : Fin 2) (n : Fin 8192) (h : Fin 16) :
    v46 (after hostOps0_4 V) (ix3 b n h) = v3 V (ix3 b n h) + a5 V (ix1 h) := by
  dsimp only [v46, v3, a5]; after_reads_at

theorem r5_v47 (b : Fin 2) (n : Fin 8192) (h : Fin 16) :
    v47 (after hostOps0_5 V) (ix3 b n h) = max (v46 V (ix3 b n h)) 0
      + Ideal.log1p (Ideal.exp (0 - FloatOps.absf (F := Ideal) (φ := .f32) (v46 V (ix3 b n h)))) := by
  dsimp only [v47, v46]; after_reads_at
  rw [if_neg (fun h => h rfl), zero_sub]

theorem r6_v53 (b : Fin 2) (q : Fin 128) (l : Fin 64) (g : Fin 2) (r : Fin 8) (p : Fin 64) :
    v53 (after hostOps0_6 V) (ix6 b q l g r p)
      = v41 V (ix4 b ⟨q.val * 64 + l.val, by omega⟩ ⟨g.val * 8 + r.val, by omega⟩ p) * v47 V (ix3 b ⟨q.val * 64 + l.val, by omega⟩ ⟨g.val * 8 + r.val, by omega⟩) := by
  dsimp only [v53, v41, v47]; after_reads_at

theorem r6_v58 (b : Fin 2) (q : Fin 128) (l : Fin 64) (g : Fin 2) (r : Fin 8) :
    v58 (after hostOps0_6 V) (ix5 b q g r l)
      = v47 V (ix3 b ⟨q.val * 64 + l.val, by omega⟩ ⟨g.val * 8 + r.val, by omega⟩) * (-Ideal.exp (a6 V (ix1 ⟨g.val * 8 + r.val, by omega⟩))) := by
  dsimp only [v58, a6, v47]; after_reads_at

theorem r7_v59 (b : Fin 2) (q : Fin 128) (g : Fin 2) (r : Fin 8) (l : Fin 64) :
    v59 (after hostOps0_7 V) (ix5 b q g r l) = ∑ s : Fin 64, if s ≤ l then v58 V (ix5 b q g r s) else 0 := by
  refine Eq.trans ?_ (running (v58 V) reduceWindows_S2x128x2x8x64_S2x128x2x8x64_w1s1p0_0_w1s1p0_0_w1s1p0_0_w1s1p0_0_w64s1p63_0 b q g r l)
  dsimp only [v59, v58]; after_reads_simp
  simp -implicitDefEqProofs only [TRef.toBuf, TRef.ofBuf, cast_cast, cast_eq]
  clean_types
  exact congrArg (fun z => Ideal.hostReduceWindowAdd (s := S2x128x2x8x64) ![1, 1, 1, 1, 64] ![1, 1, 1, 1, 1] ![0, 0, 0, 0, 63] ![0, 0, 0, 0, 0] (t := S2x128x2x8x64)
    reduceWindows_S2x128x2x8x64_S2x128x2x8x64_w1s1p0_0_w1s1p0_0_w1s1p0_0_w1s1p0_0_w64s1p63_0 (v58 V) z (ix5 b q g r l)) (Ideal.ofBits_zero .f32)

theorem r8_v60 (b : Fin 2) (q : Fin 128) (l : Fin 64) (g : Fin 2) (n : Fin 128) :
    v60 (after hostOps0_8 V) (ix5 b q l g n) = v42 V (ix4 b ⟨q.val * 64 + l.val, by omega⟩ g n) := by
  dsimp only [v60, v42]; after_reads_at

theorem r8_v61 (b : Fin 2) (q : Fin 128) (l : Fin 64) (g : Fin 2) (n : Fin 128) :
    v61 (after hostOps0_8 V) (ix5 b q l g n) = v43 V (ix4 b ⟨q.val * 64 + l.val, by omega⟩ g n) := by
  dsimp only [v61, v43]; after_reads_at

theorem r9_v73 (b : Fin 2) (q : Fin 128) (l s : Fin 64) (g : Fin 2) (r : Fin 8) :
    v73 (after hostOps0_9 (after hostOps0_8 V)) (ix6 b q g r l s)
      = if s ≤ l then v59 V (ix5 b q g r l) - v59 V (ix5 b q g r s) else ⊥ := by
  dsimp only [v73, v59]; after_reads_at
  rw [id_eq, SsdHost.ge_mask]
  by_cases h : s ≤ l
  · rw [if_pos h, if_pos (show s.val ≤ l.val from h)]; rfl
  · rw [if_neg h, if_neg (show ¬ s.val ≤ l.val from h)]
    exact low_f32

theorem r10_v80 (b : Fin 2) (q : Fin 128) (l : Fin 64) (g : Fin 2) (r : Fin 8) (p : Fin 64) :
    v80 (after hostOps0_10 V) (ix6 b q l g r p)
      = ∑ s : Fin 64, v53 V (ix6 b q s g r p) * ((∑ n : Fin 128, v61 V (ix5 b q l g n) * v60 V (ix5 b q s g n)) * Ideal.exp (v73 V (ix6 b q g r l s))) := by
  dsimp only [v80, v53, v61, v60, v73]; after_reads_at

theorem r10_w0 (b : Fin 2) (q : Fin 128) (g : Fin 2) (r : Fin 8) (p : Fin 64) (n : Fin 128) :
    w0 (after hostOps0_10 V) (ix6 q b g r p n)
      = ∑ l : Fin 64, (Ideal.exp (v59 V (ix5 b q g r 63) - v59 V (ix5 b q g r l)) * v53 V (ix6 b q l g r p)) * v60 V (ix5 b q l g n) := by
  dsimp only [w0, v53, v60, v59]; after_reads_simp; rw [id_eq]; clean_types; pointwise

theorem r10_w1 (b : Fin 2) (q : Fin 128) (g : Fin 2) (r : Fin 8) :
    w1 (after hostOps0_10 V) (ix4 q b g r) = Ideal.exp (v59 V (ix5 b q g r 63)) := by
  dsimp only [w1, v59]; after_reads_simp; rw [id_eq]; clean_types; pointwise

theorem r10_w3 (b : Fin 2) (g : Fin 2) (r : Fin 8) (p : Fin 64) (n : Fin 128) : w3 (after hostOps0_10 V) (ix5 b g r p n) = 0 := by
  dsimp only [w3]; after_reads_simp; rw [id_eq]; clean_types; pointwise

theorem r11_v112 (b : Fin 2) (n : Fin 8192) (h : Fin 16) (p : Fin 64) :
    v112 (after hostOps0_11 V) (ix4 b n h p)
      = (v80 V (ix6 b ⟨n.val / 64, by omega⟩ ⟨n.val % 64, by omega⟩ ⟨h.val / 8, by omega⟩ ⟨h.val % 8, by omega⟩ p)
        + (∑ k : Fin 128, w4 V (ix6 ⟨n.val / 64, by omega⟩ b ⟨h.val / 8, by omega⟩ ⟨h.val % 8, by omega⟩ p k)
            * v61 V (ix5 b ⟨n.val / 64, by omega⟩ ⟨n.val % 64, by omega⟩ ⟨h.val / 8, by omega⟩ k))
          * Ideal.exp (v59 V (ix5 b ⟨n.val / 64, by omega⟩ ⟨h.val / 8, by omega⟩ ⟨h.val % 8, by omega⟩ ⟨n.val % 64, by omega⟩)))
        + a7 V (ix1 h) * v41 V (ix4 b n h p) := by
  dsimp only [v112, v80, w4, v61, v59, a7, v41]; after_reads_at

theorem r11_v114 (b : Fin 2) (n : Fin 8192) (g : Fin 2) (i : Fin 512) :
    v114 (after hostOps0_11 V) (ix4 b n g i) = v0 V (ix3 b n ⟨g.val * 512 + i.val, by omega⟩) := by
  dsimp only [v114, v0]; after_reads_at

theorem r11_v113 (b : Fin 2) (n : Fin 8192) (g : Fin 2) (i : Fin 512) :
    v113 (after hostOps0_11 V) (ix4 b n g i) = v112 (after hostOps0_11 V) (ix4 b n ⟨(g.val * 512 + i.val) / 64, by omega⟩ ⟨(g.val * 512 + i.val) % 64, by omega⟩) := by
  have e : v113 (after hostOps0_11 V) = shapeCast S2x8192x2x512 (v112 (after hostOps0_11 V)) shapeCasts_S2x8192x16x64_S2x8192x2x512 := by
    dsimp only [v113, v112]; after_reads_simp; rfl
  rw [e]
  pointwise
  refine SsdPoints.at_rest _ _ _ fun a => ?_
  match a with
  | ⟨0, _⟩ => rfl
  | ⟨1, _⟩ => rfl
  | ⟨2, _⟩ => show g.val * 8 + i.val / 64 = (g.val * 512 + i.val) / 64; omega
  | ⟨3, _⟩ => show i.val % 64 = (g.val * 512 + i.val) % 64; omega

theorem r12_v115 (b : Fin 2) (n : Fin 8192) (g : Fin 2) (i : Fin 512) :
    v115 (after hostOps0_12 V) (ix4 b n g i) = v114 V (ix4 b n g i) * Ideal.logistic (v114 V (ix4 b n g i)) := by
  dsimp only [v115, v114]; after_reads_at
  rfl

theorem r13_v131 (R : Fin 16384) (c : Fin 1024) :
    v131 (after hostOps0_13 V) (ix2 R c)
      = (fun i : Fin 512 => v113 V (ix4 ⟨R.val / 8192, by omega⟩ ⟨R.val % 8192, by omega⟩ ⟨c.val / 512, by omega⟩ i)
            * v115 V (ix4 ⟨R.val / 8192, by omega⟩ ⟨R.val % 8192, by omega⟩ ⟨c.val / 512, by omega⟩ i)) ⟨c.val % 512, by omega⟩
        * Ideal.rsqrt (Ideal.div (∑ i : Fin 512, (fun i : Fin 512 => v113 V (ix4 ⟨R.val / 8192, by omega⟩ ⟨R.val % 8192, by omega⟩ ⟨c.val / 512, by omega⟩ i)
            * v115 V (ix4 ⟨R.val / 8192, by omega⟩ ⟨R.val % 8192, by omega⟩ ⟨c.val / 512, by omega⟩ i)) i
          * (fun i : Fin 512 => v113 V (ix4 ⟨R.val / 8192, by omega⟩ ⟨R.val % 8192, by omega⟩ ⟨c.val / 512, by omega⟩ i)
            * v115 V (ix4 ⟨R.val / 8192, by omega⟩ ⟨R.val % 8192, by omega⟩ ⟨c.val / 512, by omega⟩ i)) i) (Ideal.ofBits .f32 0x44000000#32) + Ideal.ofBits .f32 0x358637BD#32)
        * a8 V (ix1 c) := by
  dsimp only [v131, v113, v115, a8]; after_reads_at

/-! ## One trip of the loop -/

theorem count_int (k : ℕ) (hk : k < 128) : (BitVec.ofNat 32 k).toInt = (k : ℤ) := by
  have h : (BitVec.ofNat 32 k).toNat = k := by rw [BitVec.toNat_ofNat]; omega
  rw [BitVec.toInt_eq_toNat_of_lt (by omega), h]

theorem start4 (k : ℕ) (hk : k < 128) (a : Fin 4) :
    Host.clampedStart S128x2x2x8 S1x2x2x8 rfl (fun j => BitVec.toInt ((![fun _ => BitVec.ofNat 32 k, constantI S_ 32 0#32, constantI S_ 32 0#32,
      constantI S_ 32 0#32] : Fin 4 → IVec S_ 32) j (Shape.Idx.first h_S_))) a = (![k, 0, 0, 0] : Fin 4 → ℕ) a := by
  match a with
  | ⟨0, _⟩ =>
    show (min (max (BitVec.ofNat 32 k).toInt 0) ((127 : ℕ) : ℤ)).toNat = k
    rw [count_int k hk]; omega
  | ⟨1, _⟩ => rfl
  | ⟨2, _⟩ => rfl
  | ⟨3, _⟩ => rfl

theorem start6 (k : ℕ) (hk : k < 128) (a : Fin 6) :
    Host.clampedStart S128x2x2x8x64x128 S1x2x2x8x64x128 rfl (fun j => BitVec.toInt ((![fun _ => BitVec.ofNat 32 k, constantI S_ 32 0#32, constantI S_ 32 0#32,
      constantI S_ 32 0#32, constantI S_ 32 0#32, constantI S_ 32 0#32] : Fin 6 → IVec S_ 32) j (Shape.Idx.first h_S_))) a = (![k, 0, 0, 0, 0, 0] : Fin 6 → ℕ) a := by
  match a with
  | ⟨0, _⟩ =>
    show (min (max (BitVec.ofNat 32 k).toInt 0) ((127 : ℕ) : ℤ)).toNat = k
    rw [count_int k hk]; omega
  | ⟨1, _⟩ => rfl
  | ⟨2, _⟩ => rfl
  | ⟨3, _⟩ => rfl
  | ⟨4, _⟩ => rfl
  | ⟨5, _⟩ => rfl

theorem from_zero {x : ℕ} (y : ℕ) (h : x = 0) : x + y = y := by omega
theorem less_zero {x : ℕ} (y : ℕ) (h : x = 0) : y - x = y := by omega
theorem within {x v y w : ℕ} (h : x = v) (h1 : v ≤ y) (h2 : y < v + w) : x ≤ y ∧ y < x + w := by omega

theorem trip_w3 (k : ℕ) (hk : k < 128) (hc : V (Proc.devRef .tc main_v97_2) = fun _ => BitVec.ofNat 32 k)
    (b : Fin 2) (g : Fin 2) (r : Fin 8) (p : Fin 64) (n : Fin 128) :
    w3 (afterL bodyI V) (ix5 b g r p n) = w3 V (ix5 b g r p n) * w1 V (ix4 ⟨k, hk⟩ b g r) + w0 V (ix6 ⟨k, hk⟩ b g r p n) := by
  dsimp only [w3, w1, w0]
  rw [trip_main_v97_3, hc, id_eq]
  pointwise
  refine congrArg₂ (fun x y : EReal => w3 V (ix5 b g r p n) * x + y) (SsdPoints.at_rest (w1 V) _ _ fun a => ?_) (SsdPoints.at_rest (w0 V) _ _ fun a => ?_)
  · match a with
    | ⟨0, _⟩ => exact start4 k hk 0
    | ⟨1, _⟩ => exact from_zero _ (start4 k hk 1)
    | ⟨2, _⟩ => exact from_zero _ (start4 k hk 2)
    | ⟨3, _⟩ => exact from_zero _ (start4 k hk 3)
  · match a with
    | ⟨0, _⟩ => exact start6 k hk 0
    | ⟨1, _⟩ => exact from_zero _ (start6 k hk 1)
    | ⟨2, _⟩ => exact from_zero _ (start6 k hk 2)
    | ⟨3, _⟩ => exact from_zero _ (start6 k hk 3)
    | ⟨4, _⟩ => exact from_zero _ (start6 k hk 4)
    | ⟨5, _⟩ => exact from_zero _ (start6 k hk 5)

theorem trip_w4 (k : ℕ) (hk : k < 128) (hc : V (Proc.devRef .tc main_v97_2) = fun _ => BitVec.ofNat 32 k)
    (q : Fin 128) (b : Fin 2) (g : Fin 2) (r : Fin 8) (p : Fin 64) (n : Fin 128) :
    w4 (afterL bodyI V) (ix6 q b g r p n) = if q.val = k then w3 V (ix5 b g r p n) else w4 V (ix6 q b g r p n) := by
  dsimp only [w3, w4]
  rw [trip_main_v97_4, hc, id_eq]
  pointwise
  by_cases hq : q.val = k
  · rw [if_pos hq, dif_pos]
    · refine SsdPoints.at_rest (w3 V) _ _ fun a => ?_
      match a with
      | ⟨0, _⟩ => exact less_zero _ (start6 k hk 1)
      | ⟨1, _⟩ => exact less_zero _ (start6 k hk 2)
      | ⟨2, _⟩ => exact less_zero _ (start6 k hk 3)
      | ⟨3, _⟩ => exact less_zero _ (start6 k hk 4)
      | ⟨4, _⟩ => exact less_zero _ (start6 k hk 5)
    · intro a
      match a with
      | ⟨0, _⟩ => exact within (start6 k hk 0) (show k ≤ q.val by omega) (show q.val < k + 1 by omega)
      | ⟨1, _⟩ => exact within (start6 k hk 1) (Nat.zero_le _) (show b.val < 0 + 2 by omega)
      | ⟨2, _⟩ => exact within (start6 k hk 2) (Nat.zero_le _) (show g.val < 0 + 2 by omega)
      | ⟨3, _⟩ => exact within (start6 k hk 3) (Nat.zero_le _) (show r.val < 0 + 8 by omega)
      | ⟨4, _⟩ => exact within (start6 k hk 4) (Nat.zero_le _) (show p.val < 0 + 64 by omega)
      | ⟨5, _⟩ => exact within (start6 k hk 5) (Nat.zero_le _) (show n.val < 0 + 128 by omega)
  · rw [if_neg hq, dif_neg]
    intro h
    have h0 := h ⟨0, by decide⟩
    have e := start6 k hk 0
    have h1 : Host.clampedStart S128x2x2x8x64x128 S1x2x2x8x64x128 rfl (fun j => BitVec.toInt ((![fun _ => BitVec.ofNat 32 k, constantI S_ 32 0#32, constantI S_ 32 0#32,
      constantI S_ 32 0#32, constantI S_ 32 0#32, constantI S_ 32 0#32] : Fin 6 → IVec S_ 32) j (Shape.Idx.first h_S_))) 0 ≤ q.val ∧ q.val <
        Host.clampedStart S128x2x2x8x64x128 S1x2x2x8x64x128 rfl (fun j => BitVec.toInt ((![fun _ => BitVec.ofNat 32 k, constantI S_ 32 0#32, constantI S_ 32 0#32,
      constantI S_ 32 0#32, constantI S_ 32 0#32, constantI S_ 32 0#32] : Fin 6 → IVec S_ 32) j (Shape.Idx.first h_S_))) 0 + 1 := h0
    rw [e] at h1
    exact hq (Nat.le_antisymm (Nat.lt_succ_iff.1 h1.2) h1.1)

end Cert.SsdRef
-- ==== Proof.SsdRefValue.lean ====
/-
  The value of the reference of the SSD head group: each buffer over the layer's inputs, through the stretches before the loop,
  the loop over the chunks, and the stretches after it.
-/
module

public import proofs.«01_k».proof.Proof.SsdRef

@[expose] public section

set_option maxRecDepth 16384
set_option maxHeartbeats 400000

noncomputable section

namespace Cert.SsdRefValue

open Idealize.ShloMosaic Idealize.ShloMosaic.TcCoe Idealize.SL.Sem Idealize.ShloMosaic.StableHlo
open Cert.SsdRefIdeal Cert.SsdRefIdeal.Gen Cert.SsdRefIdeal.Value Cert.SsdRef Cert.SsdRefKeep Cert.SsdSeq Cert.SsdSpec

/-! ## What the stretches keep -/

/-- A list of stretches writes what a list of reference lists names. -/
abbrev Writes (o : List (List (HloOp τ sig (Elt Ideal)))) (w : List (List (Ref sig .tc))) : Prop :=
  List.Forall₂ (fun ops W => ops.Forall fun op => op.writes ⊆ (W.map (Proc.devRef (τ := τ) .tc)).toFinset) o w

theorem keep_list {o : List (List (HloOp τ sig (Elt Ideal)))} {w : List (List (Ref sig .tc))} (h : Writes o w) :
    ∀ (V : Valuation τ sig (Elt Ideal)) (r : Ref sig .tc), r ∉ w.flatten → afterL o V (Proc.devRef .tc r) = V (Proc.devRef .tc r) := by
  induction h with
  | nil => intro V r _; rfl
  | cons h _ ih =>
    intro V r hr
    rw [List.flatten_cons, List.mem_append, not_or] at hr
    exact (ih _ r hr.2).trans (after_of_writes_sub _ V h hr.1)

theorem afterL_append : ∀ (a b : List (List (HloOp τ sig (Elt Ideal)))) (V : Valuation τ sig (Elt Ideal)), afterL (a ++ b) V = afterL b (afterL a V)
  | [], _, _ => rfl
  | x :: a, b, V => afterL_append a b (after x V)

abbrev preW : List (List (Ref sig .tc)) := [hostOps0_W, hostOps0_1_W, hostOps0_2_W, hostOps0_3_W, hostOps0_4_W, hostOps0_5_W, hostOps0_6_W, hostOps0_7_W, hostOps0_8_W, hostOps0_9_W, hostOps0_10_W]

theorem pre_writes : Writes preI preW :=
  .cons hostOps0_writes (.cons hostOps0_1_writes (.cons hostOps0_2_writes (.cons hostOps0_3_writes (.cons hostOps0_4_writes (.cons hostOps0_5_writes
    (.cons hostOps0_6_writes (.cons hostOps0_7_writes (.cons hostOps0_8_writes (.cons hostOps0_9_writes (.cons hostOps0_10_writes .nil))))))))))

variable (V : Valuation τ sig (Elt Ideal))

/-- The contents before the loop, and after the first `k` stretches of it. -/
abbrev E : Valuation τ sig (Elt Ideal) := afterL preI V
abbrev T (k : ℕ) : Valuation τ sig (Elt Ideal) := afterL (preI.take k) V

/-- A buffer that no later stretch writes holds at the loop what it holds after `k` stretches. -/
theorem late (k : ℕ) (r : Ref sig .tc) (hr : r ∉ (preW.drop k).flatten) : E V (Proc.devRef .tc r) = T V k (Proc.devRef .tc r) := by
  have e : E V = afterL (preI.drop k) (T V k) := (congrArg (fun o => afterL o V) (List.take_append_drop k preI).symm).trans (afterL_append _ _ V)
  rw [e]
  exact keep_list (List.forall₂_drop k pre_writes) _ r hr

/-- A buffer that no stretch so far writes. -/
theorem early (k : ℕ) (r : Ref sig .tc) (hr : r ∉ (preW.take k).flatten) : T V k (Proc.devRef .tc r) = V (Proc.devRef .tc r) :=
  keep_list (List.forall₂_take k pre_writes) V r hr

/-- The layer's inputs. -/
def inp : In where
  z R n := a0 V (ix2 R n)
  x R n := a1 V (ix2 R n)
  sm R n := a2 V (ix2 R n)
  cw k n := a3 V (ix2 k n)
  cb n := a4 V (ix1 n)
  dtb h := a5 V (ix1 h)
  alog h := a6 V (ix1 h)
  d h := a7 V (ix1 h)
  nw n := a8 V (ix1 n)

theorem conv_at (i : In) {a b : ℕ} {c d : Fin 1536} (h : a = b) (h' : c.val = d.val) : conv i a c = conv i b d := by
  rw [h, Fin.ext h']
theorem step_at (i : In) {a b : ℕ} {c d : Fin 16} (h : a = b) (h' : c.val = d.val) : step i a c = step i b d := by
  rw [h, Fin.ext h']

/-! ## The rows -/

theorem e_v4 (b : Fin 2) (n : Fin 8192) (k : ℕ) (hk : k ≤ 3) (n' : Fin 8195) (hn : n'.val = k + n.val) (c : Fin 1536) :
    v4 (T V 2) (ix3 b n' c) = tap (inp V) (b.val * 8192 + n.val) k c := by
  refine (r1_v4 (T V 1) (r0_c V) b n' c).trans ?_
  unfold tap
  by_cases h : 3 ≤ n'.val
  · rw [dif_pos h, if_neg (by omega)]
    refine (r0_v1 V b _ c).trans ?_
    refine SsdPoints.at_rest (a1 V) _ _ fun a => ?_
    match a with
    | ⟨0, _⟩ => show b.val * 8192 + (n'.val - 3) = (b.val * 8192 + n.val + k - 3) % 16384; omega
    | ⟨1, _⟩ => rfl
  · rw [dif_neg h, if_pos (by omega)]

theorem e_v36 (b : Fin 2) (n : Fin 8192) (c : Fin 1536) : v36 (T V 3) (ix3 b n c) = pre (inp V) (b.val * 8192 + n.val) c := by
  refine (r2_v36 (T V 2) b n c).trans ?_
  rw [e_v4 V b n 0 (by omega) _ (by show n.val = 0 + n.val; omega), e_v4 V b n 1 (by omega) _ rfl, e_v4 V b n 2 (by omega) _ rfl, e_v4 V b n 3 (by omega) _ rfl]
  have h3 : a3 (T V 2) = a3 V := early V 2 main_arg3 (by decide)
  have h4 : a4 (T V 2) = a4 V := early V 2 main_arg4 (by decide)
  rw [h3, h4]
  rfl

theorem e_v37 (b : Fin 2) (n : Fin 8192) (c : Fin 1536) : v37 (T V 4) (ix3 b n c) = conv (inp V) (b.val * 8192 + n.val) c := by
  refine (r3_v37 (T V 3) b n c).trans ?_
  rw [e_v36]
  rfl

theorem e_v41 (b : Fin 2) (n : Fin 8192) (h : Fin 16) (p : Fin 64) :
    v41 (T V 5) (ix4 b n h p) = conv (inp V) (b.val * 8192 + n.val) ⟨h.val * 64 + p.val, by omega⟩ :=
  (r4_v41 (T V 4) b n h p).trans (e_v37 V b n _)
theorem e_v42 (b : Fin 2) (n : Fin 8192) (g : Fin 2) (k : Fin 128) :
    v42 (T V 5) (ix4 b n g k) = conv (inp V) (b.val * 8192 + n.val) ⟨1024 + (g.val * 128 + k.val), by omega⟩ :=
  (r4_v42 (T V 4) b n g k).trans (e_v37 V b n _)
theorem e_v43 (b : Fin 2) (n : Fin 8192) (g : Fin 2) (k : Fin 128) :
    v43 (T V 5) (ix4 b n g k) = conv (inp V) (b.val * 8192 + n.val) ⟨1280 + (g.val * 128 + k.val), by omega⟩ :=
  (r4_v43 (T V 4) b n g k).trans (e_v37 V b n _)

theorem e_v47 (b : Fin 2) (n : Fin 8192) (h : Fin 16) : v47 (T V 6) (ix3 b n h) = step (inp V) (b.val * 8192 + n.val) h := by
  have e : v46 (T V 5) (ix3 b n h) = arg (inp V) (b.val * 8192 + n.val) h := by
    refine (r4_v46 (T V 4) b n h).trans ?_
    have h3 : v3 (T V 4) = v3 (T V 1) := (late V 4 main_v3 (by decide)).symm.trans (late V 1 main_v3 (by decide))
    have h5 : a5 (T V 4) = a5 V := early V 4 main_arg5 (by decide)
    rw [h3, h5]
    refine congrArg (· + a5 V (ix1 h)) ((r0_v3 V b n h).trans ?_)
    refine SsdPoints.at_rest (a2 V) _ _ fun a => ?_
    match a with
    | ⟨0, _⟩ => show b.val * 8192 + n.val = (b.val * 8192 + n.val) % 16384; omega
    | ⟨1, _⟩ => rfl
  refine (r5_v47 (T V 5) b n h).trans ?_
  rw [e]
  rfl

/-! ## The chunks -/

/-- The chunk that batch `b`'s rows `64 q …` are. -/
abbrev ch (b : Fin 2) (q : Fin 128) : Ch := chunk (inp V) (128 * b.val + q.val)
/-- The lane of group `g`, head `r` and place `p`. -/
def lane (g : Fin 2) (r : Fin 8) (p : Fin 64) : Fin 1024 := ⟨512 * g.val + 64 * r.val + p.val, by omega⟩

theorem hd_lane (g : Fin 2) (r : Fin 8) (p : Fin 64) : hd (lane g r p) = ⟨g.val * 8 + r.val, by omega⟩ :=
  Fin.ext (show (512 * g.val + 64 * r.val + p.val) / 64 = g.val * 8 + r.val by omega)

theorem c_v53 (b : Fin 2) (q : Fin 128) (l : Fin 64) (g : Fin 2) (r : Fin 8) (p : Fin 64) :
    v53 (E V) (ix6 b q l g r p) = (ch V b q).X l (xN (lane g r p)) * (ch V b q).dt l (hd (lane g r p)) := by
  have e : v53 (E V) = v53 (T V 7) := late V 7 main_v53 (by decide)
  have e1 : v41 (T V 6) = v41 (T V 5) := (late V 6 main_v41 (by decide)).symm.trans (late V 5 main_v41 (by decide))
  rw [e, hd_lane]
  refine (r6_v53 (T V 6) b q l g r p).trans ?_
  rw [e1, e_v41, e_v47]
  exact congrArg₂ (· * ·) (conv_at _ (by show b.val * 8192 + (q.val * 64 + l.val) = 64 * (128 * b.val + q.val) + l.val; omega)
    (by show (g.val * 8 + r.val) * 64 + p.val = 512 * g.val + 64 * r.val + p.val; omega))
    (step_at _ (by show b.val * 8192 + (q.val * 64 + l.val) = 64 * (128 * b.val + q.val) + l.val; omega) rfl)

theorem c_v59 (b : Fin 2) (q : Fin 128) (l : Fin 64) (g : Fin 2) (r : Fin 8) :
    v59 (E V) (ix5 b q g r l) = (ch V b q).lac l ⟨g.val * 8 + r.val, by omega⟩ := by
  have e : v59 (E V) = v59 (T V 8) := late V 8 main_v59 (by decide)
  have e6 : a6 (T V 6) = a6 V := early V 6 main_arg6 (by decide)
  rw [e]
  refine (r7_v59 (T V 7) b q g r l).trans ?_
  show _ = ∑ s : Fin 64, if s.val ≤ l.val then step (inp V) (64 * (128 * b.val + q.val) + s.val) ⟨g.val * 8 + r.val, by omega⟩
    * (-Ideal.exp ((inp V).alog ⟨g.val * 8 + r.val, by omega⟩)) else 0
  refine Finset.sum_congr rfl fun s _ => ?_
  by_cases h : s ≤ l
  · rw [if_pos h, if_pos (show s.val ≤ l.val from h)]
    refine (r6_v58 (T V 6) b q s g r).trans ?_
    rw [e6, e_v47]
    exact congrArg (· * _) (step_at _ (by show b.val * 8192 + (q.val * 64 + s.val) = 64 * (128 * b.val + q.val) + s.val; omega) rfl)
  · rw [if_neg h, if_neg (show ¬ s.val ≤ l.val from h)]

theorem c_v60 (b : Fin 2) (q : Fin 128) (l : Fin 64) (g : Fin 2) (r : Fin 8) (p : Fin 64) (n : Fin 128) :
    v60 (E V) (ix5 b q l g n) = (ch V b q).X l (bN (lane g r p) n) := by
  have e : v60 (E V) = v60 (T V 9) := late V 9 main_v60 (by decide)
  have e1 : v42 (T V 8) = v42 (T V 5) := (late V 8 main_v42 (by decide)).symm.trans (late V 5 main_v42 (by decide))
  rw [e]
  refine (r8_v60 (T V 8) b q l g n).trans ?_
  rw [e1, e_v42]
  exact conv_at _ (by show b.val * 8192 + (q.val * 64 + l.val) = 64 * (128 * b.val + q.val) + l.val; omega)
    (by show 1024 + (g.val * 128 + n.val) = 1024 + 128 * ((512 * g.val + 64 * r.val + p.val) / 512) + n.val; omega)

theorem c_v61 (b : Fin 2) (q : Fin 128) (l : Fin 64) (g : Fin 2) (r : Fin 8) (p : Fin 64) (n : Fin 128) :
    v61 (E V) (ix5 b q l g n) = (ch V b q).X l (cN (lane g r p) n) := by
  have e : v61 (E V) = v61 (T V 9) := late V 9 main_v61 (by decide)
  have e1 : v43 (T V 8) = v43 (T V 5) := (late V 8 main_v43 (by decide)).symm.trans (late V 5 main_v43 (by decide))
  rw [e]
  refine (r8_v61 (T V 8) b q l g n).trans ?_
  rw [e1, e_v43]
  exact conv_at _ (by show b.val * 8192 + (q.val * 64 + l.val) = 64 * (128 * b.val + q.val) + l.val; omega)
    (by show 1280 + (g.val * 128 + n.val) = 1280 + 128 * ((512 * g.val + 64 * r.val + p.val) / 512) + n.val; omega)

theorem c_v73 (b : Fin 2) (q : Fin 128) (l s : Fin 64) (g : Fin 2) (r : Fin 8) :
    v73 (E V) (ix6 b q g r l s) = if s ≤ l then (ch V b q).lac l ⟨g.val * 8 + r.val, by omega⟩ - (ch V b q).lac s ⟨g.val * 8 + r.val, by omega⟩ else ⊥ := by
  have e : v73 (E V) = v73 (T V 10) := late V 10 main_v73 (by decide)
  have e1 : v59 (T V 8) = v59 (E V) := (late V 8 main_v59 (by decide)).symm
  rw [e]
  refine (r9_v73 (T V 8) b q l s g r).trans ?_
  rw [e1, c_v59, c_v59]

theorem c_v80 (b : Fin 2) (q : Fin 128) (l : Fin 64) (g : Fin 2) (r : Fin 8) (p : Fin 64) :
    v80 (E V) (ix6 b q l g r p) = ydiag (ch V b q) l (lane g r p) := by
  have e53 : v53 (T V 10) = v53 (E V) := (late V 10 main_v53 (by decide)).symm
  have e60 : v60 (T V 10) = v60 (E V) := (late V 10 main_v60 (by decide)).symm
  have e61 : v61 (T V 10) = v61 (E V) := (late V 10 main_v61 (by decide)).symm
  have e73 : v73 (T V 10) = v73 (E V) := (late V 10 main_v73 (by decide)).symm
  refine (r10_v80 (T V 10) b q l g r p).trans ?_
  rw [e53, e60, e61, e73]
  refine Finset.sum_congr rfl fun s _ => ?_
  rw [c_v53, c_v73, mul_comm, hd_lane]
  refine congrArg (· * _) (congrArg₂ (· * ·) (Finset.sum_congr rfl fun n _ => ?_) ?_)
  · rw [c_v61 V b q l g r p, c_v60 V b q s g r p]
  · by_cases h : s ≤ l
    · rw [if_pos h, if_pos (show s.val ≤ l.val from h)]
    · rw [if_neg h, if_neg (show ¬ s.val ≤ l.val from h), Ideal.exp_bot]

theorem c_w0 (b : Fin 2) (q : Fin 128) (g : Fin 2) (r : Fin 8) (p : Fin 64) (n : Fin 128) :
    w0 (E V) (ix6 q b g r p n) = ∑ l : Fin 64, (ch V b q).X l (bN (lane g r p) n) * ((ch V b q).X l (xN (lane g r p)) * (ch V b q).dt l (hd (lane g r p))
      * Ideal.exp ((ch V b q).lac 63 (hd (lane g r p)) - (ch V b q).lac l (hd (lane g r p)))) := by
  have e53 : v53 (T V 10) = v53 (E V) := (late V 10 main_v53 (by decide)).symm
  have e60 : v60 (T V 10) = v60 (E V) := (late V 10 main_v60 (by decide)).symm
  have e59 : v59 (T V 10) = v59 (E V) := (late V 10 main_v59 (by decide)).symm
  refine (r10_w0 (T V 10) b q g r p n).trans ?_
  rw [e53, e60, e59]
  refine Finset.sum_congr rfl fun l _ => ?_
  rw [c_v53, c_v60 V b q l g r p, c_v59, c_v59, mul_comm, hd_lane]
  exact congrArg (_ * ·) (mul_comm _ _)

theorem c_w1 (b : Fin 2) (q : Fin 128) (g : Fin 2) (r : Fin 8) (p : Fin 64) :
    w1 (E V) (ix4 q b g r) = Ideal.exp ((ch V b q).lac 63 (hd (lane g r p))) := by
  have e59 : v59 (T V 10) = v59 (E V) := (late V 10 main_v59 (by decide)).symm
  refine (r10_w1 (T V 10) b q g r).trans ?_
  rw [e59, c_v59, hd_lane]

/-! ## The loop -/

variable (m : (ℓ : Loc nD τ sig) → Buf (Elt Ideal) ℓ) (c : Dev nD)

/-- The contents at the launch. -/
abbrev W : Valuation τ sig (Elt Ideal) := launchContents m c
/-- The contents after `k` trips and the next check of the counter. -/
abbrev A (k : ℕ) : Valuation τ sig (Elt Ideal) := after condOps (atK m k c)

theorem A_cond (k : ℕ) (r : Ref sig .tc) (h : r ∉ condOps_W) : A m c k (Proc.devRef .tc r) = atK m k c (Proc.devRef .tc r) :=
  after_of_writes_sub _ _ condOps_writes h

/-- A buffer that the loop does not write. -/
theorem A_keep (k : ℕ) (r : Ref sig .tc) (h : r ∉ condOps_W) (h' : r ∉ loopW) : A m c k (Proc.devRef .tc r) = E (W m c) (Proc.devRef .tc r) :=
  (A_cond m c k r h).trans (atTrip_keep _ c r h' k)

theorem A_count (k : ℕ) : A m c k (Proc.devRef .tc main_v97_2) = fun _ => BitVec.ofNat 32 k := by
  refine ((A_cond m c k main_v97_2 (by decide)).trans (atK_ctr m c k)).trans (funext fun _ => ?_)
  simp [Scf.iv]

/-- The chunks of batch `b`. -/
abbrev chs (b : Fin 2) : ℕ → Ch := fun j => chunk (inp (W m c)) (128 * b.val + j)

theorem loop_state (b : Fin 2) (g : Fin 2) (r : Fin 8) (p : Fin 64) (n : Fin 128) : ∀ k ≤ 128,
    w3 (A m c k) (ix5 b g r p n) = state (chs m c b) k n (lane g r p)
      ∧ ∀ q : Fin 128, q.val < k → w4 (A m c k) (ix6 q b g r p n) = state (chs m c b) q.val n (lane g r p)
  | 0, _ => by
    have e : w3 (A m c 0) = w3 (E (W m c)) := A_cond m c 0 main_v97_3 (by decide)
    refine ⟨?_, fun q h => absurd h (Nat.not_lt_zero _)⟩
    rw [e]
    exact r10_w3 (T (W m c) 10) b g r p n
  | k + 1, hk => by
    obtain ⟨i3, i4⟩ := loop_state b g r p n k (by omega)
    have e3 : w3 (A m c (k + 1)) = w3 (afterL bodyI (A m c k)) := A_cond m c (k + 1) main_v97_3 (by decide)
    have e4 : w4 (A m c (k + 1)) = w4 (afterL bodyI (A m c k)) := A_cond m c (k + 1) main_v97_4 (by decide)
    have e0 : w0 (A m c k) = w0 (E (W m c)) := A_keep m c k main_v97_0 (by decide) (by decide)
    have e1 : w1 (A m c k) = w1 (E (W m c)) := A_keep m c k main_v97_1 (by decide) (by decide)
    refine ⟨?_, fun q hq => ?_⟩
    · rw [e3]
      refine (trip_w3 (A m c k) k (by omega) (A_count m c k) b g r p n).trans ?_
      rw [i3, e0, e1, c_w0, c_w1 (W m c) b ⟨k, by omega⟩ g r p]
      rfl
    · rw [e4]
      refine (trip_w4 (A m c k) k (by omega) (A_count m c k) q b g r p n).trans ?_
      by_cases h : q.val = k
      · rw [if_pos h, i3, h]
      · rw [if_neg h]; exact i4 q (by omega)

/-! ## After the loop -/

/-- The contents after the loop, and after the first `k` stretches that follow. -/
abbrev L : Valuation τ sig (Elt Ideal) := A m c 128
abbrev Q1 : Valuation τ sig (Elt Ideal) := after hostOps0_11 (L m c)
abbrev Q2 : Valuation τ sig (Elt Ideal) := after hostOps0_12 (Q1 m c)

/-- The chunk of row `R`, the state before it, and the row's place. -/
abbrev kR (R : Fin 16384) : Ch := chunk (inp (W m c)) (R.val / 64)
abbrev sR (R : Fin 16384) : Fin 128 → Fin 1024 → EReal := before (inp (W m c)) (R.val / 64)
abbrev lR (R : Fin 16384) : Fin 64 := ⟨R.val % 64, Nat.mod_lt _ (by decide)⟩
abbrev dR : Fin 1024 → EReal := fun n => (inp (W m c)).d (hd n)

theorem p_v112 (R : Fin 16384) (n : Fin 1024) :
    v112 (Q1 m c) (ix4 (⟨R.val / 8192, by omega⟩ : Fin 2) (⟨R.val % 8192, by omega⟩ : Fin 8192) (⟨n.val / 64, by omega⟩ : Fin 16) (⟨n.val % 64, by omega⟩ : Fin 64))
      = ydiag (kR m c R) (lR R) n + yoff (kR m c R) (sR m c R) (lR R) n + dR m c n * (kR m c R).X (lR R) (xN n) := by
  have e80 : v80 (L m c) = v80 (E (W m c)) := A_keep m c 128 main_v80 (by decide) (by decide)
  have e61 : v61 (L m c) = v61 (E (W m c)) := A_keep m c 128 main_v61 (by decide) (by decide)
  have e59 : v59 (L m c) = v59 (E (W m c)) := A_keep m c 128 main_v59 (by decide) (by decide)
  have e41 : v41 (L m c) = v41 (T (W m c) 5) := (A_keep m c 128 main_v41 (by decide) (by decide)).trans (late _ 5 main_v41 (by decide))
  have e7 : a7 (L m c) = a7 (W m c) := (A_keep m c 128 main_arg7 (by decide) (by decide)).trans (late _ 0 main_arg7 (by decide))
  refine (r11_v112 (L m c) _ _ _ _).trans ?_
  rw [e80, e61, e59, e41, e7, c_v80, c_v59, e_v41]
  have hl : lane (⟨n.val / 64 / 8, by omega⟩ : Fin 2) (⟨n.val / 64 % 8, by omega⟩ : Fin 8) (⟨n.val % 64, by omega⟩ : Fin 64) = n :=
    Fin.ext (show 512 * (n.val / 64 / 8) + 64 * (n.val / 64 % 8) + n.val % 64 = n.val by omega)
  have hK : 128 * (R.val / 8192) + R.val % 8192 / 64 = R.val / 64 := by omega
  have hr : (⟨R.val % 8192 % 64, by omega⟩ : Fin 64) = lR R := Fin.ext (show R.val % 8192 % 64 = R.val % 64 by omega)
  have hk : ch (W m c) (⟨R.val / 8192, by omega⟩ : Fin 2) (⟨R.val % 8192 / 64, by omega⟩ : Fin 128) = kR m c R := congrArg (chunk _) hK
  have hs : ∀ k : Fin 128, w4 (L m c) (ix6 (⟨R.val % 8192 / 64, by omega⟩ : Fin 128) (⟨R.val / 8192, by omega⟩ : Fin 2) (⟨n.val / 64 / 8, by omega⟩ : Fin 2)
      (⟨n.val / 64 % 8, by omega⟩ : Fin 8) (⟨n.val % 64, by omega⟩ : Fin 64) k) = sR m c R k n := fun k => by
    refine ((loop_state m c _ _ _ _ k 128 le_rfl).2 _ (show R.val % 8192 / 64 < 128 by omega)).trans ?_
    rw [hl]
    show state (fun j => chunk (inp (W m c)) (128 * (R.val / 8192) + j)) (R.val % 8192 / 64) k n
      = state (fun j => chunk (inp (W m c)) (R.val / 64 / 128 * 128 + j)) (R.val / 64 % 128) k n
    rw [show R.val / 64 / 128 * 128 = 128 * (R.val / 8192) by omega, show R.val / 64 % 128 = R.val % 8192 / 64 by omega]
  have hc : ∀ k : Fin 128, v61 (E (W m c)) (ix5 (⟨R.val / 8192, by omega⟩ : Fin 2) (⟨R.val % 8192 / 64, by omega⟩ : Fin 128) (⟨R.val % 8192 % 64, by omega⟩ : Fin 64)
      (⟨n.val / 64 / 8, by omega⟩ : Fin 2) k) = (kR m c R).X (lR R) (cN n k) := fun k => by
    refine (c_v61 (W m c) _ _ _ _ ⟨n.val / 64 % 8, by omega⟩ ⟨n.val % 64, by omega⟩ k).trans ?_
    rw [hl, hk, hr]
  rw [hl, hk, hr]
  refine congrArg₂ (· + ·) (congrArg₂ (· + ·) rfl (congrArg₂ (· * ·) (Finset.sum_congr rfl fun k _ => ?_) ?_)) (congrArg₂ (· * ·) rfl ?_)
  · rw [mul_comm, ← hc k, ← hs k, hr]
  · exact congrArg (fun h => Ideal.exp ((kR m c R).lac (lR R) h)) (Fin.ext (show n.val / 64 / 8 * 8 + n.val / 64 % 8 = n.val / 64 by omega))
  · exact conv_at _ (show R.val / 8192 * 8192 + R.val % 8192 = 64 * (R.val / 64) + R.val % 64 by omega) (show n.val / 64 * 64 + n.val % 64 = n.val by omega)

theorem keep_v113 : v113 (after hostOps0_12 V) = v113 V := by dsimp only [v113]; after_reads_simp
theorem keep_a8 : a8 (after hostOps0_12 (after hostOps0_11 V)) = a8 V := by dsimp only [a8]; after_reads_simp

/-- The product of the gate and the row. -/
theorem p_gate (R : Fin 16384) (g : Fin 2) (i : Fin 512) :
    v113 (Q2 m c) (ix4 (⟨R.val / 8192, by omega⟩ : Fin 2) (⟨R.val % 8192, by omega⟩ : Fin 8192) g i)
        * v115 (Q2 m c) (ix4 (⟨R.val / 8192, by omega⟩ : Fin 2) (⟨R.val % 8192, by omega⟩ : Fin 8192) g i)
      = gated (kR m c R) (sR m c R) (dR m c) (lR R) ⟨512 * g.val + i.val, by omega⟩ := by
  have e113 : v113 (Q2 m c) = v113 (Q1 m c) := keep_v113 (Q1 m c)
  have e0 : v0 (L m c) = v0 (T (W m c) 1) := (A_keep m c 128 main_v0 (by decide) (by decide)).trans (late _ 1 main_v0 (by decide))
  have ez : v114 (Q1 m c) (ix4 (⟨R.val / 8192, by omega⟩ : Fin 2) (⟨R.val % 8192, by omega⟩ : Fin 8192) g i)
      = (kR m c R).z (lR R) ⟨512 * g.val + i.val, by omega⟩ := by
    refine (r11_v114 (L m c) _ _ _ _).trans ?_
    rw [e0]
    refine (r0_v0 (W m c) _ _ _).trans (SsdPoints.at_rest (a0 (W m c)) _ _ fun a => ?_)
    match a with
    | ⟨0, _⟩ => show R.val / 8192 * 8192 + R.val % 8192 = (64 * (R.val / 64) + R.val % 64) % 16384; omega
    | ⟨1, _⟩ => show g.val * 512 + i.val = 512 * g.val + i.val; omega
  rw [e113]
  refine congrArg₂ (· * ·) ?_ ?_
  · refine (r11_v113 (L m c) _ _ g i).trans (Eq.trans ?_ (p_v112 m c R ⟨512 * g.val + i.val, by omega⟩))
    refine SsdPoints.at_rest (v112 (Q1 m c)) _ _ fun a => ?_
    match a with
    | ⟨0, _⟩ => rfl
    | ⟨1, _⟩ => rfl
    | ⟨2, _⟩ => show (g.val * 512 + i.val) / 64 = (512 * g.val + i.val) / 64; omega
    | ⟨3, _⟩ => show (g.val * 512 + i.val) % 64 = (512 * g.val + i.val) % 64; omega
  · refine (r12_v115 (Q1 m c) _ _ g i).trans ?_
    rw [ez]

/-- The reference's result, by row and place. -/
theorem result (R : Fin 16384) (n : Fin 1024) :
    v131 (afterL postI (L m c)) (ix2 R n) = val (inp (W m c)) R n := by
  have e8 : a8 (Q2 m c) = a8 (W m c) := (keep_a8 (L m c)).trans
    ((A_keep m c 128 main_arg8 (by decide) (by decide)).trans (late _ 0 main_arg8 (by decide)))
  refine (r13_v131 (Q2 m c) R n).trans ?_
  rw [e8]
  have hg := p_gate m c R (⟨n.val / 512, by omega⟩ : Fin 2)
  have hn : (⟨512 * (n.val / 512) + n.val % 512, by omega⟩ : Fin 1024) = n := Fin.ext (Nat.div_add_mod n.val 512)
  show _ = out (kR m c R) (sR m c R) (dR m c) (fun n => a8 (W m c) (ix1 n)) (lR R) n
  unfold out ms
  simp only [hg, hn]

end Cert.SsdRefValue
-- ==== Proof.SsdClaim.lean ====
/-
  The value claim of the SSD head group, from the two readings of SsdFold.lean and SsdRefValue.lean.
-/
module

public import proofs.«01_k».proof.Defs
public import proofs.«01_k».proof.Proof.SsdFrame
public import proofs.«01_k».proof.Proof.SsdFold
public import proofs.«01_k».proof.Proof.SsdRefValue

@[expose] public section

set_option maxRecDepth 16384

noncomputable section

namespace Cert.SsdClaim

open Idealize.ShloMosaic Idealize.ShloMosaic.TcCoe Idealize.SL.Sem Cert.SsdRefKeep

/-- Both programs leave one array, the layer's value at every row and place. -/
theorem value : Cert.algebraic_SsdIdeal_SsdRefIdeal (hSsdIdeal := Cert.SsdIdeal.Gen.facts) (hSsdRefIdeal := Cert.SsdRefIdeal.Gen.facts) := by
  intro m g m' g' _ hargs
  refine ⟨fun c => SsdFold.G m c, ?_, ?_⟩
  · exact (θ_run _ _ _).mono (fun r h c => ⟨((h c).1).trans (SsdFold.kernel_value m c), (h c).2⟩) (Cert.SsdIdeal.Value.run_blocks m g)
  · refine (θ_run _ _ _).mono (fun r h c => ⟨(h c Cert.SsdRefIdeal.main_v131 rfl).trans ?_,
      (h c Cert.SsdRefIdeal.main_arg0 rfl).trans (kept0 m' 128 c),
      (h c Cert.SsdRefIdeal.main_arg1 rfl).trans (kept1 m' 128 c),
      (h c Cert.SsdRefIdeal.main_arg2 rfl).trans (kept2 m' 128 c),
      (h c Cert.SsdRefIdeal.main_arg3 rfl).trans (kept3 m' 128 c),
      (h c Cert.SsdRefIdeal.main_arg4 rfl).trans (kept4 m' 128 c),
      (h c Cert.SsdRefIdeal.main_arg5 rfl).trans (kept5 m' 128 c),
      (h c Cert.SsdRefIdeal.main_arg6 rfl).trans (kept6 m' 128 c),
      (h c Cert.SsdRefIdeal.main_arg7 rfl).trans (kept7 m' 128 c),
      (h c Cert.SsdRefIdeal.main_arg8 rfl).trans (kept8 m' 128 c)⟩)
      (Cert.SsdRefIdeal.Value.run_fold (F := Ideal) m' g')
    have e : SsdRefValue.inp (SsdRefValue.W m' c) = SsdPoints.inp m c := by
      obtain ⟨h0, h1, h2, h3, h4, h5, h6, h7, h8⟩ := hargs c
      unfold SsdPoints.inp
      rw [← h0, ← h1, ← h2, ← h3, ← h4, ← h5, ← h6, ← h7, ← h8]
      rfl
    funext i
    obtain ⟨R, n, rfl⟩ : ∃ (R : Fin 16384) (n : Fin 1024), i = ix2 R n := ⟨i 0, i 1, ValueIdx.eq_ix2 i⟩
    refine (SsdRefValue.result m' c R n).trans ?_
    rw [e]
    rfl

end Cert.SsdClaim

end
-- ==== Proof.GdnFrame.lean ====
/-
  The frames of the gated delta head group: of the kernel and of the ideal kernel.
-/
module

public import proofs.«01_k».proof.Defs
public import proofs.«01_k».proof.Proof.Gen.Gdn.Frame
public import proofs.«01_k».proof.Proof.Gen.GdnIdeal.Frame

@[expose] public section

noncomputable section

namespace Cert.GdnClaim

open Idealize.ShloMosaic Idealize.ShloMosaic.TcCoe Idealize.SL.Sem

theorem frame_P : Cert.quiescent_Gdn (hGdn := Cert.Gdn.Gen.facts) := fun m ρ _ => Cert.Gdn.Gen.frame m ρ
theorem frame_PI : Cert.quiescent_GdnIdeal (hGdnIdeal := Cert.GdnIdeal.Gen.facts) := fun m ρ _ => Cert.GdnIdeal.Gen.frame m ρ

end Cert.GdnClaim

end
-- ==== Proof.OutValue.lean ====
/-
  The value of the output projection: result row `R`, column `n` is the hidden row plus the two mixed halves' product
  with the output weights, normalized by its root mean square and scaled. `spec` states that over the extended reals;
  `kernel_value` reads the kernel's blocks as it, `ref_value` the reference's term.
-/
module

public import proofs.«01_k».proof.Proof.Gen.OutprojIdeal.Value
public import proofs.«01_k».proof.Proof.Gen.OutprojRefIdeal.Read
public import Idealize.ShloMosaic.Lib.Pointwise

@[expose] public section

set_option maxRecDepth 16384

noncomputable section

namespace Cert.OutSpec

open Idealize.ShloMosaic

/-- The contents of a float array at the ideal instance, by its shape. -/
abbrev Arr (s : Shape) : Type := s.Idx → EReal

/-- Row `R` of the flattened hidden state, before the normalization: `x` plus both halves' products. -/
def hid (x : Fin 16384 → Fin 1024 → EReal) (ys yg : Fin 16384 → Fin 1024 → EReal) (w : Fin 2048 → Fin 1024 → EReal)
    (R : Fin 16384) (n : Fin 1024) : EReal :=
  x R n + ∑ k : Fin 1024, ys R k * w ⟨k.val, by omega⟩ n + ∑ k : Fin 1024, yg R k * w ⟨1024 + k.val, by omega⟩ n

/-- The scale of a row: the reciprocal root of its mean square plus epsilon. -/
def scale (h : Fin 1024 → EReal) : EReal :=
  Ideal.rsqrt (Ideal.div (∑ k : Fin 1024, h k * h k) (Ideal.ofBits FTy.f32 1149239296#32) + Ideal.ofBits FTy.f32 897988541#32)

end Cert.OutSpec

namespace Cert.OutKernel

open Cert.OutprojIdeal Cert.OutprojIdeal.Gen Idealize.ShloMosaic Idealize.ShloMosaic.TcCoe Idealize.SL.Sem Cert.OutSpec
open Idealize.ShloMosaic.Pipeline (Dat)

theorem hz : (![0, 0] : Fin 2 → Nat) = fun _ => 0 := funext fun a => by fin_cases a <;> rfl

/-- A block row's sum before the normalization, from the loaded blocks. -/
def bhid (x ys yg : Fin 256 → Fin 1024 → EReal) (w : Fin 2048 → Fin 1024 → EReal) (r : Fin 256) (n : Fin 1024) : EReal :=
  x r n + ∑ k : Fin 1024, ys r k * w ⟨k.val, by omega⟩ n + ∑ k : Fin 1024, yg r k * w ⟨1024 + k.val, by omega⟩ n

theorem pay_read (x ys : Vec Ideal S256x1024 .f32) (wl : Vec Ideal S1024x1024 .bf16) (yg : Vec Ideal S256x1024 .f32) (wh : Vec Ideal S1024x1024 .bf16)
    (fw : Vec Ideal S1x1024 .f32) (h : Fin 256 → Fin 1024 → EReal)
    (hh : ∀ r n, h r n = x (ix2 r n) + ∑ k : Fin 1024, ys (ix2 r k) * wl (ix2 k n) + ∑ k : Fin 1024, yg (ix2 r k) * wh (ix2 k n))
    (r : Fin 256) (n : Fin 1024) :
    k0_pay1 x ys wl yg wh fw (ix2 r n) = h r n * scale (h r) * fw (ix2 0 n) := by
  pointwise [k0_pay1, dot_S256x1024_S1024x1024_S256x1024_1_0_0_1_n_n, scale, hh]

theorem out_read (x0 x1 x2 : Vec Ideal S256x1024 .f32) (x3 : Vec Ideal S2048x1024 .bf16) (x4 : Vec Ideal S1x1024 .f32)
    (h : Fin 256 → Fin 1024 → EReal)
    (hh : ∀ r n, h r n = bhid (fun r n => x0 (ix2 r n)) (fun r n => x1 (ix2 r n)) (fun r n => x2 (ix2 r n)) (fun k n => x3 (ix2 k n)) r n)
    (r : Fin 256) (n : Fin 1024) :
    out0_5 x0 x1 x2 x3 x4 (ix2 r n) = h r n * scale (h r) * x4 (ix2 0 n) := by
  unfold out0_5 r0_0 r0_3
  rw [View.canon_unit_zero hz]
  simp only [View.ld_unit_zero (S := S256x1024) hz, View.ld_unit_zero (S := S1x1024) hz]
  refine pay_read _ _ _ _ _ _ h (fun r n => ?_) r n
  rw [hh]
  unfold bhid r0_1 r0_2
  simp only [View.ld_unit]
  pointwise

variable (m : (ℓ : Loc nD τ sig) → Buf (Elt Ideal) ℓ)

/-- The arguments as functions of plain coordinates. -/
def ax (c : Dev nD) (R : Fin 16384) (n : Fin 1024) : EReal :=
  m ((c : Thread nD τ).loc main_arg0) (ix3 ⟨R.val / 8192, by omega⟩ ⟨R.val % 8192, by omega⟩ n)
def ays (c : Dev nD) (R : Fin 16384) (n : Fin 1024) : EReal := m ((c : Thread nD τ).loc main_arg1) (ix2 R n)
def ag (c : Dev nD) (R : Fin 16384) (n : Fin 1024) : EReal := m ((c : Thread nD τ).loc main_arg2) (ix2 R n)
def aw (c : Dev nD) (k : Fin 2048) (n : Fin 1024) : EReal := m ((c : Thread nD τ).loc main_arg3) (ix2 k n)
def af (c : Dev nD) (n : Fin 1024) : EReal := m ((c : Thread nD τ).loc main_arg4) (ix1 n)

theorem V_x (c : Dev nD) (R : Fin 16384) (n : Fin 1024) : V m c main_v0 (ix2 R n) = ax m c R n := by
  unfold V ax
  simp only [hostOps0]
  after_results
  pointwise

theorem V_w (c : Dev nD) (k : Fin 2048) (n : Fin 1024) : V m c main_v1 (ix2 k n) = aw m c k n := by
  unfold V aw
  simp only [hostOps0]
  after_results
  rfl

theorem V_f (c : Dev nD) (n : Fin 1024) : V m c main_v2 (ix2 0 n) = af m c n := by
  unfold V af
  simp only [hostOps0]
  after_results
  pointwise

/-- The five input windows' block indices: the row windows move with the point, the weights stay. -/
theorem win_idx : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0))

/-- Point `t`'s row `r` in the array. -/
def row (t : Fin cfg0.N) (r : Fin 256) : Fin 16384 := ⟨256 * t.val + r.val, by have := t.isLt; have hN : cfg0.N = 64 := N_0; omega⟩

theorem blk_x (c : Dev nD) (t : Fin cfg0.N) (r : Fin 256) (n : Fin 1024) : iblk m c 0 t (ix2 r n) = ax m c (row t r) n := by
  rw [← V_x]
  unfold iblk
  rw [View.read_apply]
  show V m c main_v0 _ = _
  have h := (win_idx t).1
  congr 1
  funext a
  apply Fin.ext
  match a with
  | ⟨0, _⟩ => show win0_0.index t 0 * 256 + 1 * r.val = 256 * t.val + r.val; rw [h.1]; omega
  | ⟨1, _⟩ => show win0_0.index t 1 * 1024 + 1 * n.val = n.val; rw [h.2]; omega

theorem blk_s (c : Dev nD) (t : Fin cfg0.N) (r : Fin 256) (n : Fin 1024) : iblk m c 1 t (ix2 r n) = ays m c (row t r) n := by
  unfold iblk ays
  rw [View.read_apply, ← V_main_arg1 m c]
  show V m c main_arg1 _ = _
  have h := (win_idx t).2.1
  congr 1
  funext a
  apply Fin.ext
  match a with
  | ⟨0, _⟩ => show win0_1.index t 0 * 256 + 1 * r.val = 256 * t.val + r.val; rw [h.1]; omega
  | ⟨1, _⟩ => show win0_1.index t 1 * 1024 + 1 * n.val = n.val; rw [h.2]; omega

theorem blk_g (c : Dev nD) (t : Fin cfg0.N) (r : Fin 256) (n : Fin 1024) : iblk m c 2 t (ix2 r n) = ag m c (row t r) n := by
  unfold iblk ag
  rw [View.read_apply, ← V_main_arg2 m c]
  show V m c main_arg2 _ = _
  have h := (win_idx t).2.2.1
  congr 1
  funext a
  apply Fin.ext
  match a with
  | ⟨0, _⟩ => show win0_2.index t 0 * 256 + 1 * r.val = 256 * t.val + r.val; rw [h.1]; omega
  | ⟨1, _⟩ => show win0_2.index t 1 * 1024 + 1 * n.val = n.val; rw [h.2]; omega

theorem blk_w (c : Dev nD) (t : Fin cfg0.N) (k : Fin 2048) (n : Fin 1024) : iblk m c 3 t (ix2 k n) = aw m c k n := by
  rw [← V_w]
  unfold iblk
  rw [View.read_apply]
  show V m c main_v1 _ = _
  have h := (win_idx t).2.2.2.1
  congr 1
  funext a
  apply Fin.ext
  match a with
  | ⟨0, _⟩ => show win0_3.index t 0 * 2048 + 1 * k.val = k.val; rw [h.1]; omega
  | ⟨1, _⟩ => show win0_3.index t 1 * 1024 + 1 * n.val = n.val; rw [h.2]; omega

theorem blk_f (c : Dev nD) (t : Fin cfg0.N) (n : Fin 1024) : iblk m c 4 t (ix2 0 n) = af m c n := by
  rw [← V_f]
  unfold iblk
  rw [View.read_apply]
  show V m c main_v2 _ = _
  have h := (win_idx t).2.2.2.2.1
  congr 1
  funext a
  apply Fin.ext
  match a with
  | ⟨0, _⟩ => show win0_4.index t 0 * 1 + 1 * 0 = 0; rw [h.1]
  | ⟨1, _⟩ => show win0_4.index t 1 * 1024 + 1 * n.val = n.val; rw [h.2]; omega

/-- The output projection at row `R`, column `n`, of the kernel's arguments. -/
def spec (c : Dev nD) (R : Fin 16384) (n : Fin 1024) : EReal :=
  hid (ax m c) (ays m c) (ag m c) (aw m c) R n * scale (hid (ax m c) (ays m c) (ag m c) (aw m c) R) * af m c n

/-- The result array. -/
def G (c : Dev nD) : S16384x1024.Idx → EReal := fun i => spec m c (i 0) (i 1)

theorem flushed_eq (c : Dev nD) (t : Fin cfg0.N) (hf : (cfg0.win 5).flush t = true) :
    (dats m 0 c).flushed 5 t = ((cfg0.win 5).blk t).view.read (Elt Ideal) (G m c : Buf (Elt Ideal) ((c : Thread nD τ).loc main_v3)) := by
  rw [Value.flushed5]
  funext j
  have h := (win_idx t).2.2.2.2.2
  obtain ⟨r, n, rfl⟩ : ∃ (r : Fin 256) (n : Fin 1024), j = ix2 r n := ⟨j 0, j 1, ValueIdx.eq_ix2 j⟩
  rw [View.read_apply]
  have e0 : (((cfg0.win 5).blk t).view.emb (ix2 r n) : S16384x1024.Idx) 0 = row t r := by
    apply Fin.ext
    show win0_5.index t 0 * 256 + 1 * r.val = 256 * t.val + r.val; rw [h.1]; omega
  have e1 : (((cfg0.win 5).blk t).view.emb (ix2 r n) : S16384x1024.Idx) 1 = n := by
    apply Fin.ext
    show win0_5.index t 1 * 1024 + 1 * n.val = n.val; rw [h.2]; omega
  show out0_5 (F := Ideal) _ _ _ _ _ (ix2 r n) = spec m c _ _
  rw [e0, e1, out_read _ _ _ _ _ (fun r n => hid (ax m c) (ays m c) (ag m c) (aw m c) (row t r) n), blk_f]
  · rfl
  · intro r n
    unfold bhid hid
    simp only [blk_x, blk_s, blk_g, blk_w]

theorem kernel_value (c : Dev nD) : (dats m 0 c).arrAt 5 cfg0.N = (G m c : Buf (Elt Ideal) ((c : Thread nD τ).loc main_v3)) :=
  (dats m 0 c).arrAt_eq_of_cover 5 _ (flushed_eq m c) fun i => by
    have h0 : (i 0 : Nat) < 16384 := (i 0).isLt
    have h1 : (i 1 : Nat) < 1024 := (i 1).isLt
    have hN : cfg0.N = 64 := N_0
    refine ⟨⟨(i 0 : Nat) / 256, by omega⟩, by rw [flush0_5], ?_⟩
    generalize ht : (⟨(i 0 : Nat) / 256, _⟩ : Fin cfg0.N) = t
    have htv : t.val = (i 0 : Nat) / 256 := by rw [← ht]
    have h := (win_idx t).2.2.2.2.2
    show i ∈ ((View.whole main_v3).slice (win0_5.rect t)).set
    rw [View.set_slice_whole, Rect.mem_set_unit]
    intro a
    match a with
    | ⟨0, _⟩ => show win0_5.index t 0 * 256 ≤ (i 0 : Nat) ∧ (i 0 : Nat) < win0_5.index t 0 * 256 + 256
                rw [h.1]; omega
    | ⟨1, _⟩ => show win0_5.index t 1 * 1024 ≤ (i 1 : Nat) ∧ (i 1 : Nat) < win0_5.index t 1 * 1024 + 1024
                rw [h.2]; omega

end Cert.OutKernel

namespace Cert.OutRef

open Cert.OutprojRefIdeal Cert.OutprojRefIdeal.Gen Idealize.ShloMosaic Cert.OutSpec

variable (x0 : Arr S2x8192x1024) (x1 x2 : Arr S16384x1024) (x3 : Arr S2048x1024) (x4 : Arr S1024)

/-- The reference's sum before the normalization is the specification's, the product over the joined halves split. -/
theorem hid_read (b : Fin 2) (s : Fin 8192) (n : Fin 1024) :
    Read.val_main_v4 (F := Ideal) x0 x1 x2 x3 (ix3 b s n)
      = hid (fun R n => x0 (ix3 ⟨R.val / 8192, by omega⟩ ⟨R.val % 8192, by omega⟩ n)) (fun R n => x1 (ix2 R n)) (fun R n => x2 (ix2 R n))
          (fun k n => x3 (ix2 k n)) ⟨b.val * 8192 + s.val, by omega⟩ n := by
  rw [Read.val_main_v4_apply, Read.val_main_v3_apply]
  unfold hid
  have e : (∑ k : Fin 2048, Read.val_main_v2 (F := Ideal) x1 x2 (Read.lidx_main_v3 (ix3 b s n) k) * x3 (Read.ridx_main_v3 (ix3 b s n) k) : EReal)
      = ∑ k : Fin (1024 + 1024), Read.val_main_v2 (F := Ideal) x1 x2 (ix3 b s k) * x3 (ix2 k n) := by
    refine Finset.sum_congr rfl fun k _ => ?_
    congr 2
    · funext a; match a with | ⟨0, _⟩ => rfl | ⟨1, _⟩ => rfl | ⟨2, _⟩ => rfl
    · funext a; match a with | ⟨0, _⟩ => rfl | ⟨1, _⟩ => rfl
  rw [e, Fin.sum_univ_add]
  show x0 _ + (_ + _) = _
  rw [← add_assoc]
  have hx : x0 (ix3 b s n) = x0 (ix3 (⟨(b.val * 8192 + s.val) / 8192, by omega⟩ : Fin 2) (⟨(b.val * 8192 + s.val) % 8192, by omega⟩ : Fin 8192) n) := by
    congr 1; funext a; apply Fin.ext
    match a with
    | ⟨0, _⟩ => show b.val = (b.val * 8192 + s.val) / 8192; omega
    | ⟨1, _⟩ => show s.val = (b.val * 8192 + s.val) % 8192; omega
    | ⟨2, _⟩ => rfl
  have hl : ∀ k : Fin 1024, Read.val_main_v2 (F := Ideal) x1 x2 (ix3 b s (Fin.castAdd 1024 k)) = x1 (ix2 ⟨b.val * 8192 + s.val, by omega⟩ k) := by
    intro k
    unfold Read.val_main_v2 Read.val_main_v0
    refine (concatenate_pair_apply_left 2 _ _ concatenates_S2x8192x1024_S2x8192x1024_S2x8192x2048_d2 _ rfl (ix3 b s k) ?_).trans ?_
    · intro a; match a with | ⟨0, _⟩ => rfl | ⟨1, _⟩ => rfl | ⟨2, _⟩ => rfl
    · pointwise
  have hr : ∀ k : Fin 1024, Read.val_main_v2 (F := Ideal) x1 x2 (ix3 b s (Fin.natAdd 1024 k)) = x2 (ix2 ⟨b.val * 8192 + s.val, by omega⟩ k) := by
    intro k
    unfold Read.val_main_v2 Read.val_main_v0 Read.val_main_v1
    refine (concatenate_pair_apply_right 2 _ _ concatenates_S2x8192x1024_S2x8192x1024_S2x8192x2048_d2 _ rfl rfl (ix3 b s k) ?_ ?_).trans ?_
    · intro a ha
      match a with
      | ⟨0, _⟩ => rfl
      | ⟨1, _⟩ => rfl
      | ⟨2, _⟩ => exact absurd rfl ha
    · show k.val + 1024 = 1024 + k.val; omega
    · pointwise
  simp only [hl, hr, hx]
  rfl

/-- The reference's result at a row and a column. -/
theorem ref_value (R : Fin 16384) (n : Fin 1024) :
    Read.val_main_v18 (F := Ideal) x0 x1 x2 x3 x4 (ix2 R n)
      = hid (fun R n => x0 (ix3 ⟨R.val / 8192, by omega⟩ ⟨R.val % 8192, by omega⟩ n)) (fun R n => x1 (ix2 R n)) (fun R n => x2 (ix2 R n))
          (fun k n => x3 (ix2 k n)) R n
        * scale (hid (fun R n => x0 (ix3 ⟨R.val / 8192, by omega⟩ ⟨R.val % 8192, by omega⟩ n)) (fun R n => x1 (ix2 R n)) (fun R n => x2 (ix2 R n))
          (fun k n => x3 (ix2 k n)) R) * x4 (ix1 n) := by
  have hR : ∀ h, (⟨R.val / 8192 * 8192 + R.val % 8192, h⟩ : Fin 16384) = R := fun h => Fin.ext (by show R.val / 8192 * 8192 + R.val % 8192 = R.val; omega)
  unfold Read.val_main_v18 Read.val_main_v17 Read.val_main_v14 Read.val_main_v13 Read.val_main_v12 Read.val_main_v11 Read.val_main_v9 Read.val_main_v7 Read.val_main_v6
    Read.val_main_v5 Read.val_main_v16 Read.val_main_v15 Read.val_main_v10 Read.val_main_v8 Read.val_main_cst_0 Read.val_main_cst_1 Read.val_main_cst
  pointwise [hid_read, hR, scale]

end Cert.OutRef
end
-- ==== Proof.InValue.lean ====
/-
  The value of the input projection: each hidden row is normalized by its root mean square, scaled, and multiplied by
  the input weights; the five results are column ranges of that product, the last one padded by zero columns. `proj`
  states the product over the extended reals; the kernel's blocks and the reference's terms are read as it.
-/
module

public import proofs.«01_k».proof.Proof.Gen.InprojIdeal.Value
public import proofs.«01_k».proof.Proof.Gen.InprojRefIdeal.Read
public import proofs.«01_k».proof.Proof.OutValue
public import Idealize.ShloMosaic.Lib.Pointwise

@[expose] public section

set_option maxRecDepth 16384

noncomputable section

namespace Cert.InSpec

open Idealize.ShloMosaic Cert.OutSpec

/-- A normalized and scaled row. -/
def unorm (x : Fin 1024 → EReal) (nw : Fin 1024 → EReal) (k : Fin 1024) : EReal := x k * scale x * nw k

/-- The projected row `R` at weight column `j`. -/
def proj (x : Fin 16384 → Fin 1024 → EReal) (nw : Fin 1024 → EReal) (w : Fin 1024 → Fin 6688 → EReal) (R : Fin 16384) (j : Fin 6688) : EReal :=
  ∑ k : Fin 1024, unorm (x R) nw k * w k j

/-- The small columns: 32 of the projection, then zeros. -/
def small (x : Fin 16384 → Fin 1024 → EReal) (nw : Fin 1024 → EReal) (w : Fin 1024 → Fin 6688 → EReal) (R : Fin 16384) (n : Fin 128) : EReal :=
  if h : n.val < 16 then proj x nw w R ⟨2560 + n.val, by omega⟩
  else if h : n.val < 32 then proj x nw w R ⟨6656 + n.val, by omega⟩
  else 0

end Cert.InSpec

namespace Cert.InKernel

open Cert.InprojIdeal Cert.InprojIdeal.Gen Idealize.ShloMosaic Idealize.ShloMosaic.TcCoe Idealize.SL.Sem Cert.OutSpec Cert.InSpec
open Idealize.ShloMosaic.Pipeline (Dat)

theorem hz : (![0, 0] : Fin 2 → Nat) = fun _ => 0 := funext fun a => by fin_cases a <;> rfl

theorem norm_read (x : Vec Ideal S256x1024 .f32) (nw : Vec Ideal S1x1024 .f32) (r : Fin 256) (k : Fin 1024) :
    k0_pay3 x nw (ix2 r k) = unorm (fun k => x (ix2 r k)) (fun k => nw (ix2 0 k)) k := by
  pointwise [k0_pay3, unorm, scale]

theorem out3_read (x0 : Vec Ideal S256x1024 .f32) (x1 : Vec Ideal S1x1024 .f32) (x2 : Vec Ideal S1024x6784 .bf16) (r : Fin 256) (n : Fin 1024) :
    out0_3 x0 x1 x2 (ix2 r n) = ∑ k : Fin 1024, unorm (fun k => x0 (ix2 r k)) (fun k => x1 (ix2 0 k)) k * x2 (ix2 k ⟨0 + n.val, by omega⟩) := by
  unfold_out out0_3
  try simp only [r0_0, r0_1, r0_2, r0_3, r0_4, r0_5, r0_6, r0_7, r0_8, r0_9]
  try rw [View.canon_unit_zero hz]
  simp only [View.ld_unit_zero (S := S256x1024) hz, View.ld_unit_zero (S := S1x1024) hz, View.ld_unit]
  pointwise [k0_pay4, norm_read, dot_S256x1024_S1024x1024_S256x1024_1_0_0_1_n_n]

theorem out4_read (x0 : Vec Ideal S256x1024 .f32) (x1 : Vec Ideal S1x1024 .f32) (x2 : Vec Ideal S1024x6784 .bf16) (r : Fin 256) (n : Fin 1536) :
    out0_4 x0 x1 x2 (ix2 r n) = ∑ k : Fin 1024, unorm (fun k => x0 (ix2 r k)) (fun k => x1 (ix2 0 k)) k * x2 (ix2 k ⟨1024 + n.val, by omega⟩) := by
  unfold_out out0_4
  try simp only [r0_0, r0_1, r0_2, r0_3, r0_4, r0_5, r0_6, r0_7, r0_8, r0_9]
  try rw [View.canon_unit_zero hz]
  simp only [View.ld_unit_zero (S := S256x1024) hz, View.ld_unit_zero (S := S1x1024) hz, View.ld_unit]
  pointwise [k0_pay5, norm_read, dot_S256x1024_S1024x1536_S256x1536_1_0_0_1_n_n]

theorem out5_read (x0 : Vec Ideal S256x1024 .f32) (x1 : Vec Ideal S1x1024 .f32) (x2 : Vec Ideal S1024x6784 .bf16) (r : Fin 256) (n : Fin 1024) :
    out0_5 x0 x1 x2 (ix2 r n) = ∑ k : Fin 1024, unorm (fun k => x0 (ix2 r k)) (fun k => x1 (ix2 0 k)) k * x2 (ix2 k ⟨2560 + n.val, by omega⟩) := by
  unfold_out out0_5
  try simp only [r0_0, r0_1, r0_2, r0_3, r0_4, r0_5, r0_6, r0_7, r0_8, r0_9]
  try rw [View.canon_unit_zero hz]
  simp only [View.ld_unit_zero (S := S256x1024) hz, View.ld_unit_zero (S := S1x1024) hz, View.ld_unit]
  pointwise [k0_pay6, norm_read, dot_S256x1024_S1024x1024_S256x1024_1_0_0_1_n_n]

theorem out6_read (x0 : Vec Ideal S256x1024 .f32) (x1 : Vec Ideal S1x1024 .f32) (x2 : Vec Ideal S1024x6784 .bf16) (r : Fin 256) (n : Fin 3072) :
    out0_6 x0 x1 x2 (ix2 r n) = ∑ k : Fin 1024, unorm (fun k => x0 (ix2 r k)) (fun k => x1 (ix2 0 k)) k * x2 (ix2 k ⟨3584 + n.val, by omega⟩) := by
  unfold_out out0_6
  try simp only [r0_0, r0_1, r0_2, r0_3, r0_4, r0_5, r0_6, r0_7, r0_8, r0_9]
  try rw [View.canon_unit_zero hz]
  simp only [View.ld_unit_zero (S := S256x1024) hz, View.ld_unit_zero (S := S1x1024) hz, View.ld_unit]
  pointwise [k0_pay1, k0_pay7, k0_pay8, norm_read, dot_S256x1024_S1024x3072_S256x3072_1_0_0_1_n_n]

theorem out7_read (x0 : Vec Ideal S256x1024 .f32) (x1 : Vec Ideal S1x1024 .f32) (x2 : Vec Ideal S1024x6784 .bf16) (r : Fin 256) (n : Fin 128) :
    out0_7 x0 x1 x2 (ix2 r n) = ∑ k : Fin 1024, unorm (fun k => x0 (ix2 r k)) (fun k => x1 (ix2 0 k)) k * x2 (ix2 k ⟨6656 + n.val, by omega⟩) := by
  unfold_out out0_7
  try simp only [r0_0, r0_1, r0_2, r0_3, r0_4, r0_5, r0_6, r0_7, r0_8, r0_9]
  try rw [View.canon_unit_zero hz]
  simp only [View.ld_unit_zero (S := S256x1024) hz, View.ld_unit_zero (S := S1x1024) hz, View.ld_unit]
  pointwise [k0_pay2, k0_pay8, norm_read, dot_S256x1024_S1024x128_S256x128_1_0_0_1_n_n]

variable (m : (ℓ : Loc nD τ sig) → Buf (Elt Ideal) ℓ)

/-- The arguments as functions of plain coordinates. -/
def ax (c : Dev nD) (R : Fin 16384) (n : Fin 1024) : EReal :=
  m ((c : Thread nD τ).loc main_arg0) (ix3 ⟨R.val / 8192, by omega⟩ ⟨R.val % 8192, by omega⟩ n)
def an (c : Dev nD) (n : Fin 1024) : EReal := m ((c : Thread nD τ).loc main_arg1) (ix1 n)
def aw (c : Dev nD) (k : Fin 1024) (j : Fin 6688) : EReal := m ((c : Thread nD τ).loc main_arg2) (ix2 k j)

theorem V_x (c : Dev nD) (R : Fin 16384) (n : Fin 1024) : V m c main_v0 (ix2 R n) = ax m c R n := by
  unfold V ax
  simp only [hostOps0]
  after_results
  pointwise

theorem V_n (c : Dev nD) (n : Fin 1024) : V m c main_v12 (ix2 0 n) = an m c n := by
  unfold V an
  simp only [hostOps0]
  after_results
  pointwise

/-- The kernel's joined weights at a column: the ranges of the argument's columns, then zeros. -/
def wall (c : Dev nD) (k : Fin 1024) (J : Fin 6784) : EReal :=
  if h : J.val < 2560 then aw m c k ⟨J.val, by omega⟩
  else if h : J.val < 6656 then aw m c k ⟨J.val + 16, by omega⟩
  else if h : J.val < 6672 then aw m c k ⟨J.val - 4096, by omega⟩
  else if h : J.val < 6688 then aw m c k ⟨J.val, by omega⟩
  else 0

set_option maxHeartbeats 2000000 in
theorem V_w (c : Dev nD) (k : Fin 1024) (J : Fin 6784) : V m c main_v11 (ix2 k J) = wall m c k J := by
  unfold V wall aw
  simp only [hostOps0]
  after_results
  pointwise
  by_cases h1 : J.val < 1024
  · rw [dif_pos h1, dif_pos (by omega)]
    simp only [↓ StableHlo.readResult]
    pointwise
  rw [dif_neg h1]
  by_cases h2 : J.val < 2560
  · rw [dif_pos (by omega), dif_pos h2]
    simp only [↓ StableHlo.readResult]
    pointwise
    exact congrArg _ (congrArg (ix2 k) (Fin.ext (by show 1024 + (J.val - 1024) = J.val; omega)))
  rw [dif_neg (by omega), dif_neg h2]
  by_cases h3 : J.val < 3584
  · rw [dif_pos (by omega), dif_pos (by omega)]
    simp only [↓ StableHlo.readResult]
    pointwise
    exact congrArg _ (congrArg (ix2 k) (Fin.ext (by show 2576 + (J.val - 1024 - 1536) = J.val + 16; omega)))
  rw [dif_neg (by omega)]
  by_cases h4 : J.val < 6656
  · rw [dif_pos (by omega), dif_pos h4]
    simp only [↓ StableHlo.readResult]
    pointwise
    exact congrArg _ (congrArg (ix2 k) (Fin.ext (by show 3600 + (J.val - 1024 - 1536 - 1024) = J.val + 16; omega)))
  rw [dif_neg (by omega), dif_neg h4]
  rw [StableHlo.unary_result_ne]; rotate_left; decide
  rw [StableHlo.unary_result_ne]; rotate_left; decide
  rw [StableHlo.unary_result_ne]; rotate_left; decide
  rw [StableHlo.unary_result_ne]; rotate_left; decide
  rw [StableHlo.nary_result]
  pointwise
  by_cases h5 : J.val < 6672
  · rw [dif_pos (by omega), dif_pos h5]
    simp only [↓ StableHlo.readResult]
    pointwise
    exact congrArg _ (congrArg (ix2 k) (Fin.ext (by show 2560 + (J.val - 1024 - 1536 - 1024 - 3072) = J.val - 4096; omega)))
  rw [dif_neg (by omega), dif_neg h5]
  by_cases h6 : J.val < 6680
  · rw [dif_pos (by omega), dif_pos (by omega)]
    simp only [↓ StableHlo.readResult]
    pointwise
    exact congrArg _ (congrArg (ix2 k) (Fin.ext (by show 6672 + (J.val - 1024 - 1536 - 1024 - 3072 - 16) = J.val; omega)))
  rw [dif_neg (by omega)]
  by_cases h7 : J.val < 6688
  · rw [dif_pos (by omega), dif_pos h7]
    simp only [↓ StableHlo.readResult]
    pointwise
    exact congrArg _ (congrArg (ix2 k) (Fin.ext (by show 6680 + (J.val - 1024 - 1536 - 1024 - 3072 - 16 - 8) = J.val; omega)))
  rw [dif_neg (by omega), dif_neg h7]
  simp only [↓ StableHlo.readResult]
  pointwise

/-- The windows' block indices: the row windows move with the point, the weights stay. -/
theorem win_idx : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0))

/-- Point `t`'s row `r` in the array. -/
def row (t : Fin cfg0.N) (r : Fin 256) : Fin 16384 := ⟨256 * t.val + r.val, by have := t.isLt; have hN : cfg0.N = 64 := N_0; omega⟩

theorem blk_x (c : Dev nD) (t : Fin cfg0.N) (r : Fin 256) (n : Fin 1024) : iblk m c 0 t (ix2 r n) = ax m c (row t r) n := by
  rw [← V_x]
  unfold iblk
  rw [View.read_apply]
  show V m c main_v0 _ = _
  have h := (win_idx t).1
  congr 1
  funext a
  apply Fin.ext
  match a with
  | ⟨0, _⟩ => show win0_0.index t 0 * 256 + 1 * r.val = 256 * t.val + r.val; rw [h.1]; omega
  | ⟨1, _⟩ => show win0_0.index t 1 * 1024 + 1 * n.val = n.val; rw [h.2]; omega

theorem blk_n (c : Dev nD) (t : Fin cfg0.N) (n : Fin 1024) : iblk m c 1 t (ix2 0 n) = an m c n := by
  rw [← V_n]
  unfold iblk
  rw [View.read_apply]
  show V m c main_v12 _ = _
  have h := (win_idx t).2.1
  congr 1
  funext a
  apply Fin.ext
  match a with
  | ⟨0, _⟩ => show win0_1.index t 0 * 1 + 1 * 0 = 0; rw [h.1]
  | ⟨1, _⟩ => show win0_1.index t 1 * 1024 + 1 * n.val = n.val; rw [h.2]; omega

theorem blk_w (c : Dev nD) (t : Fin cfg0.N) (k : Fin 1024) (J : Fin 6784) : iblk m c 2 t (ix2 k J) = wall m c k J := by
  rw [← V_w]
  unfold iblk
  rw [View.read_apply]
  show V m c main_v11 _ = _
  have h := (win_idx t).2.2.1
  congr 1
  funext a
  apply Fin.ext
  match a with
  | ⟨0, _⟩ => show win0_2.index t 0 * 1024 + 1 * k.val = k.val; rw [h.1]; omega
  | ⟨1, _⟩ => show win0_2.index t 1 * 6784 + 1 * J.val = J.val; rw [h.2]; omega

/-- Result `z`: 1024 columns of the projection from column 0. -/
def G3 (c : Dev nD) : S16384x1024.Idx → EReal := fun i => proj (ax m c) (an m c) (aw m c) (i 0) ⟨0 + (i 1).val, by have h : (i 1).val < 1024 := (i 1).isLt; omega⟩

theorem sum3 (c : Dev nD) (R : Fin 16384) (n : Fin 1024) :
    (∑ k : Fin 1024, unorm (ax m c R) (an m c) k * wall m c k ⟨0 + n.val, by omega⟩ : EReal) = proj (ax m c) (an m c) (aw m c) R ⟨0 + n.val, by omega⟩ := by
  unfold proj
  refine Finset.sum_congr rfl fun k _ => ?_
  congr 1
  unfold wall
  rw [dif_pos (by show 0 + n.val < 2560; omega)]

theorem flushed3_eq (c : Dev nD) (t : Fin cfg0.N) (hf : (cfg0.win 3).flush t = true) :
    (dats m 0 c).flushed 3 t = ((cfg0.win 3).blk t).view.read (Elt Ideal) (G3 m c : Buf (Elt Ideal) ((c : Thread nD τ).loc main_v13_0)) := by
  rw [Value.flushed3]
  funext j
  have h := (win_idx t).2.2.2.1
  obtain ⟨r, n, rfl⟩ : ∃ (r : Fin 256) (n : Fin 1024), j = ix2 r n := ⟨j 0, j 1, ValueIdx.eq_ix2 j⟩
  rw [View.read_apply]
  have e : (((cfg0.win 3).blk t).view.emb (ix2 r n) : S16384x1024.Idx) = ix2 (row t r) n := by
    funext a
    apply Fin.ext
    match a with
    | ⟨0, _⟩ => show win0_3.index t 0 * 256 + 1 * r.val = 256 * t.val + r.val; rw [h.1]; omega
    | ⟨1, _⟩ => show win0_3.index t 1 * 1024 + 1 * n.val = n.val; rw [h.2]; omega
  show out0_3 (F := Ideal) _ _ _ (ix2 r n) = G3 m c _
  rw [e, out3_read]
  simp only [blk_x, blk_n, blk_w]
  exact sum3 m c (row t r) n

theorem value3 (c : Dev nD) : (dats m 0 c).arrAt 3 cfg0.N = (G3 m c : Buf (Elt Ideal) ((c : Thread nD τ).loc main_v13_0)) :=
  (dats m 0 c).arrAt_eq_of_cover 3 _ (flushed3_eq m c) fun i => by
    have h0 : (i 0 : Nat) < 16384 := (i 0).isLt
    have h1 : (i 1 : Nat) < 1024 := (i 1).isLt
    have hN : cfg0.N = 64 := N_0
    refine ⟨⟨(i 0 : Nat) / 256, by omega⟩, by rw [flush0_3], ?_⟩
    generalize ht : (⟨(i 0 : Nat) / 256, _⟩ : Fin cfg0.N) = t
    have htv : t.val = (i 0 : Nat) / 256 := by rw [← ht]
    have h := (win_idx t).2.2.2.1
    show i ∈ ((View.whole main_v13_0).slice (win0_3.rect t)).set
    rw [View.set_slice_whole, Rect.mem_set_unit]
    intro a
    match a with
    | ⟨0, _⟩ => show win0_3.index t 0 * 256 ≤ (i 0 : Nat) ∧ (i 0 : Nat) < win0_3.index t 0 * 256 + 256
                rw [h.1]; omega
    | ⟨1, _⟩ => show win0_3.index t 1 * 1024 ≤ (i 1 : Nat) ∧ (i 1 : Nat) < win0_3.index t 1 * 1024 + 1024
                rw [h.2]; omega

/-- Result `xbc`: 1536 columns of the projection from column 1024. -/
def G4 (c : Dev nD) : S16384x1536.Idx → EReal := fun i => proj (ax m c) (an m c) (aw m c) (i 0) ⟨1024 + (i 1).val, by have h : (i 1).val < 1536 := (i 1).isLt; omega⟩

theorem sum4 (c : Dev nD) (R : Fin 16384) (n : Fin 1536) :
    (∑ k : Fin 1024, unorm (ax m c R) (an m c) k * wall m c k ⟨1024 + n.val, by omega⟩ : EReal) = proj (ax m c) (an m c) (aw m c) R ⟨1024 + n.val, by omega⟩ := by
  unfold proj
  refine Finset.sum_congr rfl fun k _ => ?_
  congr 1
  unfold wall
  rw [dif_pos (by show 1024 + n.val < 2560; omega)]

theorem flushed4_eq (c : Dev nD) (t : Fin cfg0.N) (hf : (cfg0.win 4).flush t = true) :
    (dats m 0 c).flushed 4 t = ((cfg0.win 4).blk t).view.read (Elt Ideal) (G4 m c : Buf (Elt Ideal) ((c : Thread nD τ).loc main_v13_1)) := by
  rw [Value.flushed4]
  funext j
  have h := (win_idx t).2.2.2.2.1
  obtain ⟨r, n, rfl⟩ : ∃ (r : Fin 256) (n : Fin 1536), j = ix2 r n := ⟨j 0, j 1, ValueIdx.eq_ix2 j⟩
  rw [View.read_apply]
  have e : (((cfg0.win 4).blk t).view.emb (ix2 r n) : S16384x1536.Idx) = ix2 (row t r) n := by
    funext a
    apply Fin.ext
    match a with
    | ⟨0, _⟩ => show win0_4.index t 0 * 256 + 1 * r.val = 256 * t.val + r.val; rw [h.1]; omega
    | ⟨1, _⟩ => show win0_4.index t 1 * 1536 + 1 * n.val = n.val; rw [h.2]; omega
  show out0_4 (F := Ideal) _ _ _ (ix2 r n) = G4 m c _
  rw [e, out4_read]
  simp only [blk_x, blk_n, blk_w]
  exact sum4 m c (row t r) n

theorem value4 (c : Dev nD) : (dats m 0 c).arrAt 4 cfg0.N = (G4 m c : Buf (Elt Ideal) ((c : Thread nD τ).loc main_v13_1)) :=
  (dats m 0 c).arrAt_eq_of_cover 4 _ (flushed4_eq m c) fun i => by
    have h0 : (i 0 : Nat) < 16384 := (i 0).isLt
    have h1 : (i 1 : Nat) < 1536 := (i 1).isLt
    have hN : cfg0.N = 64 := N_0
    refine ⟨⟨(i 0 : Nat) / 256, by omega⟩, by rw [flush0_4], ?_⟩
    generalize ht : (⟨(i 0 : Nat) / 256, _⟩ : Fin cfg0.N) = t
    have htv : t.val = (i 0 : Nat) / 256 := by rw [← ht]
    have h := (win_idx t).2.2.2.2.1
    show i ∈ ((View.whole main_v13_1).slice (win0_4.rect t)).set
    rw [View.set_slice_whole, Rect.mem_set_unit]
    intro a
    match a with
    | ⟨0, _⟩ => show win0_4.index t 0 * 256 ≤ (i 0 : Nat) ∧ (i 0 : Nat) < win0_4.index t 0 * 256 + 256
                rw [h.1]; omega
    | ⟨1, _⟩ => show win0_4.index t 1 * 1536 ≤ (i 1 : Nat) ∧ (i 1 : Nat) < win0_4.index t 1 * 1536 + 1536
                rw [h.2]; omega

/-- Result `gate`: 1024 columns of the projection from column 2576. -/
def G5 (c : Dev nD) : S16384x1024.Idx → EReal := fun i => proj (ax m c) (an m c) (aw m c) (i 0) ⟨2576 + (i 1).val, by have h : (i 1).val < 1024 := (i 1).isLt; omega⟩

theorem sum5 (c : Dev nD) (R : Fin 16384) (n : Fin 1024) :
    (∑ k : Fin 1024, unorm (ax m c R) (an m c) k * wall m c k ⟨2560 + n.val, by omega⟩ : EReal) = proj (ax m c) (an m c) (aw m c) R ⟨2576 + n.val, by omega⟩ := by
  unfold proj
  refine Finset.sum_congr rfl fun k _ => ?_
  congr 1
  unfold wall
  rw [dif_neg (by show ¬ 2560 + n.val < 2560; omega), dif_pos (by show 2560 + n.val < 6656; omega)]
  congr 1; apply Fin.ext; show 2560 + n.val + 16 = 2576 + n.val; omega

theorem flushed5_eq (c : Dev nD) (t : Fin cfg0.N) (hf : (cfg0.win 5).flush t = true) :
    (dats m 0 c).flushed 5 t = ((cfg0.win 5).blk t).view.read (Elt Ideal) (G5 m c : Buf (Elt Ideal) ((c : Thread nD τ).loc main_v13_2)) := by
  rw [Value.flushed5]
  funext j
  have h := (win_idx t).2.2.2.2.2.1
  obtain ⟨r, n, rfl⟩ : ∃ (r : Fin 256) (n : Fin 1024), j = ix2 r n := ⟨j 0, j 1, ValueIdx.eq_ix2 j⟩
  rw [View.read_apply]
  have e : (((cfg0.win 5).blk t).view.emb (ix2 r n) : S16384x1024.Idx) = ix2 (row t r) n := by
    funext a
    apply Fin.ext
    match a with
    | ⟨0, _⟩ => show win0_5.index t 0 * 256 + 1 * r.val = 256 * t.val + r.val; rw [h.1]; omega
    | ⟨1, _⟩ => show win0_5.index t 1 * 1024 + 1 * n.val = n.val; rw [h.2]; omega
  show out0_5 (F := Ideal) _ _ _ (ix2 r n) = G5 m c _
  rw [e, out5_read]
  simp only [blk_x, blk_n, blk_w]
  exact sum5 m c (row t r) n

theorem value5 (c : Dev nD) : (dats m 0 c).arrAt 5 cfg0.N = (G5 m c : Buf (Elt Ideal) ((c : Thread nD τ).loc main_v13_2)) :=
  (dats m 0 c).arrAt_eq_of_cover 5 _ (flushed5_eq m c) fun i => by
    have h0 : (i 0 : Nat) < 16384 := (i 0).isLt
    have h1 : (i 1 : Nat) < 1024 := (i 1).isLt
    have hN : cfg0.N = 64 := N_0
    refine ⟨⟨(i 0 : Nat) / 256, by omega⟩, by rw [flush0_5], ?_⟩
    generalize ht : (⟨(i 0 : Nat) / 256, _⟩ : Fin cfg0.N) = t
    have htv : t.val = (i 0 : Nat) / 256 := by rw [← ht]
    have h := (win_idx t).2.2.2.2.2.1
    show i ∈ ((View.whole main_v13_2).slice (win0_5.rect t)).set
    rw [View.set_slice_whole, Rect.mem_set_unit]
    intro a
    match a with
    | ⟨0, _⟩ => show win0_5.index t 0 * 256 ≤ (i 0 : Nat) ∧ (i 0 : Nat) < win0_5.index t 0 * 256 + 256
                rw [h.1]; omega
    | ⟨1, _⟩ => show win0_5.index t 1 * 1024 ≤ (i 1 : Nat) ∧ (i 1 : Nat) < win0_5.index t 1 * 1024 + 1024
                rw [h.2]; omega

/-- Result `qkv`: 3072 columns of the projection from column 3600. -/
def G6 (c : Dev nD) : S16384x3072.Idx → EReal := fun i => proj (ax m c) (an m c) (aw m c) (i 0) ⟨3600 + (i 1).val, by have h : (i 1).val < 3072 := (i 1).isLt; omega⟩

theorem sum6 (c : Dev nD) (R : Fin 16384) (n : Fin 3072) :
    (∑ k : Fin 1024, unorm (ax m c R) (an m c) k * wall m c k ⟨3584 + n.val, by omega⟩ : EReal) = proj (ax m c) (an m c) (aw m c) R ⟨3600 + n.val, by omega⟩ := by
  unfold proj
  refine Finset.sum_congr rfl fun k _ => ?_
  congr 1
  unfold wall
  rw [dif_neg (by show ¬ 3584 + n.val < 2560; omega), dif_pos (by show 3584 + n.val < 6656; omega)]
  congr 1; apply Fin.ext; show 3584 + n.val + 16 = 3600 + n.val; omega

theorem flushed6_eq (c : Dev nD) (t : Fin cfg0.N) (hf : (cfg0.win 6).flush t = true) :
    (dats m 0 c).flushed 6 t = ((cfg0.win 6).blk t).view.read (Elt Ideal) (G6 m c : Buf (Elt Ideal) ((c : Thread nD τ).loc main_v13_3)) := by
  rw [Value.flushed6]
  funext j
  have h := (win_idx t).2.2.2.2.2.2.1
  obtain ⟨r, n, rfl⟩ : ∃ (r : Fin 256) (n : Fin 3072), j = ix2 r n := ⟨j 0, j 1, ValueIdx.eq_ix2 j⟩
  rw [View.read_apply]
  have e : (((cfg0.win 6).blk t).view.emb (ix2 r n) : S16384x3072.Idx) = ix2 (row t r) n := by
    funext a
    apply Fin.ext
    match a with
    | ⟨0, _⟩ => show win0_6.index t 0 * 256 + 1 * r.val = 256 * t.val + r.val; rw [h.1]; omega
    | ⟨1, _⟩ => show win0_6.index t 1 * 3072 + 1 * n.val = n.val; rw [h.2]; omega
  show out0_6 (F := Ideal) _ _ _ (ix2 r n) = G6 m c _
  rw [e, out6_read]
  simp only [blk_x, blk_n, blk_w]
  exact sum6 m c (row t r) n

theorem value6 (c : Dev nD) : (dats m 0 c).arrAt 6 cfg0.N = (G6 m c : Buf (Elt Ideal) ((c : Thread nD τ).loc main_v13_3)) :=
  (dats m 0 c).arrAt_eq_of_cover 6 _ (flushed6_eq m c) fun i => by
    have h0 : (i 0 : Nat) < 16384 := (i 0).isLt
    have h1 : (i 1 : Nat) < 3072 := (i 1).isLt
    have hN : cfg0.N = 64 := N_0
    refine ⟨⟨(i 0 : Nat) / 256, by omega⟩, by rw [flush0_6], ?_⟩
    generalize ht : (⟨(i 0 : Nat) / 256, _⟩ : Fin cfg0.N) = t
    have htv : t.val = (i 0 : Nat) / 256 := by rw [← ht]
    have h := (win_idx t).2.2.2.2.2.2.1
    show i ∈ ((View.whole main_v13_3).slice (win0_6.rect t)).set
    rw [View.set_slice_whole, Rect.mem_set_unit]
    intro a
    match a with
    | ⟨0, _⟩ => show win0_6.index t 0 * 256 ≤ (i 0 : Nat) ∧ (i 0 : Nat) < win0_6.index t 0 * 256 + 256
                rw [h.1]; omega
    | ⟨1, _⟩ => show win0_6.index t 1 * 3072 ≤ (i 1 : Nat) ∧ (i 1 : Nat) < win0_6.index t 1 * 3072 + 3072
                rw [h.2]; omega

/-- Result `small`: 32 columns of the projection, then zeros. -/
def G7 (c : Dev nD) : S16384x128.Idx → EReal := fun i => small (ax m c) (an m c) (aw m c) (i 0) (i 1)

theorem sum7 (c : Dev nD) (R : Fin 16384) (n : Fin 128) :
    (∑ k : Fin 1024, unorm (ax m c R) (an m c) k * wall m c k ⟨6656 + n.val, by omega⟩ : EReal) = small (ax m c) (an m c) (aw m c) R n := by
  unfold small
  split_ifs with h1 h2
  · refine Finset.sum_congr rfl fun k _ => ?_
    congr 1
    unfold wall
    rw [dif_neg (by show ¬ 6656 + n.val < 2560; omega), dif_neg (by show ¬ 6656 + n.val < 6656; omega), dif_pos (by show 6656 + n.val < 6672; omega)]
    exact congrArg (aw m c k) (Fin.ext (by show 6656 + n.val - 4096 = 2560 + n.val; omega))
  · refine Finset.sum_congr rfl fun k _ => ?_
    congr 1
    unfold wall
    rw [dif_neg (by show ¬ 6656 + n.val < 2560; omega), dif_neg (by show ¬ 6656 + n.val < 6656; omega), dif_neg (by show ¬ 6656 + n.val < 6672; omega), dif_pos (by show 6656 + n.val < 6688; omega)]
  · refine Finset.sum_eq_zero fun k _ => ?_
    unfold wall
    rw [dif_neg (by show ¬ 6656 + n.val < 2560; omega), dif_neg (by show ¬ 6656 + n.val < 6656; omega), dif_neg (by show ¬ 6656 + n.val < 6672; omega), dif_neg (by show ¬ 6656 + n.val < 6688; omega), mul_zero]

theorem flushed7_eq (c : Dev nD) (t : Fin cfg0.N) (hf : (cfg0.win 7).flush t = true) :
    (dats m 0 c).flushed 7 t = ((cfg0.win 7).blk t).view.read (Elt Ideal) (G7 m c : Buf (Elt Ideal) ((c : Thread nD τ).loc main_v13_4)) := by
  rw [Value.flushed7]
  funext j
  have h := (win_idx t).2.2.2.2.2.2.2
  obtain ⟨r, n, rfl⟩ : ∃ (r : Fin 256) (n : Fin 128), j = ix2 r n := ⟨j 0, j 1, ValueIdx.eq_ix2 j⟩
  rw [View.read_apply]
  have e : (((cfg0.win 7).blk t).view.emb (ix2 r n) : S16384x128.Idx) = ix2 (row t r) n := by
    funext a
    apply Fin.ext
    match a with
    | ⟨0, _⟩ => show win0_7.index t 0 * 256 + 1 * r.val = 256 * t.val + r.val; rw [h.1]; omega
    | ⟨1, _⟩ => show win0_7.index t 1 * 128 + 1 * n.val = n.val; rw [h.2]; omega
  show out0_7 (F := Ideal) _ _ _ (ix2 r n) = G7 m c _
  rw [e, out7_read]
  simp only [blk_x, blk_n, blk_w]
  exact sum7 m c (row t r) n

theorem value7 (c : Dev nD) : (dats m 0 c).arrAt 7 cfg0.N = (G7 m c : Buf (Elt Ideal) ((c : Thread nD τ).loc main_v13_4)) :=
  (dats m 0 c).arrAt_eq_of_cover 7 _ (flushed7_eq m c) fun i => by
    have h0 : (i 0 : Nat) < 16384 := (i 0).isLt
    have h1 : (i 1 : Nat) < 128 := (i 1).isLt
    have hN : cfg0.N = 64 := N_0
    refine ⟨⟨(i 0 : Nat) / 256, by omega⟩, by rw [flush0_7], ?_⟩
    generalize ht : (⟨(i 0 : Nat) / 256, _⟩ : Fin cfg0.N) = t
    have htv : t.val = (i 0 : Nat) / 256 := by rw [← ht]
    have h := (win_idx t).2.2.2.2.2.2.2
    show i ∈ ((View.whole main_v13_4).slice (win0_7.rect t)).set
    rw [View.set_slice_whole, Rect.mem_set_unit]
    intro a
    match a with
    | ⟨0, _⟩ => show win0_7.index t 0 * 256 ≤ (i 0 : Nat) ∧ (i 0 : Nat) < win0_7.index t 0 * 256 + 256
                rw [h.1]; omega
    | ⟨1, _⟩ => show win0_7.index t 1 * 128 ≤ (i 1 : Nat) ∧ (i 1 : Nat) < win0_7.index t 1 * 128 + 128
                rw [h.2]; omega

end Cert.InKernel

namespace Cert.InRef

open Cert.InprojRefIdeal Cert.InprojRefIdeal.Gen Idealize.ShloMosaic Cert.OutSpec Cert.InSpec

variable (x0 : Arr S2x8192x1024) (x1 : Arr S1024) (x2 : Arr S1024x6688)

/-- The arguments as functions of plain coordinates. -/
abbrev rx (R : Fin 16384) (n : Fin 1024) : EReal := x0 (ix3 ⟨R.val / 8192, by omega⟩ ⟨R.val % 8192, by omega⟩ n)
abbrev rn (n : Fin 1024) : EReal := x1 (ix1 n)
abbrev rw' (k : Fin 1024) (j : Fin 6688) : EReal := x2 (ix2 k j)

/-- The reference's normalized row. -/
theorem norm_read (R : Fin 16384) (k : Fin 1024) :
    Read.val_main_v12 (F := Ideal) x0 x1 (ix3 ⟨R.val / 8192, by omega⟩ ⟨R.val % 8192, by omega⟩ k) = unorm (rx x0 R) (rn x1) k := by
  unfold Read.val_main_v12 Read.val_main_v11 Read.val_main_v10 Read.val_main_v9 Read.val_main_v8 Read.val_main_v7 Read.val_main_v6 Read.val_main_v5 Read.val_main_v4
    Read.val_main_v3 Read.val_main_v2 Read.val_main_v1 Read.val_main_v0 Read.val_main_cst Read.val_main_cst_0 Read.val_main_cst_1
  pointwise [unorm, scale]

/-- The reference's product. -/
theorem proj_read (R : Fin 16384) (j : Fin 6688) :
    Read.val_main_v13 (F := Ideal) x0 x1 x2 (ix3 ⟨R.val / 8192, by omega⟩ ⟨R.val % 8192, by omega⟩ j) = proj (rx x0) (rn x1) (rw' x2) R j := by
  rw [Read.val_main_v13_apply]
  unfold proj
  refine Finset.sum_congr rfl fun k _ => ?_
  have e1 : Read.lidx_main_v13 (ix3 ⟨R.val / 8192, by omega⟩ ⟨R.val % 8192, by omega⟩ j) k = ix3 ⟨R.val / 8192, by omega⟩ ⟨R.val % 8192, by omega⟩ k := by
    funext a; match a with | ⟨0, _⟩ => rfl | ⟨1, _⟩ => rfl | ⟨2, _⟩ => rfl
  have e2 : Read.ridx_main_v13 (ix3 ⟨R.val / 8192, by omega⟩ ⟨R.val % 8192, by omega⟩ j) k = ix2 k j := by
    funext a; match a with | ⟨0, _⟩ => rfl | ⟨1, _⟩ => rfl
  rw [e1, e2, norm_read]

theorem value3 (R : Fin 16384) (n : Fin 1024) :
    Read.val_main_v23 (F := Ideal) x0 x1 x2 (ix2 R n) = proj (rx x0) (rn x1) (rw' x2) R ⟨0 + n.val, by omega⟩ := by
  unfold Read.val_main_v23 Read.val_main_v14
  pointwise [proj_read]

theorem value4 (R : Fin 16384) (n : Fin 1536) :
    Read.val_main_v24 (F := Ideal) x0 x1 x2 (ix2 R n) = proj (rx x0) (rn x1) (rw' x2) R ⟨1024 + n.val, by omega⟩ := by
  unfold Read.val_main_v24 Read.val_main_v15
  pointwise [proj_read]

theorem value5 (R : Fin 16384) (n : Fin 1024) :
    Read.val_main_v25 (F := Ideal) x0 x1 x2 (ix2 R n) = proj (rx x0) (rn x1) (rw' x2) R ⟨2576 + n.val, by omega⟩ := by
  unfold Read.val_main_v25 Read.val_main_v17
  pointwise [proj_read]

theorem value6 (R : Fin 16384) (n : Fin 3072) :
    Read.val_main_v26 (F := Ideal) x0 x1 x2 (ix2 R n) = proj (rx x0) (rn x1) (rw' x2) R ⟨3600 + n.val, by omega⟩ := by
  unfold Read.val_main_v26 Read.val_main_v18
  pointwise [proj_read]

theorem value7 (R : Fin 16384) (n : Fin 128) :
    Read.val_main_v27 (F := Ideal) x0 x1 x2 (ix2 R n) = small (rx x0) (rn x1) (rw' x2) R n := by
  unfold Read.val_main_v27 Read.val_main_v22 Read.val_main_v16 Read.val_main_v19 Read.val_main_v20 Read.val_main_v21 Read.val_main_cst_2 small
  pointwise [proj_read]
  by_cases h1 : n.val < 16
  · rw [dif_pos h1, dif_pos h1]
  rw [dif_neg h1, dif_neg h1]
  by_cases h2 : n.val < 24
  · rw [dif_pos (by omega), dif_pos (by omega)]
    exact congrArg _ (Fin.ext (by show 6672 + (n.val - 16) = 6656 + n.val; omega))
  rw [dif_neg (by omega)]
  by_cases h3 : n.val < 32
  · rw [dif_pos (by omega), dif_pos h3]
    exact congrArg _ (Fin.ext (by show 6680 + (n.val - 16 - 8) = 6656 + n.val; omega))
  rw [dif_neg (by omega), dif_neg h3]

end Cert.InRef

end
-- ==== Proof.InClaim.lean ====
/-
  The three frames and the value claim of the input projection: the five arrays, from the two readings of InValue.lean.
-/
module

public import proofs.«01_k».proof.Defs
public import proofs.«01_k».proof.Proof.Gen.Inproj.Frame
public import proofs.«01_k».proof.Proof.InValue

@[expose] public section

set_option maxRecDepth 16384

noncomputable section

namespace Cert.InClaim

open Idealize.ShloMosaic Idealize.ShloMosaic.TcCoe Idealize.SL.Sem Cert.InSpec

theorem frame_P : Cert.quiescent_Inproj (hInproj := Cert.Inproj.Gen.facts) := fun m ρ _ => Cert.Inproj.Gen.frame m ρ
theorem frame_PI : Cert.quiescent_InprojIdeal (hInprojIdeal := Cert.InprojIdeal.Gen.facts) := fun m ρ _ => Cert.InprojIdeal.Gen.frame m ρ
theorem frame_RI : Cert.quiescent_InprojRefIdeal (hInprojRefIdeal := Cert.InprojRefIdeal.Gen.facts) := fun m ρ _ =>
  (θ_run _ _ _).mono (fun r h => ⟨fun c => (h c).2.2.2.2.2, sem_eq_zero_of_no_sems (by decide) r.2⟩) (Cert.InprojRefIdeal.Value.run (F := Ideal) m ρ)

/-- Both programs leave the same five arrays: the kernel's run at `G3` to `G7`, the reference's terms read at every index as these. -/
theorem value : Cert.algebraic_InprojIdeal_InprojRefIdeal (hInprojIdeal := Cert.InprojIdeal.Gen.facts) (hInprojRefIdeal := Cert.InprojRefIdeal.Gen.facts) := by
  intro m g m' g' _ hargs
  refine ⟨fun c => InKernel.G3 m c, fun c => InKernel.G4 m c, fun c => InKernel.G5 m c, fun c => InKernel.G6 m c, fun c => InKernel.G7 m c, ?_, ?_⟩
  · exact (θ_run _ _ _).mono (fun r h c => by
      obtain ⟨e3, e4, e5, e6, e7, k⟩ := h c
      exact ⟨e3.trans (InKernel.value3 m c), e4.trans (InKernel.value4 m c), e5.trans (InKernel.value5 m c), e6.trans (InKernel.value6 m c), e7.trans (InKernel.value7 m c), k⟩) (Cert.InprojIdeal.Value.run_blocks m g)
  · refine (θ_run _ _ _).mono (fun r h c => ?_) (Cert.InprojRefIdeal.Value.run (F := Ideal) m' g')
    obtain ⟨e3, e4, e5, e6, e7, k⟩ := h c
    obtain ⟨h0, h1, h2⟩ := hargs c
    refine ⟨e3.trans ?_, e4.trans ?_, e5.trans ?_, e6.trans ?_, e7.trans ?_, k⟩
    · refine (Cert.InprojRefIdeal.Read.val_main_v23_eq (F := Ideal) _ _ _).trans ?_
      funext i
      obtain ⟨R, n, rfl⟩ : ∃ (R : Fin 16384) (n : Fin 1024), i = ix2 R n := ⟨i 0, i 1, ValueIdx.eq_ix2 i⟩
      rw [h0, h1, h2]
      exact InRef.value3 _ _ _ R n
    · refine (Cert.InprojRefIdeal.Read.val_main_v24_eq (F := Ideal) _ _ _).trans ?_
      funext i
      obtain ⟨R, n, rfl⟩ : ∃ (R : Fin 16384) (n : Fin 1536), i = ix2 R n := ⟨i 0, i 1, ValueIdx.eq_ix2 i⟩
      rw [h0, h1, h2]
      exact InRef.value4 _ _ _ R n
    · refine (Cert.InprojRefIdeal.Read.val_main_v25_eq (F := Ideal) _ _ _).trans ?_
      funext i
      obtain ⟨R, n, rfl⟩ : ∃ (R : Fin 16384) (n : Fin 1024), i = ix2 R n := ⟨i 0, i 1, ValueIdx.eq_ix2 i⟩
      rw [h0, h1, h2]
      exact InRef.value5 _ _ _ R n
    · refine (Cert.InprojRefIdeal.Read.val_main_v26_eq (F := Ideal) _ _ _).trans ?_
      funext i
      obtain ⟨R, n, rfl⟩ : ∃ (R : Fin 16384) (n : Fin 3072), i = ix2 R n := ⟨i 0, i 1, ValueIdx.eq_ix2 i⟩
      rw [h0, h1, h2]
      exact InRef.value6 _ _ _ R n
    · refine (Cert.InprojRefIdeal.Read.val_main_v27_eq (F := Ideal) _ _ _).trans ?_
      funext i
      obtain ⟨R, n, rfl⟩ : ∃ (R : Fin 16384) (n : Fin 128), i = ix2 R n := ⟨i 0, i 1, ValueIdx.eq_ix2 i⟩
      rw [h0, h1, h2]
      exact InRef.value7 _ _ _ R n

end Cert.InClaim

end
-- ==== Proof.OutClaim.lean ====
/-
  The three frames and the value claim of the output projection, from the two readings of OutValue.lean.
-/
module

public import proofs.«01_k».proof.Defs
public import proofs.«01_k».proof.Proof.Gen.Outproj.Frame
public import proofs.«01_k».proof.Proof.OutValue

@[expose] public section

set_option maxRecDepth 16384

noncomputable section

namespace Cert.OutClaim

open Idealize.ShloMosaic Idealize.ShloMosaic.TcCoe Idealize.SL.Sem Cert.OutSpec

theorem frame_P : Cert.quiescent_Outproj (hOutproj := Cert.Outproj.Gen.facts) := fun m ρ _ => Cert.Outproj.Gen.frame m ρ
theorem frame_PI : Cert.quiescent_OutprojIdeal (hOutprojIdeal := Cert.OutprojIdeal.Gen.facts) := fun m ρ _ => Cert.OutprojIdeal.Gen.frame m ρ
theorem frame_RI : Cert.quiescent_OutprojRefIdeal (hOutprojRefIdeal := Cert.OutprojRefIdeal.Gen.facts) := fun m ρ _ =>
  (θ_run _ _ _).mono (fun r h => ⟨fun c => (h c).2, sem_eq_zero_of_no_sems (by decide) r.2⟩) (Cert.OutprojRefIdeal.Value.run (F := Ideal) m ρ)

/-- Both programs leave one array: the kernel's run at `G`, the reference's term read at every index as `G`. -/
theorem value : Cert.algebraic_OutprojIdeal_OutprojRefIdeal (hOutprojIdeal := Cert.OutprojIdeal.Gen.facts) (hOutprojRefIdeal := Cert.OutprojRefIdeal.Gen.facts) := by
  intro m g m' g' _ hargs
  refine ⟨fun c => OutKernel.G m c, ?_, ?_⟩
  · exact (θ_run _ _ _).mono (fun r h c => ⟨((h c).1).trans (OutKernel.kernel_value m c), (h c).2⟩) (Cert.OutprojIdeal.Value.run_blocks m g)
  · refine (θ_run _ _ _).mono (fun r h c => ⟨((h c).1).trans ?_, (h c).2⟩) (Cert.OutprojRefIdeal.Value.run (F := Ideal) m' g')
    refine (Cert.OutprojRefIdeal.Read.val_main_v18_eq (F := Ideal) _ _ _ _ _).trans ?_
    funext i
    obtain ⟨R, n, rfl⟩ : ∃ (R : Fin 16384) (n : Fin 1024), i = ix2 R n := ⟨i 0, i 1, ValueIdx.eq_ix2 i⟩
    obtain ⟨h0, h1, h2, h3, h4⟩ := hargs c
    rw [h0, h1, h2, h3, h4]
    exact OutRef.ref_value _ _ _ _ _ R n

end Cert.OutClaim

end
-- ==== Proof.lean ====
module

public import proofs.«01_k».proof.Defs
public import proofs.«01_k».proof.Proof.Gen.Ssd
public import proofs.«01_k».proof.Proof.Gen.Ssd.Skeleton
public import proofs.«01_k».proof.Proof.Gen.Ssd.Launch
public import proofs.«01_k».proof.Proof.Gen.Ssd.Points
public import proofs.«01_k».proof.Proof.Gen.Ssd.Frame
public import proofs.«01_k».proof.Proof.Gen.SsdIdeal
public import proofs.«01_k».proof.Proof.Gen.SsdIdeal.Skeleton
public import proofs.«01_k».proof.Proof.Gen.SsdIdeal.Launch
public import proofs.«01_k».proof.Proof.Gen.SsdIdeal.Points
public import proofs.«01_k».proof.Proof.Gen.SsdIdeal.Frame
public import proofs.«01_k».proof.Proof.Gen.SsdRefIdeal
public import proofs.«01_k».proof.Proof.Gen.SsdRefIdeal.Run
public import proofs.«01_k».proof.Proof.Gen.SsdIdeal.Value
public import proofs.«01_k».proof.Proof.Gen.Gdn
public import proofs.«01_k».proof.Proof.Gen.Gdn.Skeleton
public import proofs.«01_k».proof.Proof.Gen.Gdn.Launch
public import proofs.«01_k».proof.Proof.Gen.Gdn.Points
public import proofs.«01_k».proof.Proof.Gen.Gdn.Frame
public import proofs.«01_k».proof.Proof.Gen.GdnIdeal
public import proofs.«01_k».proof.Proof.Gen.GdnIdeal.Skeleton
public import proofs.«01_k».proof.Proof.Gen.GdnIdeal.Launch
public import proofs.«01_k».proof.Proof.Gen.GdnIdeal.Points
public import proofs.«01_k».proof.Proof.Gen.GdnIdeal.Frame
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.InprojRefIdeal.Run
public import proofs.«01_k».proof.Proof.Gen.InprojRefIdeal.Read
public import proofs.«01_k».proof.Proof.Gen.InprojIdeal.Value
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Frame
public import proofs.«01_k».proof.Proof.Gen.OutprojRefIdeal
public import proofs.«01_k».proof.Proof.Gen.OutprojRefIdeal.Run
public import proofs.«01_k».proof.Proof.Gen.OutprojRefIdeal.Read
public import proofs.«01_k».proof.Proof.Gen.OutprojIdeal.Value
public import proofs.«01_k».proof.Proof.SsdFrame
public import proofs.«01_k».proof.Proof.SsdClaim
public import proofs.«01_k».proof.Proof.GdnFrame
public import proofs.«01_k».proof.Proof.InClaim
public import proofs.«01_k».proof.Proof.OutClaim
public import Idealize.ShloMosaic.Adequacy
public import Idealize.ShloMosaic.Init

@[expose] public section

noncomputable section

namespace Cert.Proof

open Idealize.ShloMosaic Idealize.SL.Sem Cert.Ssd

theorem claim : Cert.Claim :=
  ⟨Cert.Ssd.Gen.facts, Cert.SsdIdeal.Gen.facts, Cert.SsdRefIdeal.Gen.facts, Cert.Inproj.Gen.facts, Cert.InprojIdeal.Gen.facts, Cert.InprojRefIdeal.Gen.facts, Cert.Outproj.Gen.facts, Cert.OutprojIdeal.Gen.facts, Cert.OutprojRefIdeal.Gen.facts, Cert.Gdn.Gen.facts, Cert.GdnIdeal.Gen.facts,
    SsdClaim.frame_P, SsdClaim.frame_PI, SsdClaim.frame_RI,
    InClaim.frame_P, InClaim.frame_PI, InClaim.frame_RI,
    OutClaim.frame_P, OutClaim.frame_PI, OutClaim.frame_RI,
    GdnClaim.frame_P, GdnClaim.frame_PI,
    trivial, SsdClaim.value, trivial, InClaim.value, trivial, OutClaim.value, trivial⟩

end Cert.Proof

end
